-- ==== Defs.lean ====
def Pre_Expert [hPre_experts_named : Cert.Pre_experts_named.Facts] (m : (ℓ : Loc Cert.Expert.nD Cert.Expert.τ Cert.Expert.sig) → Buf (Elt Bits) ℓ) : Prop :=
  ∀ c : Dev Cert.Expert.nD,
    (Cert.Pre_experts_named.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5))) = (fun _ => 1#1)

def Pre_ExpertIdeal [hPre_experts_named : Cert.Pre_experts_named.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_experts_named.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5))) = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_experts_named [hPre_experts_named : Cert.Pre_experts_named.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_experts_named.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InRest (m : (ℓ : Loc Cert.InRest.nD Cert.InRest.τ Cert.InRest.sig) → Buf (Elt Bits) ℓ) : Prop :=
  True

def Pre_InRestIdeal (m : (ℓ : Loc Cert.InRestIdeal.nD Cert.InRestIdeal.τ Cert.InRestIdeal.sig) → Buf (Elt Ideal) ℓ) : Prop :=
  True

def Pre_InRestRefIdeal (m : (ℓ : Loc Cert.InRestRefIdeal.nD Cert.InRestRefIdeal.τ Cert.InRestRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))).2.2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.2.1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))).2.2.2 = (fun _ => 1#1)

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).1 = (fun _ => 1#1)
    ∧ (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.1 = (fun _ => 1#1)
    ∧ (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.2.1 = (fun _ => 1#1)
    ∧ (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.2.2.1 = (fun _ => 1#1)
    ∧ (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.2.2.2.1 = (fun _ => 1#1)
    ∧ (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.2.2.2.2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_finite [hPre_router_finite : Cert.Pre_router_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))).1 = (fun _ => 1#1)
    ∧ (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))).2.1 = (fun _ => 1#1)
    ∧ (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))).2.2.1 = (fun _ => 1#1)
    ∧ (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))).2.2.2.1 = (fun _ => 1#1)
    ∧ (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))).2.2.2.2.1 = (fun _ => 1#1)
    ∧ (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))).2.2.2.2.2 = (fun _ => 1#1)

def Pre_Positions (m : (ℓ : Loc Cert.Positions.nD Cert.Positions.τ Cert.Positions.sig) → Buf (Elt Bits) ℓ) : Prop :=
  True

def Pre_PositionsIdeal (m : (ℓ : Loc Cert.PositionsIdeal.nD Cert.PositionsIdeal.τ Cert.PositionsIdeal.sig) → Buf (Elt Ideal) ℓ) : Prop :=
  True

def Pre_PositionsRefIdeal (m : (ℓ : Loc Cert.PositionsRefIdeal.nD Cert.PositionsRefIdeal.τ Cert.PositionsRefIdeal.sig) → Buf (Elt Ideal) ℓ) : Prop :=
  True

def Pre_Dilated (m : (ℓ : Loc Cert.Dilated.nD Cert.Dilated.τ Cert.Dilated.sig) → Buf (Elt Bits) ℓ) : Prop :=
  True

def Pre_DilatedIdeal (m : (ℓ : Loc Cert.DilatedIdeal.nD Cert.DilatedIdeal.τ Cert.DilatedIdeal.sig) → Buf (Elt Ideal) ℓ) : Prop :=
  True

def Pre_DilatedIdeal_dilated_finite [hPre_dilated_finite : Cert.Pre_dilated_finite.Facts] (m : (ℓ : Loc Cert.DilatedIdeal.nD Cert.DilatedIdeal.τ Cert.DilatedIdeal.sig) → Buf (Elt Ideal) ℓ) : Prop :=
  ∀ c : Dev Cert.DilatedIdeal.nD,
    (Cert.Pre_dilated_finite.fn (F := Ideal) (m ((c.tc : Thread Cert.DilatedIdeal.nD Cert.DilatedIdeal.τ).loc Cert.DilatedIdeal.main_arg0)) (m ((c.tc : Thread Cert.DilatedIdeal.nD Cert.DilatedIdeal.τ).loc Cert.DilatedIdeal.main_arg1))).1 = (fun _ => 1#1)
    ∧ (Cert.Pre_dilated_finite.fn (F := Ideal) (m ((c.tc : Thread Cert.DilatedIdeal.nD Cert.DilatedIdeal.τ).loc Cert.DilatedIdeal.main_arg0)) (m ((c.tc : Thread Cert.DilatedIdeal.nD Cert.DilatedIdeal.τ).loc Cert.DilatedIdeal.main_arg1))).2 = (fun _ => 1#1)

def Pre_DilatedRefIdeal (m : (ℓ : Loc Cert.DilatedRefIdeal.nD Cert.DilatedRefIdeal.τ Cert.DilatedRefIdeal.sig) → Buf (Elt Ideal) ℓ) : Prop :=
  True

def Pre_DilatedRefIdeal_dilated_finite [hPre_dilated_finite : Cert.Pre_dilated_finite.Facts] (m : (ℓ : Loc Cert.DilatedRefIdeal.nD Cert.DilatedRefIdeal.τ Cert.DilatedRefIdeal.sig) → Buf (Elt Ideal) ℓ) : Prop :=
  ∀ c : Dev Cert.DilatedRefIdeal.nD,
    (Cert.Pre_dilated_finite.fn (F := Ideal) (m ((c.tc : Thread Cert.DilatedRefIdeal.nD Cert.DilatedRefIdeal.τ).loc Cert.DilatedRefIdeal.main_arg0)) (m ((c.tc : Thread Cert.DilatedRefIdeal.nD Cert.DilatedRefIdeal.τ).loc Cert.DilatedRefIdeal.main_arg1))).1 = (fun _ => 1#1)
    ∧ (Cert.Pre_dilated_finite.fn (F := Ideal) (m ((c.tc : Thread Cert.DilatedRefIdeal.nD Cert.DilatedRefIdeal.τ).loc Cert.DilatedRefIdeal.main_arg0)) (m ((c.tc : Thread Cert.DilatedRefIdeal.nD Cert.DilatedRefIdeal.τ).loc Cert.DilatedRefIdeal.main_arg1))).2 = (fun _ => 1#1)

def quiescent_Expert [hExpert : Cert.Expert.Facts] [hPre_experts_named : Cert.Pre_experts_named.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5))
      ∧ r.2.sem = fun _ => 0)

def quiescent_ExpertIdeal [hExpertIdeal : Cert.ExpertIdeal.Facts] [hPre_experts_named : Cert.Pre_experts_named.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5))
      ∧ r.2.sem = fun _ => 0)

def quiescent_ExpertRefIdeal_pre_experts_named [hExpertRefIdeal : Cert.ExpertRefIdeal.Facts] [hPre_experts_named : Cert.Pre_experts_named.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_experts_named m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InRest [hInRest : Cert.InRest.Facts] : Prop :=
  ∀ (m : (ℓ : Loc Cert.InRest.nD Cert.InRest.τ Cert.InRest.sig) → Buf (Elt Bits) ℓ) (g : Dev Cert.InRest.nD → PrngReg), Pre_InRest m →
    θ_run (Cert.InRest.defs (F := Bits)) (onTc (τ := Cert.InRest.τ) (Cert.InRest.main (F := Bits))) ⟨m, fun _ => 0, g⟩ (fun r => (∀ c : Dev Cert.InRest.nD,
      r.2.mem ((c.tc : Thread Cert.InRest.nD Cert.InRest.τ).loc Cert.InRest.main_arg0) = m ((c.tc : Thread Cert.InRest.nD Cert.InRest.τ).loc Cert.InRest.main_arg0)
      ∧ r.2.mem ((c.tc : Thread Cert.InRest.nD Cert.InRest.τ).loc Cert.InRest.main_arg1) = m ((c.tc : Thread Cert.InRest.nD Cert.InRest.τ).loc Cert.InRest.main_arg1)
      ∧ r.2.mem ((c.tc : Thread Cert.InRest.nD Cert.InRest.τ).loc Cert.InRest.main_arg2) = m ((c.tc : Thread Cert.InRest.nD Cert.InRest.τ).loc Cert.InRest.main_arg2)
      ∧ r.2.mem ((c.tc : Thread Cert.InRest.nD Cert.InRest.τ).loc Cert.InRest.main_arg3) = m ((c.tc : Thread Cert.InRest.nD Cert.InRest.τ).loc Cert.InRest.main_arg3))
      ∧ r.2.sem = fun _ => 0)

def quiescent_InRestIdeal [hInRestIdeal : Cert.InRestIdeal.Facts] : Prop :=
  ∀ (m : (ℓ : Loc Cert.InRestIdeal.nD Cert.InRestIdeal.τ Cert.InRestIdeal.sig) → Buf (Elt Ideal) ℓ) (g : Dev Cert.InRestIdeal.nD → PrngReg), Pre_InRestIdeal m →
    θ_run (Cert.InRestIdeal.defs (F := Ideal)) (onTc (τ := Cert.InRestIdeal.τ) (Cert.InRestIdeal.main (F := Ideal))) ⟨m, fun _ => 0, g⟩ (fun r => (∀ c : Dev Cert.InRestIdeal.nD,
      r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
      ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1)
      ∧ r.2.mem ((c.tc : Thread Cert.InRestIdeal.nD Cert.InRestIdeal.τ).loc Cert.InRestIdeal.main_arg2) = m ((c.tc : Thread Cert.InRestIdeal.nD Cert.InRestIdeal.τ).loc Cert.InRestIdeal.main_arg2)
      ∧ r.2.mem ((c.tc : Thread Cert.InRestIdeal.nD Cert.InRestIdeal.τ).loc Cert.InRestIdeal.main_arg3) = m ((c.tc : Thread Cert.InRestIdeal.nD Cert.InRestIdeal.τ).loc Cert.InRestIdeal.main_arg3))
      ∧ r.2.sem = fun _ => 0)

def quiescent_InRestRefIdeal [hInRestRefIdeal : Cert.InRestRefIdeal.Facts] : Prop :=
  ∀ (m : (ℓ : Loc Cert.InRestRefIdeal.nD Cert.InRestRefIdeal.τ Cert.InRestRefIdeal.sig) → Buf (Elt Ideal) ℓ) (g : Dev Cert.InRestRefIdeal.nD → PrngReg), Pre_InRestRefIdeal m →
    θ_run (Cert.InRestRefIdeal.defs (F := Ideal)) (onTc (τ := Cert.InRestRefIdeal.τ) (Cert.InRestRefIdeal.main (F := Ideal))) ⟨m, fun _ => 0, g⟩ (fun r => (∀ c : Dev Cert.InRestRefIdeal.nD,
      r.2.mem ((c.tc : Thread Cert.InRestRefIdeal.nD Cert.InRestRefIdeal.τ).loc Cert.InRestRefIdeal.main_arg0) = m ((c.tc : Thread Cert.InRestRefIdeal.nD Cert.InRestRefIdeal.τ).loc Cert.InRestRefIdeal.main_arg0)
      ∧ r.2.mem ((c.tc : Thread Cert.InRestRefIdeal.nD Cert.InRestRefIdeal.τ).loc Cert.InRestRefIdeal.main_arg1) = m ((c.tc : Thread Cert.InRestRefIdeal.nD Cert.InRestRefIdeal.τ).loc Cert.InRestRefIdeal.main_arg1)
      ∧ r.2.mem ((c.tc : Thread Cert.InRestRefIdeal.nD Cert.InRestRefIdeal.τ).loc Cert.InRestRefIdeal.main_arg2) = m ((c.tc : Thread Cert.InRestRefIdeal.nD Cert.InRestRefIdeal.τ).loc Cert.InRestRefIdeal.main_arg2)
      ∧ r.2.mem ((c.tc : Thread Cert.InRestRefIdeal.nD Cert.InRestRefIdeal.τ).loc Cert.InRestRefIdeal.main_arg3) = m ((c.tc : Thread Cert.InRestRefIdeal.nD Cert.InRestRefIdeal.τ).loc Cert.InRestRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_RouterRefIdeal_pre_router_finite [hRouterRefIdeal : Cert.RouterRefIdeal.Facts] [hPre_router_finite : Cert.Pre_router_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_Positions [hPositions : Cert.Positions.Facts] : Prop :=
  ∀ (m : (ℓ : Loc Cert.Positions.nD Cert.Positions.τ Cert.Positions.sig) → Buf (Elt Bits) ℓ) (g : Dev Cert.Positions.nD → PrngReg), Pre_Positions m →
    θ_run (Cert.Positions.defs (F := Bits)) (onTc (τ := Cert.Positions.τ) (Cert.Positions.main (F := Bits))) ⟨m, fun _ => 0, g⟩ (fun r => (∀ c : Dev Cert.Positions.nD,
      r.2.mem ((c.tc : Thread Cert.Positions.nD Cert.Positions.τ).loc Cert.Positions.main_arg0) = m ((c.tc : Thread Cert.Positions.nD Cert.Positions.τ).loc Cert.Positions.main_arg0)
      ∧ r.2.mem ((c.tc : Thread Cert.Positions.nD Cert.Positions.τ).loc Cert.Positions.main_arg1) = m ((c.tc : Thread Cert.Positions.nD Cert.Positions.τ).loc Cert.Positions.main_arg1))
      ∧ r.2.sem = fun _ => 0)

def quiescent_PositionsIdeal [hPositionsIdeal : Cert.PositionsIdeal.Facts] : Prop :=
  ∀ (m : (ℓ : Loc Cert.PositionsIdeal.nD Cert.PositionsIdeal.τ Cert.PositionsIdeal.sig) → Buf (Elt Ideal) ℓ) (g : Dev Cert.PositionsIdeal.nD → PrngReg), Pre_PositionsIdeal m →
    θ_run (Cert.PositionsIdeal.defs (F := Ideal)) (onTc (τ := Cert.PositionsIdeal.τ) (Cert.PositionsIdeal.main (F := Ideal))) ⟨m, fun _ => 0, g⟩ (fun r => (∀ c : Dev Cert.PositionsIdeal.nD,
      r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
      ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1))
      ∧ r.2.sem = fun _ => 0)

def quiescent_PositionsRefIdeal [hPositionsRefIdeal : Cert.PositionsRefIdeal.Facts] : Prop :=
  ∀ (m : (ℓ : Loc Cert.PositionsRefIdeal.nD Cert.PositionsRefIdeal.τ Cert.PositionsRefIdeal.sig) → Buf (Elt Ideal) ℓ) (g : Dev Cert.PositionsRefIdeal.nD → PrngReg), Pre_PositionsRefIdeal m →
    θ_run (Cert.PositionsRefIdeal.defs (F := Ideal)) (onTc (τ := Cert.PositionsRefIdeal.τ) (Cert.PositionsRefIdeal.main (F := Ideal))) ⟨m, fun _ => 0, g⟩ (fun r => (∀ c : Dev Cert.PositionsRefIdeal.nD,
      r.2.mem ((c.tc : Thread Cert.PositionsRefIdeal.nD Cert.PositionsRefIdeal.τ).loc Cert.PositionsRefIdeal.main_arg0) = m ((c.tc : Thread Cert.PositionsRefIdeal.nD Cert.PositionsRefIdeal.τ).loc Cert.PositionsRefIdeal.main_arg0)
      ∧ r.2.mem ((c.tc : Thread Cert.PositionsRefIdeal.nD Cert.PositionsRefIdeal.τ).loc Cert.PositionsRefIdeal.main_arg1) = m ((c.tc : Thread Cert.PositionsRefIdeal.nD Cert.PositionsRefIdeal.τ).loc Cert.PositionsRefIdeal.main_arg1))
      ∧ r.2.sem = fun _ => 0)

def quiescent_Dilated [hDilated : Cert.Dilated.Facts] : Prop :=
  ∀ (m : (ℓ : Loc Cert.Dilated.nD Cert.Dilated.τ Cert.Dilated.sig) → Buf (Elt Bits) ℓ) (g : Dev Cert.Dilated.nD → PrngReg), Pre_Dilated m →
    θ_run (Cert.Dilated.defs (F := Bits)) (onTc (τ := Cert.Dilated.τ) (Cert.Dilated.main (F := Bits))) ⟨m, fun _ => 0, g⟩ (fun r => (∀ c : Dev Cert.Dilated.nD,
      r.2.mem ((c.tc : Thread Cert.Dilated.nD Cert.Dilated.τ).loc Cert.Dilated.main_arg0) = m ((c.tc : Thread Cert.Dilated.nD Cert.Dilated.τ).loc Cert.Dilated.main_arg0)
      ∧ r.2.mem ((c.tc : Thread Cert.Dilated.nD Cert.Dilated.τ).loc Cert.Dilated.main_arg1) = m ((c.tc : Thread Cert.Dilated.nD Cert.Dilated.τ).loc Cert.Dilated.main_arg1))
      ∧ r.2.sem = fun _ => 0)

def quiescent_DilatedIdeal [hDilatedIdeal : Cert.DilatedIdeal.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ r.2.sem = fun _ => 0)

def quiescent_DilatedIdeal_pre_dilated_finite [hDilatedIdeal : Cert.DilatedIdeal.Facts] [hPre_dilated_finite : Cert.Pre_dilated_finite.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal_dilated_finite m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ r.2.sem = fun _ => 0)

def quiescent_DilatedRefIdeal [hDilatedRefIdeal : Cert.DilatedRefIdeal.Facts] : Prop :=
  ∀ (m : (ℓ : Loc Cert.DilatedRefIdeal.nD Cert.DilatedRefIdeal.τ Cert.DilatedRefIdeal.sig) → Buf (Elt Ideal) ℓ) (g : Dev Cert.DilatedRefIdeal.nD → PrngReg), Pre_DilatedRefIdeal m →
    θ_run (Cert.DilatedRefIdeal.defs (F := Ideal)) (onTc (τ := Cert.DilatedRefIdeal.τ) (Cert.DilatedRefIdeal.main (F := Ideal))) ⟨m, fun _ => 0, g⟩ (fun r => (∀ c : Dev Cert.DilatedRefIdeal.nD,
      r.2.mem ((c.tc : Thread Cert.DilatedRefIdeal.nD Cert.DilatedRefIdeal.τ).loc Cert.DilatedRefIdeal.main_arg0) = m ((c.tc : Thread Cert.DilatedRefIdeal.nD Cert.DilatedRefIdeal.τ).loc Cert.DilatedRefIdeal.main_arg0)
      ∧ r.2.mem ((c.tc : Thread Cert.DilatedRefIdeal.nD Cert.DilatedRefIdeal.τ).loc Cert.DilatedRefIdeal.main_arg1) = m ((c.tc : Thread Cert.DilatedRefIdeal.nD Cert.DilatedRefIdeal.τ).loc Cert.DilatedRefIdeal.main_arg1))
      ∧ r.2.sem = fun _ => 0)

def quiescent_DilatedRefIdeal_pre_dilated_finite [hDilatedRefIdeal : Cert.DilatedRefIdeal.Facts] [hPre_dilated_finite : Cert.Pre_dilated_finite.Facts] : Prop :=
  ∀ (m : (ℓ : Loc Cert.DilatedRefIdeal.nD Cert.DilatedRefIdeal.τ Cert.DilatedRefIdeal.sig) → Buf (Elt Ideal) ℓ) (g : Dev Cert.DilatedRefIdeal.nD → PrngReg), Pre_DilatedRefIdeal_dilated_finite m →
    θ_run (Cert.DilatedRefIdeal.defs (F := Ideal)) (onTc (τ := Cert.DilatedRefIdeal.τ) (Cert.DilatedRefIdeal.main (F := Ideal))) ⟨m, fun _ => 0, g⟩ (fun r => (∀ c : Dev Cert.DilatedRefIdeal.nD,
      r.2.mem ((c.tc : Thread Cert.DilatedRefIdeal.nD Cert.DilatedRefIdeal.τ).loc Cert.DilatedRefIdeal.main_arg0) = m ((c.tc : Thread Cert.DilatedRefIdeal.nD Cert.DilatedRefIdeal.τ).loc Cert.DilatedRefIdeal.main_arg0)
      ∧ r.2.mem ((c.tc : Thread Cert.DilatedRefIdeal.nD Cert.DilatedRefIdeal.τ).loc Cert.DilatedRefIdeal.main_arg1) = m ((c.tc : Thread Cert.DilatedRefIdeal.nD Cert.DilatedRefIdeal.τ).loc Cert.DilatedRefIdeal.main_arg1))
      ∧ r.2.sem = fun _ => 0)

def preserves_Expert_ExpertIdeal : Prop :=
  True

def algebraic_ExpertIdeal_ExpertRefIdeal [hExpertIdeal : Cert.ExpertIdeal.Facts] [hExpertRefIdeal : Cert.ExpertRefIdeal.Facts] [hPre_experts_named : Cert.Pre_experts_named.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v18) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InRest_InRestIdeal : Prop :=
  True

def algebraic_InRestIdeal_InRestRefIdeal [hInRestIdeal : Cert.InRestIdeal.Facts] [hInRestRefIdeal : Cert.InRestRefIdeal.Facts] : Prop :=
  ∀ (m : (ℓ : Loc Cert.InRestIdeal.nD Cert.InRestIdeal.τ Cert.InRestIdeal.sig) → Buf (Elt Ideal) ℓ) (g : Dev Cert.InRestIdeal.nD → PrngReg)
    (m' : (ℓ : Loc Cert.InRestRefIdeal.nD Cert.InRestRefIdeal.τ Cert.InRestRefIdeal.sig) → Buf (Elt Ideal) ℓ) (g' : Dev Cert.InRestRefIdeal.nD → PrngReg), Pre_InRestIdeal m →
    (∀ c : Dev Cert.InRestIdeal.nD,
      m' ((c.tc : Thread Cert.InRestRefIdeal.nD Cert.InRestRefIdeal.τ).loc Cert.InRestRefIdeal.main_arg0) = m ((c.tc : Thread Cert.InRestIdeal.nD Cert.InRestIdeal.τ).loc Cert.InRestIdeal.main_arg0)
      ∧ m' ((c.tc : Thread Cert.InRestRefIdeal.nD Cert.InRestRefIdeal.τ).loc Cert.InRestRefIdeal.main_arg1) = m ((c.tc : Thread Cert.InRestIdeal.nD Cert.InRestIdeal.τ).loc Cert.InRestIdeal.main_arg1)
      ∧ m' ((c.tc : Thread Cert.InRestRefIdeal.nD Cert.InRestRefIdeal.τ).loc Cert.InRestRefIdeal.main_arg2) = m ((c.tc : Thread Cert.InRestIdeal.nD Cert.InRestIdeal.τ).loc Cert.InRestIdeal.main_arg2)
      ∧ m' ((c.tc : Thread Cert.InRestRefIdeal.nD Cert.InRestRefIdeal.τ).loc Cert.InRestRefIdeal.main_arg3) = m ((c.tc : Thread Cert.InRestIdeal.nD Cert.InRestIdeal.τ).loc Cert.InRestIdeal.main_arg3)) →
    ∃ (v0 : (c : Dev Cert.InRestIdeal.nD) → Buf (Elt Ideal) ((c.tc : Thread Cert.InRestIdeal.nD Cert.InRestIdeal.τ).loc Cert.InRestIdeal.main_v4)),
      θ_run (Cert.InRestIdeal.defs (F := Ideal)) (onTc (τ := Cert.InRestIdeal.τ) (Cert.InRestIdeal.main (F := Ideal))) ⟨m, fun _ => 0, g⟩ (fun r => ∀ c : Dev Cert.InRestIdeal.nD,
          r.2.mem ((c.tc : Thread Cert.InRestIdeal.nD Cert.InRestIdeal.τ).loc Cert.InRestIdeal.main_v4) = v0 c
          ∧ r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
          ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1)
          ∧ r.2.mem ((c.tc : Thread Cert.InRestIdeal.nD Cert.InRestIdeal.τ).loc Cert.InRestIdeal.main_arg2) = m ((c.tc : Thread Cert.InRestIdeal.nD Cert.InRestIdeal.τ).loc Cert.InRestIdeal.main_arg2)
          ∧ r.2.mem ((c.tc : Thread Cert.InRestIdeal.nD Cert.InRestIdeal.τ).loc Cert.InRestIdeal.main_arg3) = m ((c.tc : Thread Cert.InRestIdeal.nD Cert.InRestIdeal.τ).loc Cert.InRestIdeal.main_arg3))
      ∧ θ_run (Cert.InRestRefIdeal.defs (F := Ideal)) (onTc (τ := Cert.InRestRefIdeal.τ) (Cert.InRestRefIdeal.main (F := Ideal))) ⟨m', fun _ => 0, g'⟩ (fun r => ∀ c : Dev Cert.InRestRefIdeal.nD,
          r.2.mem ((c.tc : Thread Cert.InRestRefIdeal.nD Cert.InRestRefIdeal.τ).loc Cert.InRestRefIdeal.main_v17) = v0 c
          ∧ r.2.mem ((c.tc : Thread Cert.InRestRefIdeal.nD Cert.InRestRefIdeal.τ).loc Cert.InRestRefIdeal.main_arg0) = m' ((c.tc : Thread Cert.InRestRefIdeal.nD Cert.InRestRefIdeal.τ).loc Cert.InRestRefIdeal.main_arg0)
          ∧ r.2.mem ((c.tc : Thread Cert.InRestRefIdeal.nD Cert.InRestRefIdeal.τ).loc Cert.InRestRefIdeal.main_arg1) = m' ((c.tc : Thread Cert.InRestRefIdeal.nD Cert.InRestRefIdeal.τ).loc Cert.InRestRefIdeal.main_arg1)
          ∧ r.2.mem ((c.tc : Thread Cert.InRestRefIdeal.nD Cert.InRestRefIdeal.τ).loc Cert.InRestRefIdeal.main_arg2) = m' ((c.tc : Thread Cert.InRestRefIdeal.nD Cert.InRestRefIdeal.τ).loc Cert.InRestRefIdeal.main_arg2)
          ∧ r.2.mem ((c.tc : Thread Cert.InRestRefIdeal.nD Cert.InRestRefIdeal.τ).loc Cert.InRestRefIdeal.main_arg3) = m' ((c.tc : Thread Cert.InRestRefIdeal.nD Cert.InRestRefIdeal.τ).loc Cert.InRestRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v38) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)) →
    ∃ (v0 : (c : Dev Cert.KvProjIdeal.nD) → Buf (Elt Ideal) ((c.tc : Thread Cert.KvProjIdeal.nD Cert.KvProjIdeal.τ).loc Cert.KvProjIdeal.main_v5)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v5) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v17) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v43) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Router_RouterIdeal : Prop :=
  True

def algebraic_RouterIdeal_RouterRefIdeal_pre_router_finite [hRouterIdeal : Cert.RouterIdeal.Facts] [hRouterRefIdeal : Cert.RouterRefIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v13_0)) (v1 : (c : Dev Cert.RouterIdeal.nD) → Buf (Elt Ideal) ((c.tc : Thread Cert.RouterIdeal.nD Cert.RouterIdeal.τ).loc Cert.RouterIdeal.main_v13_1)) (v2 : (c : Dev Cert.RouterIdeal.nD) → Buf (Elt Ideal) ((c.tc : Thread Cert.RouterIdeal.nD Cert.RouterIdeal.τ).loc Cert.RouterIdeal.main_v13_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v13_0) = v0 c
          ∧ r.2.mem ((c.tc : Thread Cert.RouterIdeal.nD Cert.RouterIdeal.τ).loc Cert.RouterIdeal.main_v13_1) = v1 c
          ∧ r.2.mem ((c.tc : Thread Cert.RouterIdeal.nD Cert.RouterIdeal.τ).loc Cert.RouterIdeal.main_v13_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v12) = v0 c
          ∧ r.2.mem ((c.tc : Thread Cert.RouterRefIdeal.nD Cert.RouterRefIdeal.τ).loc Cert.RouterRefIdeal.main_v147) = v1 c
          ∧ r.2.mem ((c.tc : Thread Cert.RouterRefIdeal.nD Cert.RouterRefIdeal.τ).loc Cert.RouterRefIdeal.main_v152) = v2 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def preserves_Positions_PositionsIdeal : Prop :=
  True

def algebraic_PositionsIdeal_PositionsRefIdeal [hPositionsIdeal : Cert.PositionsIdeal.Facts] [hPositionsRefIdeal : Cert.PositionsRefIdeal.Facts] : Prop :=
  ∀ (m : (ℓ : Loc Cert.PositionsIdeal.nD Cert.PositionsIdeal.τ Cert.PositionsIdeal.sig) → Buf (Elt Ideal) ℓ) (g : Dev Cert.PositionsIdeal.nD → PrngReg)
    (m' : (ℓ : Loc Cert.PositionsRefIdeal.nD Cert.PositionsRefIdeal.τ Cert.PositionsRefIdeal.sig) → Buf (Elt Ideal) ℓ) (g' : Dev Cert.PositionsRefIdeal.nD → PrngReg), Pre_PositionsIdeal m →
    (∀ c : Dev Cert.PositionsIdeal.nD,
      m' ((c.tc : Thread Cert.PositionsRefIdeal.nD Cert.PositionsRefIdeal.τ).loc Cert.PositionsRefIdeal.main_arg0) = m ((c.tc : Thread Cert.PositionsIdeal.nD Cert.PositionsIdeal.τ).loc Cert.PositionsIdeal.main_arg0)
      ∧ m' ((c.tc : Thread Cert.PositionsRefIdeal.nD Cert.PositionsRefIdeal.τ).loc Cert.PositionsRefIdeal.main_arg1) = m ((c.tc : Thread Cert.PositionsIdeal.nD Cert.PositionsIdeal.τ).loc Cert.PositionsIdeal.main_arg1)) →
    ∃ (v0 : (c : Dev Cert.PositionsIdeal.nD) → Buf (Elt Ideal) ((c.tc : Thread Cert.PositionsIdeal.nD Cert.PositionsIdeal.τ).loc Cert.PositionsIdeal.main_v0)),
      θ_run (Cert.PositionsIdeal.defs (F := Ideal)) (onTc (τ := Cert.PositionsIdeal.τ) (Cert.PositionsIdeal.main (F := Ideal))) ⟨m, fun _ => 0, g⟩ (fun r => ∀ c : Dev Cert.PositionsIdeal.nD,
          r.2.mem ((c.tc : Thread Cert.PositionsIdeal.nD Cert.PositionsIdeal.τ).loc Cert.PositionsIdeal.main_v0) = v0 c
          ∧ r.2.mem ((c.tc : Thread Cert.PositionsIdeal.nD Cert.PositionsIdeal.τ).loc Cert.PositionsIdeal.main_arg0) = m ((c.tc : Thread Cert.PositionsIdeal.nD Cert.PositionsIdeal.τ).loc Cert.PositionsIdeal.main_arg0)
          ∧ r.2.mem ((c.tc : Thread Cert.PositionsIdeal.nD Cert.PositionsIdeal.τ).loc Cert.PositionsIdeal.main_arg1) = m ((c.tc : Thread Cert.PositionsIdeal.nD Cert.PositionsIdeal.τ).loc Cert.PositionsIdeal.main_arg1))
      ∧ θ_run (Cert.PositionsRefIdeal.defs (F := Ideal)) (onTc (τ := Cert.PositionsRefIdeal.τ) (Cert.PositionsRefIdeal.main (F := Ideal))) ⟨m', fun _ => 0, g'⟩ (fun r => ∀ c : Dev Cert.PositionsRefIdeal.nD,
          r.2.mem ((c.tc : Thread Cert.PositionsRefIdeal.nD Cert.PositionsRefIdeal.τ).loc Cert.PositionsRefIdeal.main_v14) = v0 c
          ∧ r.2.mem ((c.tc : Thread Cert.PositionsRefIdeal.nD Cert.PositionsRefIdeal.τ).loc Cert.PositionsRefIdeal.main_arg0) = m' ((c.tc : Thread Cert.PositionsRefIdeal.nD Cert.PositionsRefIdeal.τ).loc Cert.PositionsRefIdeal.main_arg0)
          ∧ r.2.mem ((c.tc : Thread Cert.PositionsRefIdeal.nD Cert.PositionsRefIdeal.τ).loc Cert.PositionsRefIdeal.main_arg1) = m' ((c.tc : Thread Cert.PositionsRefIdeal.nD Cert.PositionsRefIdeal.τ).loc Cert.PositionsRefIdeal.main_arg1))

def preserves_Dilated_DilatedIdeal : Prop :=
  IdealRules.named_const.Statement Cert.DilatedIdeal.κ "log2e" .f32 0x3FB8AA3B#32 (((Real.log 2)⁻¹ : ℝ) : EReal)
  ∧ IdealRules.named_const.Statement Cert.DilatedIdeal.κ "mask" .f32 0xF1800000#32 ⊥

def algebraic_DilatedIdeal_DilatedRefIdeal_pre_dilated_finite [hDilatedIdeal : Cert.DilatedIdeal.Facts] [hDilatedRefIdeal : Cert.DilatedRefIdeal.Facts] [hPre_dilated_finite : Cert.Pre_dilated_finite.Facts] : Prop :=
  ∀ (m : (ℓ : Loc Cert.DilatedIdeal.nD Cert.DilatedIdeal.τ Cert.DilatedIdeal.sig) → Buf (Elt Ideal) ℓ) (g : Dev Cert.DilatedIdeal.nD → PrngReg)
    (m' : (ℓ : Loc Cert.DilatedRefIdeal.nD Cert.DilatedRefIdeal.τ Cert.DilatedRefIdeal.sig) → Buf (Elt Ideal) ℓ) (g' : Dev Cert.DilatedRefIdeal.nD → PrngReg), Pre_DilatedIdeal_dilated_finite m →
    (∀ c : Dev Cert.DilatedIdeal.nD,
      m' ((c.tc : Thread Cert.DilatedRefIdeal.nD Cert.DilatedRefIdeal.τ).loc Cert.DilatedRefIdeal.main_arg0) = m ((c.tc : Thread Cert.DilatedIdeal.nD Cert.DilatedIdeal.τ).loc Cert.DilatedIdeal.main_arg0)
      ∧ m' ((c.tc : Thread Cert.DilatedRefIdeal.nD Cert.DilatedRefIdeal.τ).loc Cert.DilatedRefIdeal.main_arg1) = m ((c.tc : Thread Cert.DilatedIdeal.nD Cert.DilatedIdeal.τ).loc Cert.DilatedIdeal.main_arg1)) →
    ∃ (v0 : (c : Dev Cert.DilatedIdeal.nD) → Buf (Elt Ideal) ((c.tc : Thread Cert.DilatedIdeal.nD Cert.DilatedIdeal.τ).loc Cert.DilatedIdeal.main_v0)),
      θ_run (Cert.DilatedIdeal.defs (F := Ideal)) (onTc (τ := Cert.DilatedIdeal.τ) (Cert.DilatedIdeal.main (F := Ideal))) ⟨m, fun _ => 0, g⟩ (fun r => ∀ c : Dev Cert.DilatedIdeal.nD,
          r.2.mem ((c.tc : Thread Cert.DilatedIdeal.nD Cert.DilatedIdeal.τ).loc Cert.DilatedIdeal.main_v0) = v0 c
          ∧ r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
          ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ θ_run (Cert.DilatedRefIdeal.defs (F := Ideal)) (onTc (τ := Cert.DilatedRefIdeal.τ) (Cert.DilatedRefIdeal.main (F := Ideal))) ⟨m', fun _ => 0, g'⟩ (fun r => ∀ c : Dev Cert.DilatedRefIdeal.nD,
          r.2.mem ((c.tc : Thread Cert.DilatedRefIdeal.nD Cert.DilatedRefIdeal.τ).loc Cert.DilatedRefIdeal.main_v109) = v0 c
          ∧ r.2.mem ((c.tc : Thread Cert.DilatedRefIdeal.nD Cert.DilatedRefIdeal.τ).loc Cert.DilatedRefIdeal.main_arg0) = m' ((c.tc : Thread Cert.DilatedRefIdeal.nD Cert.DilatedRefIdeal.τ).loc Cert.DilatedRefIdeal.main_arg0)
          ∧ r.2.mem ((c.tc : Thread Cert.DilatedRefIdeal.nD Cert.DilatedRefIdeal.τ).loc Cert.DilatedRefIdeal.main_arg1) = m' ((c.tc : Thread Cert.DilatedRefIdeal.nD Cert.DilatedRefIdeal.τ).loc Cert.DilatedRefIdeal.main_arg1))

def Claim : Prop :=
  ∃ (hExpert : Cert.Expert.Facts) (hExpertIdeal : Cert.ExpertIdeal.Facts) (hExpertRefIdeal : Cert.ExpertRefIdeal.Facts) (hInProj : Cert.InProj.Facts) (hInProjIdeal : Cert.InProjIdeal.Facts) (hInProjRefIdeal : Cert.InProjRefIdeal.Facts) (hInRest : Cert.InRest.Facts) (hInRestIdeal : Cert.InRestIdeal.Facts) (hInRestRefIdeal : Cert.InRestRefIdeal.Facts) (hOutProj : Cert.OutProj.Facts) (hOutProjIdeal : Cert.OutProjIdeal.Facts) (hOutProjRefIdeal : Cert.OutProjRefIdeal.Facts) (hCross : Cert.Cross.Facts) (hCrossIdeal : Cert.CrossIdeal.Facts) (hCrossRefIdeal : Cert.CrossRefIdeal.Facts) (hKvProj : Cert.KvProj.Facts) (hKvProjIdeal : Cert.KvProjIdeal.Facts) (hKvProjRefIdeal : Cert.KvProjRefIdeal.Facts) (hPool : Cert.Pool.Facts) (hPoolIdeal : Cert.PoolIdeal.Facts) (hPoolRefIdeal : Cert.PoolRefIdeal.Facts) (hRouter : Cert.Router.Facts) (hRouterIdeal : Cert.RouterIdeal.Facts) (hRouterRefIdeal : Cert.RouterRefIdeal.Facts) (hPositions : Cert.Positions.Facts) (hPositionsIdeal : Cert.PositionsIdeal.Facts) (hPositionsRefIdeal : Cert.PositionsRefIdeal.Facts) (hDilated : Cert.Dilated.Facts) (hDilatedIdeal : Cert.DilatedIdeal.Facts) (hDilatedRefIdeal : Cert.DilatedRefIdeal.Facts) (hPre_experts_named : Cert.Pre_experts_named.Facts) (hPre_cross_finite : Cert.Pre_cross_finite.Facts) (hPre_router_finite : Cert.Pre_router_finite.Facts) (hPre_dilated_finite : Cert.Pre_dilated_finite.Facts),
    quiescent_Expert (hExpert := hExpert) (hPre_experts_named := hPre_experts_named)
    ∧ quiescent_ExpertIdeal (hExpertIdeal := hExpertIdeal) (hPre_experts_named := hPre_experts_named)
    ∧ quiescent_ExpertRefIdeal (hExpertRefIdeal := hExpertRefIdeal)
    ∧ quiescent_ExpertRefIdeal_pre_experts_named (hExpertRefIdeal := hExpertRefIdeal) (hPre_experts_named := hPre_experts_named)
    ∧ quiescent_InProj (hInProj := hInProj)
    ∧ quiescent_InProjIdeal (hInProjIdeal := hInProjIdeal)
    ∧ quiescent_InProjRefIdeal (hInProjRefIdeal := hInProjRefIdeal)
    ∧ quiescent_InRest (hInRest := hInRest)
    ∧ quiescent_InRestIdeal (hInRestIdeal := hInRestIdeal)
    ∧ quiescent_InRestRefIdeal (hInRestRefIdeal := hInRestRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_Pool (hPool := hPool)
    ∧ quiescent_PoolIdeal (hPoolIdeal := hPoolIdeal)
    ∧ quiescent_PoolRefIdeal (hPoolRefIdeal := hPoolRefIdeal)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterRefIdeal (hRouterRefIdeal := hRouterRefIdeal)
    ∧ quiescent_RouterRefIdeal_pre_router_finite (hRouterRefIdeal := hRouterRefIdeal) (hPre_router_finite := hPre_router_finite)
    ∧ quiescent_Positions (hPositions := hPositions)
    ∧ quiescent_PositionsIdeal (hPositionsIdeal := hPositionsIdeal)
    ∧ quiescent_PositionsRefIdeal (hPositionsRefIdeal := hPositionsRefIdeal)
    ∧ quiescent_Dilated (hDilated := hDilated)
    ∧ quiescent_DilatedIdeal (hDilatedIdeal := hDilatedIdeal)
    ∧ quiescent_DilatedIdeal_pre_dilated_finite (hDilatedIdeal := hDilatedIdeal) (hPre_dilated_finite := hPre_dilated_finite)
    ∧ quiescent_DilatedRefIdeal (hDilatedRefIdeal := hDilatedRefIdeal)
    ∧ quiescent_DilatedRefIdeal_pre_dilated_finite (hDilatedRefIdeal := hDilatedRefIdeal) (hPre_dilated_finite := hPre_dilated_finite)
    ∧ preserves_Expert_ExpertIdeal
    ∧ algebraic_ExpertIdeal_ExpertRefIdeal (hExpertIdeal := hExpertIdeal) (hExpertRefIdeal := hExpertRefIdeal) (hPre_experts_named := hPre_experts_named)
    ∧ preserves_InProj_InProjIdeal
    ∧ algebraic_InProjIdeal_InProjRefIdeal (hInProjIdeal := hInProjIdeal) (hInProjRefIdeal := hInProjRefIdeal)
    ∧ preserves_InRest_InRestIdeal
    ∧ algebraic_InRestIdeal_InRestRefIdeal (hInRestIdeal := hInRestIdeal) (hInRestRefIdeal := hInRestRefIdeal)
    ∧ preserves_OutProj_OutProjIdeal
    ∧ algebraic_OutProjIdeal_OutProjRefIdeal (hOutProjIdeal := hOutProjIdeal) (hOutProjRefIdeal := hOutProjRefIdeal)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_KvProj_KvProjIdeal
    ∧ algebraic_KvProjIdeal_KvProjRefIdeal (hKvProjIdeal := hKvProjIdeal) (hKvProjRefIdeal := hKvProjRefIdeal)
    ∧ preserves_Pool_PoolIdeal
    ∧ algebraic_PoolIdeal_PoolRefIdeal (hPoolIdeal := hPoolIdeal) (hPoolRefIdeal := hPoolRefIdeal)
    ∧ preserves_Router_RouterIdeal
    ∧ algebraic_RouterIdeal_RouterRefIdeal_pre_router_finite (hRouterIdeal := hRouterIdeal) (hRouterRefIdeal := hRouterRefIdeal) (hPre_router_finite := hPre_router_finite)
    ∧ preserves_Positions_PositionsIdeal
    ∧ algebraic_PositionsIdeal_PositionsRefIdeal (hPositionsIdeal := hPositionsIdeal) (hPositionsRefIdeal := hPositionsRefIdeal)
    ∧ preserves_Dilated_DilatedIdeal
    ∧ algebraic_DilatedIdeal_DilatedRefIdeal_pre_dilated_finite (hDilatedIdeal := hDilatedIdeal) (hDilatedRefIdeal := hDilatedRefIdeal) (hPre_dilated_finite := hPre_dilated_finite)
-- ==== Pre_cross_finite.lean ====
abbrev S2x8192x2048 : Shape := ⟨3, ![2, 8192, 2048]⟩
abbrev S2048 : Shape := ⟨1, ![2048]⟩
abbrev S2048x512 : Shape := ⟨2, ![2048, 512]⟩
abbrev S2x256x1024 : Shape := ⟨3, ![2, 256, 1024]⟩
abbrev S512x2048 : Shape := ⟨2, ![512, 2048]⟩
abbrev S_ : Shape := ⟨0, ![]⟩
abbrev S2x256x512 : Shape := ⟨3, ![2, 256, 512]⟩

class Facts : Prop where
  bcast_S_S2x8192x2048 : S_.BroadcastsInDim S2x8192x2048 (![] : Fin 0 → Fin S2x8192x2048.rank)
  bcast_S_S2048 : S_.BroadcastsInDim S2048 (![] : Fin 0 → Fin S2048.rank)
  bcast_S_S2048x512 : S_.BroadcastsInDim S2048x512 (![] : Fin 0 → Fin S2048x512.rank)
  slices_S2x256x1024_S2x256x512_0_0_0 : S2x256x1024.Slices ![0, 0, 0] S2x256x512
  bitsLt_bf16_f32 : FTy.bits .bf16 < FTy.bits .f32
  bcast_S_S2x256x512 : S_.BroadcastsInDim S2x256x512 (![] : Fin 0 → Fin S2x256x512.rank)

variable [Facts]

def fn {F : FTy → Type} [FloatOps F] (main_arg0 : FVec F S2x8192x2048 .f32) (main_arg1 : FVec F S2048 .f32) (main_arg2 : FVec F S2048x512 .f32) (main_arg3 : FVec F S2x256x1024 .bf16) (main_arg4 : FVec F S512x2048 .f32) : IVec S2x8192x2048 1 × IVec S2048 1 × IVec S2048x512 1 × IVec S2x256x512 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2x256x512 .bf16 := (extractStridedSlice S2x256x512 ![0, 0, 0] · slices_S2x256x1024_S2x256x512_0_0_0) main_arg3
  let main_v10 : FVec F S2x256x512 .f32 := (extf .f32 · bitsLt_bf16_f32) main_v9
  let main_v11 : FVec F S2x256x512 .f32 := Host.absf main_v10
  let main_cst_2 : FVec F S_ .f32 := constant S_ .f32 0x7F800000#32
  let main_v12 : FVec F S2x256x512 .f32 := broadcastInDim S2x256x512 ![] bcast_S_S2x256x512 main_cst_2
  let main_v13 : IVec S2x256x512 1 := cmpf .olt main_v11 main_v12
  (main_v2, main_v5, main_v8, main_v13)
-- ==== Pre_dilated_finite.lean ====
abbrev S2x8192x2048 : Shape := ⟨3, ![2, 8192, 2048]⟩
abbrev S4 : Shape := ⟨1, ![4]⟩
abbrev S2x8192x1024 : Shape := ⟨3, ![2, 8192, 1024]⟩
abbrev S_ : Shape := ⟨0, ![]⟩

class Facts : Prop where
  slices_S2x8192x2048_S2x8192x1024_0_0_0 : S2x8192x2048.Slices ![0, 0, 0] S2x8192x1024
  bcast_S_S2x8192x1024 : S_.BroadcastsInDim S2x8192x1024 (![] : Fin 0 → Fin S2x8192x1024.rank)
  bcast_S_S4 : S_.BroadcastsInDim S4 (![] : Fin 0 → Fin S4.rank)

variable [Facts]

def fn {F : FTy → Type} [FloatOps F] (main_arg0 : FVec F S2x8192x2048 .f32) (main_arg1 : FVec F S4 .f32) : IVec S2x8192x1024 1 × IVec S4 1 :=
  let main_v0 : FVec F S2x8192x1024 .f32 := (extractStridedSlice S2x8192x1024 ![0, 0, 0] · slices_S2x8192x2048_S2x8192x1024_0_0_0) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  (main_v3, main_v6)
-- ==== Pre_experts_named.lean ====
abbrev S160 : Shape := ⟨1, ![160]⟩
abbrev S1 : Shape := ⟨1, ![1]⟩
abbrev S40960x2048 : Shape := ⟨2, ![40960, 2048]⟩
abbrev S64x2048x512 : Shape := ⟨3, ![64, 2048, 512]⟩
abbrev S64x512x2048 : Shape := ⟨3, ![64, 512, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S40960x2048 .f32) (main_arg3 : FVec F S64x2048x512 .f32) (main_arg4 : FVec F S64x2048x512 .f32) (main_arg5 : FVec F S64x512x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 64#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_router_finite.lean ====
abbrev S16384x2048 : Shape := ⟨2, ![16384, 2048]⟩
abbrev S2048 : Shape := ⟨1, ![2048]⟩
abbrev S2048x4 : Shape := ⟨2, ![2048, 4]⟩
abbrev S4 : Shape := ⟨1, ![4]⟩
abbrev S4x2048x8 : Shape := ⟨3, ![4, 2048, 8]⟩
abbrev S4x8 : Shape := ⟨2, ![4, 8]⟩
abbrev S_ : Shape := ⟨0, ![]⟩

class Facts : Prop where
  bcast_S_S16384x2048 : S_.BroadcastsInDim S16384x2048 (![] : Fin 0 → Fin S16384x2048.rank)
  bcast_S_S2048 : S_.BroadcastsInDim S2048 (![] : Fin 0 → Fin S2048.rank)
  bcast_S_S2048x4 : S_.BroadcastsInDim S2048x4 (![] : Fin 0 → Fin S2048x4.rank)
  bcast_S_S4 : S_.BroadcastsInDim S4 (![] : Fin 0 → Fin S4.rank)
  bcast_S_S4x2048x8 : S_.BroadcastsInDim S4x2048x8 (![] : Fin 0 → Fin S4x2048x8.rank)
  bcast_S_S4x8 : S_.BroadcastsInDim S4x8 (![] : Fin 0 → Fin S4x8.rank)

variable [Facts]

def fn {F : FTy → Type} [FloatOps F] (main_arg0 : FVec F S16384x2048 .f32) (main_arg1 : FVec F S2048 .f32) (main_arg2 : FVec F S2048x4 .f32) (main_arg3 : FVec F S4 .f32) (main_arg4 : FVec F S4x2048x8 .f32) (main_arg5 : FVec F S4x8 .f32) : IVec S16384x2048 1 × IVec S2048 1 × IVec S2048x4 1 × IVec S4 1 × IVec S4x2048x8 1 × IVec S4x8 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x4 .f32 := Host.absf main_arg2
  let main_cst_1 : FVec F S_ .f32 := constant S_ .f32 0x7F800000#32
  let main_v7 : FVec F S2048x4 .f32 := broadcastInDim S2048x4 ![] bcast_S_S2048x4 main_cst_1
  let main_v8 : IVec S2048x4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S4x2048x8 .f32 := Host.absf main_arg4
  let main_cst_3 : FVec F S_ .f32 := constant S_ .f32 0x7F800000#32
  let main_v13 : FVec F S4x2048x8 .f32 := broadcastInDim S4x2048x8 ![] bcast_S_S4x2048x8 main_cst_3
  let main_v14 : IVec S4x2048x8 1 := cmpf .olt main_v12 main_v13
  let main_v15 : FVec F S4x8 .f32 := Host.absf main_arg5
  let main_cst_4 : FVec F S_ .f32 := constant S_ .f32 0x7F800000#32
  let main_v16 : FVec F S4x8 .f32 := broadcastInDim S4x8 ![] bcast_S_S4x8 main_cst_4
  let main_v17 : IVec S4x8 1 := cmpf .olt main_v15 main_v16
  (main_v2, main_v5, main_v8, main_v11, main_v14, main_v17)
-- ==== Expert.lean ====
abbrev S160 : Shape := ⟨1, ![160]⟩
abbrev S1 : Shape := ⟨1, ![1]⟩
abbrev S40960x2048 : Shape := ⟨2, ![40960, 2048]⟩
abbrev S64x2048x512 : Shape := ⟨3, ![64, 2048, 512]⟩
abbrev S64x512x2048 : Shape := ⟨3, ![64, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S40960x2048, .f32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertRefIdeal.lean ====
abbrev S160 : Shape := ⟨1, ![160]⟩
abbrev S1 : Shape := ⟨1, ![1]⟩
abbrev S40960x2048 : Shape := ⟨2, ![40960, 2048]⟩
abbrev S64x2048x512 : Shape := ⟨3, ![64, 2048, 512]⟩
abbrev S64x512x2048 : Shape := ⟨3, ![64, 512, 2048]⟩
abbrev S_ : Shape := ⟨0, ![]⟩
abbrev S160x1 : Shape := ⟨2, ![160, 1]⟩
abbrev S1x64 : Shape := ⟨2, ![1, 64]⟩
abbrev S160x64 : Shape := ⟨2, ![160, 64]⟩
abbrev S160x256x64 : Shape := ⟨3, ![160, 256, 64]⟩
abbrev S40960x64 : Shape := ⟨2, ![40960, 64]⟩
abbrev S40960x64x512 : Shape := ⟨3, ![40960, 64, 512]⟩
abbrev S40960x64x1 : Shape := ⟨3, ![40960, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S64x2048x512, .f32⟩
  | .hbm, ⟨4, _⟩ => ⟨S64x2048x512, .f32⟩
  | .hbm, ⟨5, _⟩ => ⟨S64x512x2048, .f32⟩
  | .hbm, ⟨6, _⟩ => ⟨S160, .i32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S160, .f32⟩
  | .hbm, ⟨11, _⟩ => ⟨S160x1, .i32⟩
  | .hbm, ⟨12, _⟩ => ⟨S1x64, .i32⟩
  | .hbm, ⟨13, _⟩ => ⟨S160x64, .i32⟩
  | .hbm, ⟨14, _⟩ => ⟨S160x64, .i32⟩
  | .hbm, ⟨15, _⟩ => ⟨S160x64, .i1⟩
  | .hbm, ⟨16, _⟩ => ⟨S160x64, .f32⟩
  | .hbm, ⟨17, _⟩ => ⟨S160x1, .f32⟩
  | .hbm, ⟨18, _⟩ => ⟨S160x64, .f32⟩
  | .hbm, ⟨19, _⟩ => ⟨S160x64, .f32⟩
  | .hbm, ⟨20, _⟩ => ⟨S160x256x64, .f32⟩
  | .hbm, ⟨21, _⟩ => ⟨S40960x64, .f32⟩
  | .hbm, ⟨22, _⟩ => ⟨S40960x64x512, .f32⟩
  | .hbm, ⟨23, _⟩ => ⟨S40960x64x512, .f32⟩
  | .hbm, ⟨24, _⟩ => ⟨S40960x64x512, .f32⟩
  | .hbm, ⟨25, _⟩ => ⟨S40960x64x512, .f32⟩
  | .hbm, ⟨26, _⟩ => ⟨S_, .f32⟩
  | .hbm, ⟨27, _⟩ => ⟨S40960x64x512, .f32⟩
  | .hbm, ⟨28, _⟩ => ⟨S40960x64x512, .f32⟩
  | .hbm, ⟨29, _⟩ => ⟨S_, .f32⟩
  | .hbm, ⟨30, _⟩ => ⟨S40960x64x512, .f32⟩
  | .hbm, ⟨31, _⟩ => ⟨S40960x64x512, .f32⟩
  | .hbm, ⟨32, _⟩ => ⟨S40960x64x512, .f32⟩
  | .hbm, ⟨33, _⟩ => ⟨S40960x64x512, .f32⟩
  | .hbm, ⟨34, _⟩ => ⟨S40960x64x1, .f32⟩
  | .hbm, ⟨35, _⟩ => ⟨S40960x64x512, .f32⟩
  | .hbm, ⟨36, _⟩ => ⟨S40960x64x512, .f32⟩
  | .hbm, ⟨37, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== InProj.lean ====
abbrev S2x8192x2048 : Shape := ⟨3, ![2, 8192, 2048]⟩
abbrev S2048 : Shape := ⟨1, ![2048]⟩
abbrev S2048x3072 : Shape := ⟨2, ![2048, 3072]⟩
abbrev S3072 : Shape := ⟨1, ![3072]⟩
abbrev S16384x2048 : Shape := ⟨2, ![16384, 2048]⟩
abbrev S1x2048 : Shape := ⟨2, ![1, 2048]⟩
abbrev S1x3072 : Shape := ⟨2, ![1, 3072]⟩
abbrev S16384x3072 : Shape := ⟨2, ![16384, 3072]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x3072, .f32⟩
  | .hbm, ⟨3, _⟩ => ⟨S3072, .f32⟩
  | .hbm, ⟨4, _⟩ => ⟨S16384x2048, .f32⟩
  | .hbm, ⟨5, _⟩ => ⟨S1x2048, .f32⟩
  | .hbm, ⟨6, _⟩ => ⟨S2048x3072, .bf16⟩
  | .hbm, ⟨7, _⟩ => ⟨S1x3072, .f32⟩
  | .hbm, ⟨8, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S2x8192x2048 : Shape := ⟨3, ![2, 8192, 2048]⟩
abbrev S2048 : Shape := ⟨1, ![2048]⟩
abbrev S2048x3072 : Shape := ⟨2, ![2048, 3072]⟩
abbrev S3072 : Shape := ⟨1, ![3072]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x3072 : Shape := ⟨3, ![2, 8192, 3072]⟩
abbrev S1x1x3072 : Shape := ⟨3, ![1, 1, 3072]⟩
abbrev S16384x3072 : Shape := ⟨2, ![16384, 3072]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x3072, .f32⟩
  | .hbm, ⟨3, _⟩ => ⟨S3072, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2x8192x3072, .f32⟩
  | .hbm, ⟨21, _⟩ => ⟨S1x1x3072, .f32⟩
  | .hbm, ⟨22, _⟩ => ⟨S2x8192x3072, .f32⟩
  | .hbm, ⟨23, _⟩ => ⟨S2x8192x3072, .f32⟩
  | .hbm, ⟨24, _⟩ => ⟨S16384x3072, .f32⟩
  | .hbm, ⟨25, _⟩ => ⟨S16384x3072, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InRest.lean ====
abbrev S2x8192x2048 : Shape := ⟨3, ![2, 8192, 2048]⟩
abbrev S2048 : Shape := ⟨1, ![2048]⟩
abbrev S2048x2048 : Shape := ⟨2, ![2048, 2048]⟩
abbrev S16384x2048 : Shape := ⟨2, ![16384, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S2048x2048, .bf16⟩
  | .hbm, ⟨7, _⟩ => ⟨S1x2048, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InRestRefIdeal.lean ====
abbrev S2x8192x2048 : Shape := ⟨3, ![2, 8192, 2048]⟩
abbrev S2048 : Shape := ⟨1, ![2048]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x2048, .f32⟩
  | .hbm, ⟨3, _⟩ => ⟨S2048, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S16384x512 : Shape := ⟨2, ![16384, 512]⟩
abbrev S2048x2048 : Shape := ⟨2, ![2048, 2048]⟩
abbrev S256x2048 : Shape := ⟨2, ![256, 2048]⟩
abbrev S256x1024 : Shape := ⟨2, ![256, 1024]⟩
abbrev S256x512 : Shape := ⟨2, ![256, 512]⟩
abbrev S1024x2048 : Shape := ⟨2, ![1024, 2048]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S16384x2048 : Shape := ⟨2, ![16384, 2048]⟩
abbrev S16384x1024 : Shape := ⟨2, ![16384, 1024]⟩
abbrev S16384x512 : Shape := ⟨2, ![16384, 512]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S2048x2048, .f32⟩
  | .hbm, ⟨5, _⟩ => ⟨S16384x1024, .f32⟩
  | .hbm, ⟨6, _⟩ => ⟨S16384x512, .f32⟩
  | .hbm, ⟨7, _⟩ => ⟨S16384x512, .f32⟩
  | .hbm, ⟨8, _⟩ => ⟨S16384x2048, .f32⟩
  | .hbm, ⟨9, _⟩ => ⟨S16384x2048, .f32⟩
  | .hbm, ⟨10, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Cross.lean ====
abbrev S2x8192x2048 : Shape := ⟨3, ![2, 8192, 2048]⟩
abbrev S2048 : Shape := ⟨1, ![2048]⟩
abbrev S2048x512 : Shape := ⟨2, ![2048, 512]⟩
abbrev S2x256x1024 : Shape := ⟨3, ![2, 256, 1024]⟩
abbrev S512x2048 : Shape := ⟨2, ![512, 2048]⟩
abbrev S1x2048 : Shape := ⟨2, ![1, 2048]⟩
abbrev S1x256x2048 : Shape := ⟨3, ![1, 256, 2048]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x512, .f32⟩
  | .hbm, ⟨3, _⟩ => ⟨S2x256x1024, .bf16⟩
  | .hbm, ⟨4, _⟩ => ⟨S512x2048, .f32⟩
  | .hbm, ⟨5, _⟩ => ⟨S1x2048, .f32⟩
  | .hbm, ⟨6, _⟩ => ⟨S2048x512, .bf16⟩
  | .hbm, ⟨7, _⟩ => ⟨S512x2048, .bf16⟩
  | .hbm, ⟨8, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x2048, .bf16⟩
  | .local _ .vmem, ⟨7, _⟩ => ⟨S1x256x2048, .f32⟩
  | .local _ .vmem, ⟨8, _⟩ => ⟨S1x256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossRefIdeal.lean ====
abbrev S2x8192x2048 : Shape := ⟨3, ![2, 8192, 2048]⟩
abbrev S2048 : Shape := ⟨1, ![2048]⟩
abbrev S2048x512 : Shape := ⟨2, ![2048, 512]⟩
abbrev S2x256x1024 : Shape := ⟨3, ![2, 256, 1024]⟩
abbrev S512x2048 : Shape := ⟨2, ![512, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x512 : Shape := ⟨3, ![2, 8192, 512]⟩
abbrev S2x8192x4x128 : Shape := ⟨4, ![2, 8192, 4, 128]⟩
abbrev S2x256x512 : Shape := ⟨3, ![2, 256, 512]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x512, .f32⟩
  | .hbm, ⟨3, _⟩ => ⟨S2x256x1024, .bf16⟩
  | .hbm, ⟨4, _⟩ => ⟨S512x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x256x1024, .f32⟩
  | .hbm, ⟨22, _⟩ => ⟨S2x8192x512, .f32⟩
  | .hbm, ⟨23, _⟩ => ⟨S2x8192x4x128, .f32⟩
  | .hbm, ⟨24, _⟩ => ⟨S2x256x512, .f32⟩
  | .hbm, ⟨25, _⟩ => ⟨S2x256x4x128, .f32⟩
  | .hbm, ⟨26, _⟩ => ⟨S2x256x512, .f32⟩
  | .hbm, ⟨27, _⟩ => ⟨S2x256x4x128, .f32⟩
  | .hbm, ⟨28, _⟩ => ⟨S2x4x8192x256, .f32⟩
  | .hbm, ⟨29, _⟩ => ⟨S_, .f32⟩
  | .hbm, ⟨30, _⟩ => ⟨S2x4x8192x256, .f32⟩
  | .hbm, ⟨31, _⟩ => ⟨S2x4x8192x256, .f32⟩
  | .hbm, ⟨32, _⟩ => ⟨S_, .f32⟩
  | .hbm, ⟨33, _⟩ => ⟨S2x4x8192, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x256, .f32⟩
  | .hbm, ⟨39, _⟩ => ⟨S2x4x8192x256, .f32⟩
  | .hbm, ⟨40, _⟩ => ⟨S2x4x8192x256, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x256, .f32⟩
  | .hbm, ⟨45, _⟩ => ⟨S2x4x8192x256, .f32⟩
  | .hbm, ⟨46, _⟩ => ⟨S2x4x128x8192, .f32⟩
  | .hbm, ⟨47, _⟩ => ⟨S2x8192x4x128, .f32⟩
  | .hbm, ⟨48, _⟩ => ⟨S2x8192x512, .f32⟩
  | .hbm, ⟨49, _⟩ => ⟨S2x8192x2048, .f32⟩
  | .hbm, ⟨50, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== KvProj.lean ====
abbrev S2x256x2048 : Shape := ⟨3, ![2, 256, 2048]⟩
abbrev S2048 : Shape := ⟨1, ![2048]⟩
abbrev S2048x512 : Shape := ⟨2, ![2048, 512]⟩
abbrev S2048x1024 : Shape := ⟨2, ![2048, 1024]⟩
abbrev S512x2048 : Shape := ⟨2, ![512, 2048]⟩
abbrev S1x2048 : Shape := ⟨2, ![1, 2048]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 6
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S512x2048, .f32⟩
  | .hbm, ⟨7, _⟩ => ⟨S1x2048, .f32⟩
  | .hbm, ⟨8, _⟩ => ⟨S_, .f32⟩
  | .hbm, ⟨9, _⟩ => ⟨S1x1024, .f32⟩
  | .hbm, ⟨10, _⟩ => ⟨S512x1024, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S1x1024, .f32⟩
  | .local _ .vmem, ⟨4, _⟩ => ⟨S512x1024, .bf16⟩
  | .local _ .vmem, ⟨5, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== KvProjRefIdeal.lean ====
abbrev S2x256x2048 : Shape := ⟨3, ![2, 256, 2048]⟩
abbrev S2048 : Shape := ⟨1, ![2048]⟩
abbrev S2048x512 : Shape := ⟨2, ![2048, 512]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x512 : Shape := ⟨3, ![2, 256, 512]⟩
abbrev S2x256x1024 : Shape := ⟨3, ![2, 256, 1024]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x512, .f32⟩
  | .hbm, ⟨21, _⟩ => ⟨S2x256x512, .f32⟩
  | .hbm, ⟨22, _⟩ => ⟨S2x256x1024, .f32⟩
  | .hbm, ⟨23, _⟩ => ⟨S512x1024, .f32⟩
  | .hbm, ⟨24, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Pool.lean ====
abbrev S2x8192x2048 : Shape := ⟨3, ![2, 8192, 2048]⟩
abbrev S4x128x128 : Shape := ⟨3, ![4, 128, 128]⟩
abbrev S512 : Shape := ⟨1, ![512]⟩
abbrev S1x512 : Shape := ⟨2, ![1, 512]⟩
abbrev S2x8192x512 : Shape := ⟨3, ![2, 8192, 512]⟩
abbrev S1x512x512 : Shape := ⟨3, ![1, 512, 512]⟩
abbrev S1x16x512 : Shape := ⟨3, ![1, 16, 512]⟩
abbrev S528x512 : Shape := ⟨2, ![528, 512]⟩
abbrev S16x512 : Shape := ⟨2, ![16, 512]⟩
abbrev S512x512 : Shape := ⟨2, ![512, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S2x8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S4x128x128, .bf16⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S528x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S2x8192x2048 : Shape := ⟨3, ![2, 8192, 2048]⟩
abbrev S4x128x128 : Shape := ⟨3, ![4, 128, 128]⟩
abbrev S512 : Shape := ⟨1, ![512]⟩
abbrev S2x8192x512 : Shape := ⟨3, ![2, 8192, 512]⟩
abbrev S2x8192x4x128 : Shape := ⟨4, ![2, 8192, 4, 128]⟩
abbrev S8192 : Shape := ⟨1, ![8192]⟩
abbrev S4 : Shape := ⟨1, ![4]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4x1x1 : Shape := ⟨3, ![4, 1, 1]⟩
abbrev S4x8192x8192 : Shape := ⟨3, ![4, 8192, 8192]⟩
abbrev S1x4 : Shape := ⟨2, ![1, 4]⟩
abbrev S8192x4 : Shape := ⟨2, ![8192, 4]⟩
abbrev S4x2x128x8192 : Shape := ⟨4, ![4, 2, 128, 8192]⟩
abbrev S1x8192x4x1 : Shape := ⟨4, ![1, 8192, 4, 1]⟩
abbrev S4x128x2x8192 : Shape := ⟨4, ![4, 128, 2, 8192]⟩
abbrev S4x128 : Shape := ⟨2, ![4, 128]⟩
abbrev S1x1x4x128 : Shape := ⟨4, ![1, 1, 4, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S4x128x128, .f32⟩
  | .hbm, ⟨2, _⟩ => ⟨S512, .f32⟩
  | .hbm, ⟨3, _⟩ => ⟨S2x8192x512, .f32⟩
  | .hbm, ⟨4, _⟩ => ⟨S2x8192x4x128, .f32⟩
  | .hbm, ⟨5, _⟩ => ⟨S8192, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S1x8192x8192, .i32⟩
  | .hbm, ⟨20, _⟩ => ⟨S4x1x1, .i32⟩
  | .hbm, ⟨21, _⟩ => ⟨S4x8192x8192, .i32⟩
  | .hbm, ⟨22, _⟩ => ⟨S4x8192x8192, .i32⟩
  | .hbm, ⟨23, _⟩ => ⟨S4x8192x8192, .i1⟩
  | .hbm, ⟨24, _⟩ => ⟨S4x8192x8192, .i1⟩
  | .hbm, ⟨25, _⟩ => ⟨S4x8192x8192, .i1⟩
  | .hbm, ⟨26, _⟩ => ⟨S4x8192x8192, .f32⟩
  | .hbm, ⟨27, _⟩ => ⟨S8192x1, .i32⟩
  | .hbm, ⟨28, _⟩ => ⟨S_, .i32⟩
  | .hbm, ⟨29, _⟩ => ⟨S8192x1, .i32⟩
  | .hbm, ⟨30, _⟩ => ⟨S8192x1, .i32⟩
  | .hbm, ⟨31, _⟩ => ⟨S1x4, .i32⟩
  | .hbm, ⟨32, _⟩ => ⟨S8192x4, .i32⟩
  | .hbm, ⟨33, _⟩ => ⟨S8192x4, .i32⟩
  | .hbm, ⟨34, _⟩ => ⟨S8192x4, .i32⟩
  | .hbm, ⟨35, _⟩ => ⟨S8192x4, .f32⟩
  | .hbm, ⟨36, _⟩ => ⟨S4x2x128x8192, .f32⟩
  | .hbm, ⟨37, _⟩ => ⟨S2x8192x4x128, .f32⟩
  | .hbm, ⟨38, _⟩ => ⟨S1x8192x4x1, .f32⟩
  | .hbm, ⟨39, _⟩ => ⟨S2x8192x4x128, .f32⟩
  | .hbm, ⟨40, _⟩ => ⟨S2x8192x4x128, .f32⟩
  | .hbm, ⟨41, _⟩ => ⟨S2x8192x4x128, .f32⟩
  | .hbm, ⟨42, _⟩ => ⟨S4x128x2x8192, .f32⟩
  | .hbm, ⟨43, _⟩ => ⟨S2x8192x4x128, .f32⟩
  | .hbm, ⟨44, _⟩ => ⟨S4x128, .f32⟩
  | .hbm, ⟨45, _⟩ => ⟨S1x1x4x128, .f32⟩
  | .hbm, ⟨46, _⟩ => ⟨S2x8192x4x128, .f32⟩
  | .hbm, ⟨47, _⟩ => ⟨S2x8192x4x128, .f32⟩
  | .hbm, ⟨48, _⟩ => ⟨S2x8192x512, .f32⟩
  | .hbm, ⟨49, _⟩ => ⟨S2x8192x512, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== Router.lean ====
abbrev S16384x2048 : Shape := ⟨2, ![16384, 2048]⟩
abbrev S2048 : Shape := ⟨1, ![2048]⟩
abbrev S2048x4 : Shape := ⟨2, ![2048, 4]⟩
abbrev S4 : Shape := ⟨1, ![4]⟩
abbrev S4x2048x8 : Shape := ⟨3, ![4, 2048, 8]⟩
abbrev S4x8 : Shape := ⟨2, ![4, 8]⟩
abbrev S2048x4x8 : Shape := ⟨3, ![2048, 4, 8]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S32 : Shape := ⟨1, ![32]⟩
abbrev S92 : Shape := ⟨1, ![92]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 24
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4, .f32⟩
  | .hbm, ⟨3, _⟩ => ⟨S4, .f32⟩
  | .hbm, ⟨4, _⟩ => ⟨S4x2048x8, .f32⟩
  | .hbm, ⟨5, _⟩ => ⟨S4x8, .f32⟩
  | .hbm, ⟨6, _⟩ => ⟨S2048x4x8, .f32⟩
  | .hbm, ⟨7, _⟩ => ⟨S2048x32, .f32⟩
  | .hbm, ⟨8, _⟩ => ⟨S_, .f32⟩
  | .hbm, ⟨9, _⟩ => ⟨S2048x92, .f32⟩
  | .hbm, ⟨10, _⟩ => ⟨S2048x128, .f32⟩
  | .hbm, ⟨11, _⟩ => ⟨S32, .f32⟩
  | .hbm, ⟨12, _⟩ => ⟨S_, .f32⟩
  | .hbm, ⟨13, _⟩ => ⟨S92, .f32⟩
  | .hbm, ⟨14, _⟩ => ⟨S128, .f32⟩
  | .hbm, ⟨15, _⟩ => ⟨S1x128, .f32⟩
  | .hbm, ⟨16, _⟩ => ⟨S2048x128, .bf16⟩
  | .hbm, ⟨17, _⟩ => ⟨S2048x128, .f32⟩
  | .hbm, ⟨18, _⟩ => ⟨S2048x128, .f32⟩
  | .hbm, ⟨19, _⟩ => ⟨S2048x128, .bf16⟩
  | .hbm, ⟨20, _⟩ => ⟨S1x2048, .f32⟩
  | .hbm, ⟨21, _⟩ => ⟨S16384x2048, .f32⟩
  | .hbm, ⟨22, _⟩ => ⟨S16384x128, .f32⟩
  | .hbm, ⟨23, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S2048x128, .bf16⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RouterRefIdeal.lean ====
abbrev S16384x2048 : Shape := ⟨2, ![16384, 2048]⟩
abbrev S2048 : Shape := ⟨1, ![2048]⟩
abbrev S2048x4 : Shape := ⟨2, ![2048, 4]⟩
abbrev S4 : Shape := ⟨1, ![4]⟩
abbrev S4x2048x8 : Shape := ⟨3, ![4, 2048, 8]⟩
abbrev S4x8 : Shape := ⟨2, ![4, 8]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4 : Shape := ⟨2, ![16384, 4]⟩
abbrev S1x4 : Shape := ⟨2, ![1, 4]⟩
abbrev S16384x4x8 : Shape := ⟨3, ![16384, 4, 8]⟩
abbrev S1x4x8 : Shape := ⟨3, ![1, 4, 8]⟩
abbrev S16384x4x1 : Shape := ⟨3, ![16384, 4, 1]⟩
abbrev S16384x1x4 : Shape := ⟨3, ![16384, 1, 4]⟩
abbrev S4x1 : Shape := ⟨2, ![4, 1]⟩
abbrev S4x4 : Shape := ⟨2, ![4, 4]⟩
abbrev S16384x4x4 : Shape := ⟨3, ![16384, 4, 4]⟩
abbrev S1x4x4 : Shape := ⟨3, ![1, 4, 4]⟩
abbrev S16384x4x8x1 : Shape := ⟨4, ![16384, 4, 8, 1]⟩
abbrev S16384x4x1x8 : Shape := ⟨4, ![16384, 4, 1, 8]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S16384x4x8x8 : Shape := ⟨4, ![16384, 4, 8, 8]⟩
abbrev S1x1x8x8 : Shape := ⟨4, ![1, 1, 8, 8]⟩
abbrev S16384x32 : Shape := ⟨2, ![16384, 32]⟩
abbrev S16384x2 : Shape := ⟨2, ![16384, 2]⟩
abbrev S1x16384 : Shape := ⟨2, ![1, 16384]⟩
abbrev S16384x16384 : Shape := ⟨2, ![16384, 16384]⟩
abbrev S32 : Shape := ⟨1, ![32]⟩
abbrev S1x32 : Shape := ⟨2, ![1, 32]⟩
abbrev S16384x122 : Shape := ⟨2, ![16384, 122]⟩
abbrev S16384x128 : Shape := ⟨2, ![16384, 128]⟩
abbrev S1x96 : Shape := ⟨2, ![1, 96]⟩
abbrev S1x128 : Shape := ⟨2, ![1, 128]⟩

abbrev nBuf : Space → Nat
  | .hbm => 194
  | .vmem => 0
  | .smem => 0
  | _ => 0

abbrev hbmTy0_0 (i : Nat) : BufTy := match i % 128 with
  | 0 => ⟨S16384x2048, .f32⟩
  | 1 => ⟨S2048, .f32⟩
  | 2 => ⟨S2048x4, .f32⟩
  | 3 => ⟨S4, .f32⟩
  | 4 => ⟨S4x2048x8, .f32⟩
  | 5 => ⟨S4x8, .f32⟩
  | 6 => ⟨S16384x2048, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x2048, .f32⟩
  | 18 => ⟨S16384x2048, .f32⟩
  | 19 => ⟨S1x2048, .f32⟩
  | 20 => ⟨S16384x2048, .f32⟩
  | 21 => ⟨S16384x2048, .f32⟩
  | 22 => ⟨S16384x4, .f32⟩
  | 23 => ⟨S1x4, .f32⟩
  | 24 => ⟨S16384x4, .f32⟩
  | 25 => ⟨S16384x4, .f32⟩
  | 26 => ⟨S16384x4x8, .f32⟩
  | 27 => ⟨S1x4x8, .f32⟩
  | 28 => ⟨S16384x4x8, .f32⟩
  | 29 => ⟨S16384x4x8, .f32⟩
  | 30 => ⟨S16384x4x1, .f32⟩
  | 31 => ⟨S16384x1x4, .f32⟩
  | 32 => ⟨S4, .i32⟩
  | 33 => ⟨S1x4, .i32⟩
  | 34 => ⟨S4, .i32⟩
  | 35 => ⟨S4x1, .i32⟩
  | 36 => ⟨S4x4, .i32⟩
  | 37 => ⟨S4x4, .i32⟩
  | 38 => ⟨S4x4, .i1⟩
  | 39 => ⟨S16384x4x4, .f32⟩
  | 40 => ⟨S16384x4x4, .f32⟩
  | 41 => ⟨S16384x4x4, .i1⟩
  | 42 => ⟨S16384x4x4, .f32⟩
  | 43 => ⟨S16384x4x4, .f32⟩
  | 44 => ⟨S16384x4x4, .i1⟩
  | 45 => ⟨S1x4x4, .i1⟩
  | 46 => ⟨S16384x4x4, .i1⟩
  | 47 => ⟨S16384x4x4, .i1⟩
  | 48 => ⟨S16384x4x4, .i1⟩
  | 49 => ⟨S16384x4x4, .f32⟩
  | 50 => ⟨S_, .f32⟩
  | 51 => ⟨S16384x4, .f32⟩
  | 52 => ⟨S_, .f32⟩
  | 53 => ⟨S16384x4, .f32⟩
  | 54 => ⟨S16384x4, .i1⟩
  | 55 => ⟨S16384x4x8x1, .f32⟩
  | 56 => ⟨S16384x4x1x8, .f32⟩
  | 57 => ⟨S8, .i32⟩
  | 58 => ⟨S1x8, .i32⟩
  | 59 => ⟨S8, .i32⟩
  | 60 => ⟨S8x1, .i32⟩
  | 61 => ⟨S8x8, .i32⟩
  | 62 => ⟨S8x8, .i32⟩
  | 63 => ⟨S8x8, .i1⟩
  | 64 => ⟨S16384x4x8x8, .f32⟩
  | 65 => ⟨S16384x4x8x8, .f32⟩
  | 66 => ⟨S16384x4x8x8, .i1⟩
  | 67 => ⟨S16384x4x8x8, .f32⟩
  | 68 => ⟨S16384x4x8x8, .f32⟩
  | 69 => ⟨S16384x4x8x8, .i1⟩
  | 70 => ⟨S1x1x8x8, .i1⟩
  | 71 => ⟨S16384x4x8x8, .i1⟩
  | 72 => ⟨S16384x4x8x8, .i1⟩
  | 73 => ⟨S16384x4x8x8, .i1⟩
  | 74 => ⟨S16384x4x8x8, .f32⟩
  | 75 => ⟨S_, .f32⟩
  | 76 => ⟨S16384x4x8, .f32⟩
  | 77 => ⟨S_, .f32⟩
  | 78 => ⟨S16384, .f32⟩
  | 79 => ⟨S_, .f32⟩
  | 80 => ⟨S16384, .f32⟩
  | 81 => ⟨S16384, .f32⟩
  | 82 => ⟨S16384x1, .f32⟩
  | 83 => ⟨S16384x4, .f32⟩
  | 84 => ⟨S16384x4, .f32⟩
  | 85 => ⟨S16384x4, .f32⟩
  | 86 => ⟨S_, .f32⟩
  | 87 => ⟨S16384, .f32⟩
  | 88 => ⟨S16384x1, .f32⟩
  | 89 => ⟨S16384x4, .f32⟩
  | 90 => ⟨S16384x4, .f32⟩
  | 91 => ⟨S_, .f32⟩
  | 92 => ⟨S_, .f32⟩
  | 93 => ⟨S16384x4, .f32⟩
  | 94 => ⟨S16384x4, .f32⟩
  | 95 => ⟨S_, .f32⟩
  | 96 => ⟨S16384, .f32⟩
  | 97 => ⟨S16384x1, .f32⟩
  | 98 => ⟨S16384x4x1, .i1⟩
  | 99 => ⟨S_, .f32⟩
  | 100 => ⟨S16384x4x8, .f32⟩
  | 101 => ⟨S16384x4x8, .i1⟩
  | 102 => ⟨S16384x4x8, .i1⟩
  | 103 => ⟨S16384x4x8, .i1⟩
  | 104 => ⟨S_, .f32⟩
  | 105 => ⟨S_, .f32⟩
  | 106 => ⟨S16384x4x8, .f32⟩
  | 107 => ⟨S16384x4x8, .f32⟩
  | 108 => ⟨S16384x4x8, .f32⟩
  | 109 => ⟨S16384x32, .f32⟩
  | 110 => ⟨S16384x4x1, .i1⟩
  | 111 => ⟨S_, .f32⟩
  | 112 => ⟨S16384x4x8, .f32⟩
  | 113 => ⟨S16384x4x8, .i1⟩
  | 114 => ⟨S16384x4x8, .i1⟩
  | 115 => ⟨S16384x4x8, .i1⟩
  | 116 => ⟨S_, .f32⟩
  | 117 => ⟨S_, .f32⟩
  | 118 => ⟨S16384x4x8, .f32⟩
  | 119 => ⟨S16384x4x8, .f32⟩
  | 120 => ⟨S16384x4x8, .f32⟩
  | 121 => ⟨S16384x32, .f32⟩
  | 122 => ⟨S16384x32, .f32⟩
  | 123 => ⟨S16384x32, .f32⟩
  | 124 => ⟨S16384x32, .f32⟩
  | 125 => ⟨S_, .f32⟩
  | 126 => ⟨S16384, .f32⟩
  | 127 => ⟨S16384x1, .f32⟩
  | _ => ⟨S16384x2048, .f32⟩

abbrev hbmTy0_1 (i : Nat) : BufTy := match i % 128 with
  | 0 => ⟨S16384x32, .f32⟩
  | 1 => ⟨S16384x32, .f32⟩
  | 2 => ⟨S_, .f32⟩
  | 3 => ⟨S16384, .f32⟩
  | 4 => ⟨S16384x1, .f32⟩
  | 5 => ⟨S16384x2, .f32⟩
  | 6 => ⟨S_, .f32⟩
  | 7 => ⟨S16384, .f32⟩
  | 8 => ⟨S_, .f32⟩
  | 9 => ⟨S16384, .f32⟩
  | 10 => ⟨S16384, .f32⟩
  | 11 => ⟨S16384x1, .f32⟩
  | 12 => ⟨S16384x2, .f32⟩
  | 13 => ⟨S16384x2, .f32⟩
  | 14 => ⟨S16384x2, .f32⟩
  | 15 => ⟨S_, .f32⟩
  | 16 => ⟨S16384, .f32⟩
  | 17 => ⟨S16384x1, .f32⟩
  | 18 => ⟨S16384x2, .f32⟩
  | 19 => ⟨S16384x2, .f32⟩
  | 20 => ⟨S16384x2, .f32⟩
  | 21 => ⟨S16384x2, .f32⟩
  | 22 => ⟨S16384x32, .f32⟩
  | 23 => ⟨S16384, .i32⟩
  | 24 => ⟨S1x16384, .i32⟩
  | 25 => ⟨S16384x1, .i32⟩
  | 26 => ⟨S16384x16384, .i32⟩
  | 27 => ⟨S16384x16384, .i32⟩
  | 28 => ⟨S16384x16384, .i1⟩
  | 29 => ⟨S16384x16384, .f32⟩
  | 30 => ⟨S16384x32, .f32⟩
  | 31 => ⟨S32, .i32⟩
  | 32 => ⟨S32, .f32⟩
  | 33 => ⟨S1x32, .f32⟩
  | 34 => ⟨S16384x32, .f32⟩
  | 35 => ⟨S16384x32, .f32⟩
  | 36 => ⟨S16384x32, .f32⟩
  | 37 => ⟨S_, .f32⟩
  | 38 => ⟨S16384, .f32⟩
  | 39 => ⟨S16384x1, .f32⟩
  | 40 => ⟨S16384x32, .f32⟩
  | 41 => ⟨S16384x32, .f32⟩
  | 42 => ⟨S16384x32, .f32⟩
  | 43 => ⟨S_, .f32⟩
  | 44 => ⟨S16384, .f32⟩
  | 45 => ⟨S16384x1, .f32⟩
  | 46 => ⟨S16384x32, .f32⟩
  | 47 => ⟨S16384x32, .f32⟩
  | 48 => ⟨S_, .f32⟩
  | 49 => ⟨S16384, .f32⟩
  | 50 => ⟨S16384x1, .f32⟩
  | 51 => ⟨S16384x32, .f32⟩
  | 52 => ⟨S16384x32, .f32⟩
  | 53 => ⟨S_, .f32⟩
  | 54 => ⟨S16384, .f32⟩
  | 55 => ⟨S16384x1, .f32⟩
  | 56 => ⟨S_, .f32⟩
  | 57 => ⟨S16384x122, .f32⟩
  | 58 => ⟨S16384x128, .f32⟩
  | 59 => ⟨S16384x32, .f32⟩
  | 60 => ⟨S_, .f32⟩
  | 61 => ⟨S32, .f32⟩
  | 62 => ⟨S1x32, .f32⟩
  | 63 => ⟨S_, .f32⟩
  | 64 => ⟨S1x96, .f32⟩
  | 65 => ⟨S1x128, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_cst_5 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_call0_v0 : Ref sig .tc := ⟨.hbm, 92, rfl⟩
abbrev main_call0_v1 : Ref sig .tc := ⟨.hbm, 93, rfl⟩
abbrev main_v76 : Ref sig .tc := ⟨.hbm, 94, rfl⟩
abbrev main_cst_9 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_cst_12 : Ref sig .tc := ⟨.hbm, 105, rfl⟩
abbrev main_call1_v0 : Ref sig .tc := ⟨.hbm, 106, rfl⟩
abbrev main_call1_v1 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_cst_15 : Ref sig .tc := ⟨.hbm, 117, rfl⟩
abbrev main_call2_v0 : Ref sig .tc := ⟨.hbm, 118, rfl⟩
abbrev main_call2_v1 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_16 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_cst_19 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_20 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_21 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_22 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_23 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_24 : Ref sig .tc := ⟨.hbm, 181, rfl⟩
abbrev main_v144 : Ref sig .tc := ⟨.hbm, 182, rfl⟩
abbrev main_v145 : Ref sig .tc := ⟨.hbm, 183, rfl⟩
abbrev main_cst_25 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_26 : Ref sig .tc := ⟨.hbm, 188, rfl⟩
abbrev main_v149 : Ref sig .tc := ⟨.hbm, 189, rfl⟩
abbrev main_v150 : Ref sig .tc := ⟨.hbm, 190, rfl⟩
abbrev main_cst_27 : Ref sig .tc := ⟨.hbm, 191, rfl⟩
abbrev main_v151 : Ref sig .tc := ⟨.hbm, 192, rfl⟩
abbrev main_v152 : Ref sig .tc := ⟨.hbm, 193, rfl⟩

abbrev nD : Nat := 1
abbrev τ : Topo := Topo.v7x

variable {F : FTy → Type} [FloatOps F]
-- ==== Positions.lean ====
abbrev S16384x128 : Shape := ⟨2, ![16384, 128]⟩
abbrev S1x128 : Shape := ⟨2, ![1, 128]⟩
abbrev S512x128 : Shape := ⟨2, ![512, 128]⟩
abbrev S512x1 : Shape := ⟨2, ![512, 1]⟩
abbrev S512 : Shape := ⟨1, ![512]⟩

abbrev nBuf : Space → Nat
  | .hbm => 3
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PositionsRefIdeal.lean ====
abbrev S16384x128 : Shape := ⟨2, ![16384, 128]⟩
abbrev S1x128 : Shape := ⟨2, ![1, 128]⟩
abbrev S16384x2 : Shape := ⟨2, ![16384, 2]⟩
abbrev S16384x2x1 : Shape := ⟨3, ![16384, 2, 1]⟩
abbrev S128 : Shape := ⟨1, ![128]⟩
abbrev S1x1x128 : Shape := ⟨3, ![1, 1, 128]⟩
abbrev S16384x2x128 : Shape := ⟨3, ![16384, 2, 128]⟩
abbrev S_ : Shape := ⟨0, ![]⟩
abbrev S16384x126 : Shape := ⟨2, ![16384, 126]⟩

abbrev nBuf : Space → Nat
  | .hbm => 18
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x2, .f32⟩
  | .hbm, ⟨3, _⟩ => ⟨S16384x2x1, .f32⟩
  | .hbm, ⟨4, _⟩ => ⟨S128, .i32⟩
  | .hbm, ⟨5, _⟩ => ⟨S128, .f32⟩
  | .hbm, ⟨6, _⟩ => ⟨S1x1x128, .f32⟩
  | .hbm, ⟨7, _⟩ => ⟨S16384x2x128, .f32⟩
  | .hbm, ⟨8, _⟩ => ⟨S16384x2x128, .f32⟩
  | .hbm, ⟨9, _⟩ => ⟨S16384x2x128, .i1⟩
  | .hbm, ⟨10, _⟩ => ⟨S16384x2x128, .f32⟩
  | .hbm, ⟨11, _⟩ => ⟨S128, .f32⟩
  | .hbm, ⟨12, _⟩ => ⟨S16384x2, .f32⟩
  | .hbm, ⟨13, _⟩ => ⟨S16384x2, .f32⟩
  | .hbm, ⟨14, _⟩ => ⟨S16384x2, .f32⟩
  | .hbm, ⟨15, _⟩ => ⟨S_, .f32⟩
  | .hbm, ⟨16, _⟩ => ⟨S16384x126, .f32⟩
  | .hbm, ⟨17, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Dilated.lean ====
abbrev S2x8192x2048 : Shape := ⟨3, ![2, 8192, 2048]⟩
abbrev S4 : Shape := ⟨1, ![4]⟩
abbrev S2x8192x512 : Shape := ⟨3, ![2, 8192, 512]⟩
abbrev S1x2048x128 : Shape := ⟨3, ![1, 2048, 128]⟩
abbrev S3x2048x128 : Shape := ⟨3, ![3, 2048, 128]⟩
abbrev S1 : Shape := ⟨1, ![1]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S128 : Shape := ⟨1, ![128]⟩
abbrev S128x1 : Shape := ⟨2, ![128, 1]⟩
abbrev S2048x128 : Shape := ⟨2, ![2048, 128]⟩

abbrev nBuf : Space → Nat
  | .hbm => 3
  | .vmem => 15
  | .smem => 1
  | _ => 0

abbrev bufTy : (tb : Table) → Fin (tcTables nBuf tb) → BufTy
  | .hbm, ⟨0, _⟩ => ⟨S2x8192x2048, .f32⟩
  | .hbm, ⟨1, _⟩ => ⟨S4, .f32⟩
  | .hbm, ⟨2, _⟩ => ⟨S2x8192x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .bf16⟩
  | .local _ .vmem, ⟨11, _⟩ => ⟨S1x2048x128, .bf16⟩
  | .local _ .vmem, ⟨12, _⟩ => ⟨S3x2048x128, .f32⟩
  | .local _ .vmem, ⟨13, _⟩ => ⟨S3x2048x128, .f32⟩
  | .local _ .vmem, ⟨14, _⟩ => ⟨S3x2048x128, .f32⟩
  | .local _ .smem, ⟨0, _⟩ => ⟨S4, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 4], ![false, false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c8_i32 : BitVec 32 := 8#32
  let v2 : BitVec 32 := Scalar.addi c8_i32 arg1
  let c0_i32_0 : BitVec 32 := 0#32
  ![arg0.toNat, v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DilatedIdeal.lean ====
variable {F : FTy → Type} [FloatOps F] [Named F]
def κ : String → Option EReal := fun
  | "log2e" => some (((Real.log 2)⁻¹ : ℝ) : EReal)
  | "mask" => some ⊥
  | _ => none
-- ==== DilatedRefIdeal.lean ====
abbrev S2x8192x2048 : Shape := ⟨3, ![2, 8192, 2048]⟩
abbrev S4 : Shape := ⟨1, ![4]⟩
abbrev S2x8192x512 : Shape := ⟨3, ![2, 8192, 512]⟩
abbrev S2x8192x4x128 : Shape := ⟨4, ![2, 8192, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x4x8192x8192 : Shape := ⟨4, ![2, 4, 8192, 8192]⟩
abbrev S_ : Shape := ⟨0, ![]⟩
abbrev S1x4x1x1 : Shape := ⟨4, ![1, 4, 1, 1]⟩
abbrev S1x1x8192x8192 : Shape := ⟨4, ![1, 1, 8192, 8192]⟩
abbrev S1x4x8192x8192 : Shape := ⟨4, ![1, 4, 8192, 8192]⟩
abbrev S2x4x8192x128 : Shape := ⟨4, ![2, 4, 8192, 128]⟩
abbrev S2x4x8192 : Shape := ⟨3, ![2, 4, 8192]⟩
abbrev S2x4x8192x1 : Shape := ⟨4, ![2, 4, 8192, 1]⟩

abbrev nBuf : Space → Nat
  | .hbm => 134
  | .vmem => 0
  | .smem => 0
  | _ => 0

abbrev hbmTy0_0 (i : Nat) : BufTy := match i % 128 with
  | 0 => ⟨S2x8192x2048, .f32⟩
  | 1 => ⟨S4, .f32⟩
  | 2 => ⟨S2x8192x512, .f32⟩
  | 3 => ⟨S2x8192x4x128, .f32⟩
  | 4 => ⟨S2x8192x512, .f32⟩
  | 5 => ⟨S2x8192x4x128, .f32⟩
  | 6 => ⟨S2x8192x512, .f32⟩
  | 7 => ⟨S2x8192x4x128, .f32⟩
  | 8 => ⟨S8192, .i32⟩
  | 9 => ⟨S8192, .f32⟩
  | 10 => ⟨S8192x1, .f32⟩
  | 11 => ⟨S1x8192, .f32⟩
  | 12 => ⟨S8192x8192, .f32⟩
  | 13 => ⟨S8192x8192, .f32⟩
  | 14 => ⟨S8192x8192, .f32⟩
  | 15 => ⟨S2x4x8192x8192, .f32⟩
  | 16 => ⟨S_, .f32⟩
  | 17 => ⟨S_, .f32⟩
  | 18 => ⟨S2x4x8192x8192, .f32⟩
  | 19 => ⟨S2x4x8192x8192, .f32⟩
  | 20 => ⟨S1x4x1x1, .f32⟩
  | 21 => ⟨S1x1x8192x8192, .f32⟩
  | 22 => ⟨S1x4x8192x8192, .f32⟩
  | 23 => ⟨S1x4x8192x8192, .f32⟩
  | 24 => ⟨S1x4x8192x8192, .f32⟩
  | 25 => ⟨S2x4x8192x8192, .f32⟩
  | 26 => ⟨S2x4x8192x8192, .f32⟩
  | 27 => ⟨S2x4x8192x8192, .f32⟩
  | 28 => ⟨S_, .i32⟩
  | 29 => ⟨S8192, .i32⟩
  | 30 => ⟨S8192, .i32⟩
  | 31 => ⟨S8192x1, .i32⟩
  | 32 => ⟨S1x8192, .i32⟩
  | 33 => ⟨S8192x8192, .i32⟩
  | 34 => ⟨S8192x8192, .i32⟩
  | 35 => ⟨S8192x8192, .i1⟩
  | 36 => ⟨S1x8192, .i32⟩
  | 37 => ⟨S8192x1, .i32⟩
  | 38 => ⟨S8192x8192, .i32⟩
  | 39 => ⟨S8192x8192, .i32⟩
  | 40 => ⟨S8192x8192, .i1⟩
  | 41 => ⟨S8192x8192, .i1⟩
  | 42 => ⟨S8192x1, .i32⟩
  | 43 => ⟨S1x8192, .i32⟩
  | 44 => ⟨S_, .i32⟩
  | 45 => ⟨S1x8192, .i32⟩
  | 46 => ⟨S1x8192, .i32⟩
  | 47 => ⟨S8192x8192, .i32⟩
  | 48 => ⟨S8192x8192, .i32⟩
  | 49 => ⟨S8192x8192, .i1⟩
  | 50 => ⟨S8192x8192, .i1⟩
  | 51 => ⟨S1x1x8192x8192, .i1⟩
  | 52 => ⟨S_, .f32⟩
  | 53 => ⟨S_, .f32⟩
  | 54 => ⟨S2x4x8192x8192, .i1⟩
  | 55 => ⟨S2x4x8192x8192, .f32⟩
  | 56 => ⟨S2x4x8192x8192, .f32⟩
  | 57 => ⟨S2x4x8192x128, .f32⟩
  | 58 => ⟨S_, .f32⟩
  | 59 => ⟨S2x4x8192, .f32⟩
  | 60 => ⟨S_, .i32⟩
  | 61 => ⟨S8192, .i32⟩
  | 62 => ⟨S8192, .i32⟩
  | 63 => ⟨S8192x1, .i32⟩
  | 64 => ⟨S1x8192, .i32⟩
  | 65 => ⟨S8192x8192, .i32⟩
  | 66 => ⟨S8192x8192, .i32⟩
  | 67 => ⟨S8192x8192, .i1⟩
  | 68 => ⟨S1x8192, .i32⟩
  | 69 => ⟨S8192x1, .i32⟩
  | 70 => ⟨S8192x8192, .i32⟩
  | 71 => ⟨S8192x8192, .i32⟩
  | 72 => ⟨S8192x8192, .i1⟩
  | 73 => ⟨S8192x8192, .i1⟩
  | 74 => ⟨S8192x1, .i32⟩
  | 75 => ⟨S1x8192, .i32⟩
  | 76 => ⟨S_, .i32⟩
  | 77 => ⟨S1x8192, .i32⟩
  | 78 => ⟨S1x8192, .i32⟩
  | 79 => ⟨S8192x8192, .i32⟩
  | 80 => ⟨S8192x8192, .i32⟩
  | 81 => ⟨S8192x8192, .i1⟩
  | 82 => ⟨S8192x8192, .i1⟩
  | 83 => ⟨S1x1x8192x8192, .i1⟩
  | 84 => ⟨S_, .f32⟩
  | 85 => ⟨S_, .f32⟩
  | 86 => ⟨S2x4x8192x8192, .i1⟩
  | 87 => ⟨S2x4x8192x8192, .f32⟩
  | 88 => ⟨S2x4x8192x8192, .f32⟩
  | 89 => ⟨S2x4x8192x128, .f32⟩
  | 90 => ⟨S_, .f32⟩
  | 91 => ⟨S2x4x8192, .f32⟩
  | 92 => ⟨S_, .i32⟩
  | 93 => ⟨S8192, .i32⟩
  | 94 => ⟨S8192, .i32⟩
  | 95 => ⟨S8192x1, .i32⟩
  | 96 => ⟨S1x8192, .i32⟩
  | 97 => ⟨S8192x8192, .i32⟩
  | 98 => ⟨S8192x8192, .i32⟩
  | 99 => ⟨S8192x8192, .i1⟩
  | 100 => ⟨S1x8192, .i32⟩
  | 101 => ⟨S8192x1, .i32⟩
  | 102 => ⟨S8192x8192, .i32⟩
  | 103 => ⟨S8192x8192, .i32⟩
  | 104 => ⟨S8192x8192, .i1⟩
  | 105 => ⟨S8192x8192, .i1⟩
  | 106 => ⟨S8192x1, .i32⟩
  | 107 => ⟨S1x8192, .i32⟩
  | 108 => ⟨S_, .i32⟩
  | 109 => ⟨S1x8192, .i32⟩
  | 110 => ⟨S1x8192, .i32⟩
  | 111 => ⟨S8192x8192, .i32⟩
  | 112 => ⟨S8192x8192, .i32⟩
  | 113 => ⟨S8192x8192, .i1⟩
  | 114 => ⟨S8192x8192, .i1⟩
  | 115 => ⟨S1x1x8192x8192, .i1⟩
  | 116 => ⟨S_, .f32⟩
  | 117 => ⟨S_, .f32⟩
  | 118 => ⟨S2x4x8192x8192, .i1⟩
  | 119 => ⟨S2x4x8192x8192, .f32⟩
  | 120 => ⟨S2x4x8192x8192, .f32⟩
  | 121 => ⟨S2x4x8192x128, .f32⟩
  | 122 => ⟨S_, .f32⟩
  | 123 => ⟨S2x4x8192, .f32⟩
  | 124 => ⟨S2x4x8192x128, .f32⟩
  | 125 => ⟨S2x4x8192x128, .f32⟩
  | 126 => ⟨S2x4x8192, .f32⟩
  | 127 => ⟨S2x4x8192, .f32⟩
  | _ => ⟨S2x8192x2048, .f32⟩

abbrev hbmTy0_1 (i : Nat) : BufTy := match i % 128 with
  | 0 => ⟨S2x4x8192x1, .f32⟩
  | 1 => ⟨S2x4x8192x128, .f32⟩
  | 2 => ⟨S2x4x8192x128, .f32⟩
  | 3 => ⟨S2x8192x4x128, .f32⟩
  | 4 => ⟨S2x8192x512, .f32⟩
  | 5 => ⟨S2x8192x512, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_c_0 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_1 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_c_3 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_c_4 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_c_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_c_8 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_9 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v97 : Ref sig .tc := ⟨.hbm, 120, rfl⟩
abbrev main_v98 : Ref sig .tc := ⟨.hbm, 121, rfl⟩
abbrev main_cst_10 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩

abbrev nD : Nat := 1
abbrev τ : Topo := Topo.v7x

variable {F : FTy → Type} [FloatOps F]
-- ==== Proof.ExpertIdealBody.lean ====
/- The body of the experts' kernel at one tile of rows, run on symbolic buffers: whichever of its four paths the table's
   words choose, the three scratch buffers end holding the tile's expert's weights, and the tile of results is the gated
   product of the tile's rows, or zero where the tile is not in use. -/
module

public import proofs.«01_k».proof.Proof.Gen.ExpertIdeal.Skeleton
public import proofs.«01_k».proof.Proof.Gen.ExpertIdeal.Launch
public import Idealize.ShloMosaic.Lib.VecWindow
public import Idealize.ShloMosaic.Lib.Pipeline.TableIdle

@[expose] public section

set_option maxRecDepth 16384

noncomputable section

namespace Cert.ExpertIdeal.Own

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The two prefetched tables and the three scratch buffers, whole. -/
abbrev tb0 : Memref sig .tc .smem S160 .i32 := Memref.whole main_arg0
abbrev tb1 : Memref sig .tc .smem S1 .i32 := Memref.whole main_arg1
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The table's word at the tile, and at the tile before (at the first tile, its own). -/
abbrev wordAt (i : grid0.Coords) (T0 : S160.Idx → Elt F .i32) : BitVec 32 :=
  View.readAt (Elt F) tb0.view (Rect.unit (s := S160) (k0_off1 i) S1.size (k0_off1_inb i)).toLoadRect T0 (Shape.Idx.first (numel1_S1.symm ▸ Nat.one_pos))
abbrev wordBefore (i : grid0.Coords) (T0 : S160.Idx → Elt F .i32) : BitVec 32 :=
  View.readAt (Elt F) tb0.view (Rect.unit (s := S160) (k0_off2 i) S1.size (k0_off2_inb i)).toLoadRect T0 (Shape.Idx.first (numel1_S1.symm ▸ Nat.one_pos))
/-- The number of tiles in use. -/
abbrev usedWord (T1 : S1.Idx → Elt F .i32) : BitVec 32 :=
  View.readAt (Elt F) tb1.view (Rect.unit (s := S1) ![0] S1.size inb_S1_S1_0).toLoadRect T1 (Shape.Idx.first (numel1_S1.symm ▸ Nat.one_pos))
/-- The tile starts a new expert. -/
abbrev newCond (i : grid0.Coords) (T0 : S160.Idx → Elt F .i32) : BitVec 1 :=
  Scalar.cmpi .ne (Scalar.extui (Scalar.ori (Scalar.cmpi .eq (BitVec.ofNat 32 (i 0).val) 0#32) (Scalar.cmpi .ne (wordAt i T0) (wordBefore i T0)))) 0#32

/-- A tile is past the tiles in use exactly when it is not one of them. -/
theorem cond3_iff (i : grid0.Coords) (w : BitVec 32) : (k0_cond3 i w = 1#1) = ¬k0_cond2 i w = 1#1 := by
  have e (b : Bool) : (Scalar.cmpi .ne (Scalar.extui (BitVec.ofBool b) : BitVec 32) 0#32 = 1#1) = (b = true) := by cases b <;> decide
  unfold k0_cond3 k0_cond2
  simp only [Scalar.cmpi, IntOp.cmpi] at e ⊢
  rw [e, e]
  simp [BitVec.sle, BitVec.slt]

/-- The result of a tile from what the scratch buffers hold. -/
def outOf (i : grid0.Coords) (T1 : S1.Idx → Elt F .i32) (x : S256x2048.Idx → Elt F .f32) (s1 s3 : S2048x512.Idx → Elt F .bf16)
    (s2 : S512x2048.Idx → Elt F .bf16) : S256x2048.Idx → Elt F .f32 :=
  if k0_cond2 i (usedWord (F := F) T1) = 1#1 then k0_pay4 x s1 s3 s2 else k0_pay5

theorem pay4_congr {x x' : S256x2048.Idx → Elt F .f32} {a a' b b' : S2048x512.Idx → Elt F .bf16} {d d' : S512x2048.Idx → Elt F .bf16}
    (hx : x = x') (ha : a = a') (hb : b = b') (hd : d = d') : k0_pay4 x a b d = k0_pay4 x' a' b' d' := by
  subst hx ha hb hd; rfl

set_option maxHeartbeats 8000000 in
/-- THE BODY at a tile: from the tables, the four blocks, the output's buffer and the scratch buffers, to the scratch buffers
    holding `s1 s3 s2` — the tile's expert's weights where the tile starts a new expert, what they held otherwise — and the
    output's buffer at `outOf`. -/
theorem body_run (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole)
    (T0 : S160.Idx → Elt F .i32) (T1 : S1.Idx → Elt F .i32)
    (x0 : S256x2048.Idx → Elt F .f32) (x1 x2 : S1x2048x512.Idx → Elt F .f32) (x3 : S1x512x2048.Idx → Elt F .f32)
    (a1 a3 s1 s3 : S2048x512.Idx → Elt F .bf16) (a2 s2 : S512x2048.Idx → Elt F .bf16)
    (hnew : newCond i T0 = 1#1 → s1 = k0_pay1 x1 ∧ s3 = k0_pay2 x2 ∧ s2 = k0_pay3 x3)
    (hold : ¬newCond i T0 = 1#1 → s1 = a1 ∧ s3 = a3 ∧ s2 = a2) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ (∃ d, owns (c : Thread nD τ) arg7 fullShare d)
          ∗ (sc0.view.loc (c : Thread nD τ) ↦[sc0.view.set]{fullShare} sc0.view.rep a1)
          ∗ (sc1.view.loc (c : Thread nD τ) ↦[sc1.view.set]{fullShare} sc1.view.rep a3)
          ∗ (sc2.view.loc (c : Thread nD τ) ↦[sc2.view.set]{fullShare} sc2.view.rep a2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tb0.view.loc (c : Thread nD τ) ↦{fullShare.right} T0)
              ∗ (tb1.view.loc (c : Thread nD τ) ↦{fullShare.right} T1)
              ∗ owns (c : Thread nD τ) arg7 fullShare (outOf i T1 x0 s1 s3 s2)
              ∗ owns (c : Thread nD τ) sc0 fullShare s1
              ∗ owns (c : Thread nD τ) sc1 fullShare s3
              ∗ owns (c : Thread nD τ) sc2 fullShare s2) -∗ K ⟨⟩))
      ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_moe_experts_eq_skeleton]; unfold cc0_moe_experts_skel
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  by_cases hc0 : newCond i T0 = 1#1
  on_goal 1 => obtain ⟨rfl, rfl, rfl⟩ := hnew hc0
  on_goal 2 => obtain ⟨rfl, rfl, rfl⟩ := hold hc0
  all_goals
    by_cases h2 : k0_cond2 i (usedWord (F := F) T1) = 1#1
    on_goal 1 => have h3 : ¬k0_cond3 i (usedWord (F := F) T1) = 1#1 := fun h => ((cond3_iff _ _).mp h) h2
    on_goal 2 => have h3 : k0_cond3 i (usedWord (F := F) T1) = 1#1 := (cond3_iff _ _).mpr h2
  all_goals
    iintro ⟨H0, H1, H2, H3, HT0, HT1, ⟨%d4, %f4, -, HO4⟩, HS0, HS1, HS2, Hk⟩
    sl_exec (disch := first
      | (guard_target = Scalar.cmpi _ _ _ = _; exact hc0) | (guard_target = ¬(Scalar.cmpi _ _ _ = _); exact hc0)
      | (guard_target = k0_cond2 _ _ = _; exact h2) | (guard_target = ¬(k0_cond2 _ _ = _); exact h2)
      | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      · iexact HO4
      · ipureintro
        refine (View.read_writes_full _ _ _ _ _).trans ?_
        unfold outOf
        first
          | (rw [if_neg h2]; done)
          | (rw [if_pos h2]
             exact pay4_congr (View.readAt_rep_full _ _ _) (View.readAt_rep_full _ _ _) (View.readAt_rep_full _ _ _) (View.readAt_rep_full _ _ _))
          | (rw [if_pos h2]
             exact pay4_congr (View.readAt_rep_full _ _ _)
               ((View.readCov_full _ _ _ _ _).trans (congrArg k0_pay1 (View.readAt_rep_full _ _ _)))
               ((View.readCov_full _ _ _ _ _).trans (congrArg k0_pay2 (View.readAt_rep_full _ _ _)))
               ((View.readCov_full _ _ _ _ _).trans (congrArg k0_pay3 (View.readAt_rep_full _ _ _))))
    isplitl [HS0]
    · iexists _; isplitr; swap
      · iexact HS0
      · ipureintro; first | rw [View.read_rep] | exact (View.read_writes_full _ _ _ _ _).trans (congrArg k0_pay1 (View.readAt_rep_full _ _ _))
    isplitl [HS1]
    · iexists _; isplitr; swap
      · iexact HS1
      · ipureintro; first | rw [View.read_rep] | exact (View.read_writes_full _ _ _ _ _).trans (congrArg k0_pay2 (View.readAt_rep_full _ _ _))
    iexists _; isplitr; swap
    · iexact HS2
    · ipureintro; first | rw [View.read_rep] | exact (View.read_writes_full _ _ _ _ _).trans (congrArg k0_pay3 (View.readAt_rep_full _ _ _))

end Cert.ExpertIdeal.Own

end
-- ==== Proof.ExpertIdealRun.lean ====
/- The experts' kernel over its 160 tiles, at any table that names an expert for every tile: what each tile's buffers hold
   when the body runs, the body's obligation, the launch, and the argument arrays left unchanged. -/
module

public import proofs.«01_k».proof.Proof.ExpertIdealBody
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Pipeline.ValueKit
public import Idealize.ShloMosaic.Lib.Pipeline.Covers
public import Idealize.ShloMosaic.Adequacy
public import Idealize.ShloMosaic.Init

@[expose] public section

set_option maxRecDepth 16384

noncomputable section

namespace Cert.ExpertIdeal.Own

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-! ## The tables -/

/-- Every tile's word names one of the 64 experts. -/
def Named (T0 : S160.Idx → BitVec 32) : Prop := ∀ j, (T0 j).toNat < 64

theorem coord_lt (i : grid0.Coords) : (i 0).val < 160 := (i 0).isLt

/-- Place `n` of the table. -/
def place (n : ℕ) (h : n < 160) : S160.Idx := fun a => match a with | ⟨0, _⟩ => ⟨n, h⟩

theorem coord_word (i : grid0.Coords) : (BitVec.ofNat 32 (i 0).val).toNat = (i 0).val := by
  rw [BitVec.toNat_ofNat]; exact Nat.mod_eq_of_lt (by have := coord_lt i; omega)

theorem before_word (n : ℕ) (h : n < 160) :
    (Scalar.indexCast (Scalar.maxsi (Scalar.subi (BitVec.ofNat 32 n) 1#32) 0#32) : Index).toNat = n - 1 := by
  have key : ∀ n : Fin 160, (Scalar.indexCast (Scalar.maxsi (Scalar.subi (BitVec.ofNat 32 n.val) 1#32) 0#32) : Index).toNat = n.val - 1 := by
    decide +kernel
  exact key ⟨n, h⟩

theorem wordAt_eq (i : grid0.Coords) (T0 : S160.Idx → Elt F .i32) : wordAt i T0 = T0 (place (i 0).val (coord_lt i)) := by
  unfold wordAt View.readAt
  refine congrArg T0 (funext fun a => Fin.ext ?_)
  match a with
  | ⟨0, _⟩ =>
    show k0_off1 i 0 + 1 * 0 = (i 0).val
    exact coord_word i

theorem before_lt (i : grid0.Coords) : (i 0).val - 1 < 160 := lt_of_le_of_lt (Nat.sub_le _ _) (coord_lt i)

theorem wordBefore_eq (i : grid0.Coords) (T0 : S160.Idx → Elt F .i32) : wordBefore i T0 = T0 (place ((i 0).val - 1) (before_lt i)) := by
  unfold wordBefore View.readAt
  refine congrArg T0 (funext fun a => Fin.ext ?_)
  match a with
  | ⟨0, _⟩ =>
    show k0_off2 i 0 + 1 * 0 = (i 0).val - 1
    exact before_word _ (coord_lt i)

/-- A tile that does not start a new expert is not the first, and its word is the word of the tile before. -/
theorem not_new {i : grid0.Coords} {T0 : S160.Idx → Elt F .i32} (h : ¬newCond i T0 = 1#1) :
    (i 0).val ≠ 0 ∧ T0 (place (i 0).val (coord_lt i)) = T0 (place ((i 0).val - 1) (before_lt i)) := by
  have e : ∀ b b' : Bool, ¬(Scalar.cmpi .ne (Scalar.extui (Scalar.ori (BitVec.ofBool b) (BitVec.ofBool b')) : BitVec 32) 0#32 = 1#1) →
      b = false ∧ b' = false := by decide
  unfold newCond at h
  rw [wordAt_eq, wordBefore_eq] at h
  obtain ⟨h1, h2⟩ := e _ _ h
  constructor
  · intro h0; rw [h0] at h1; exact absurd h1 (by decide)
  · by_contra hne
    exact absurd h2 (by simp [hne])

/-- The tables as the pipeline holds them. -/
abbrev pfAt (T0 : S160.Idx → Elt F .i32) (T1 : S1.Idx → Elt F .i32) : pre0.Contents (Elt F) := fun
  | ⟨0, _⟩ => T0 | ⟨1, _⟩ => T1 | ⟨_ + 2, h⟩ => absurd h (Nat.not_lt.2 (Nat.le_add_left _ _))

theorem word_pf (i : grid0.Coords) (T0 : S160.Idx → Elt F .i32) (T1 : S1.Idx → Elt F .i32) :
    cc0_transform_1 k0_off1_inb numel1_S1 (pfAt T0 T1) i = ![(T0 (place (i 0).val (coord_lt i)) : BitVec 32).toNat, 0, 0] := by
  rw [← wordAt_eq i T0]; rfl

theorem in_both (v : ℕ) (h : v < 64) : ∀ a : Fin 3, (![v, 0, 0] a + 1) * S1x2048x512.size a ≤ S64x2048x512.size a := by
  have h0 : (v + 1) * 1 ≤ 64 := by omega
  have h1 : (0 + 1) * 2048 ≤ 2048 := by omega
  have h2 : (0 + 1) * 512 ≤ 512 := by omega
  exact fun a => match a with | ⟨0, _⟩ => h0 | ⟨1, _⟩ => h1 | ⟨2, _⟩ => h2

theorem in_down (v : ℕ) (h : v < 64) : ∀ a : Fin 3, (![v, 0, 0] a + 1) * S1x512x2048.size a ≤ S64x512x2048.size a := by
  have h0 : (v + 1) * 1 ≤ 64 := by omega
  have h1 : (0 + 1) * 512 ≤ 512 := by omega
  have h2 : (0 + 1) * 2048 ≤ 2048 := by omega
  exact fun a => match a with | ⟨0, _⟩ => h0 | ⟨1, _⟩ => h1 | ⟨2, _⟩ => h2

/-- Tables that name an expert at every tile are admissible: every block lies inside its array. -/
theorem ok_pf (T0 : S160.Idx → Elt F .i32) (T1 : S1.Idx → Elt F .i32) (h : Named T0) : ok0 (pfAt T0 T1) := by
  have e2 : ∀ i, cc0_transform_2 k0_off1_inb numel1_S1 (pfAt T0 T1) i = _ := fun i => word_pf i T0 T1
  have e3 : ∀ i, cc0_transform_3 k0_off1_inb numel1_S1 (pfAt T0 T1) i = _ := fun i => word_pf i T0 T1
  refine ⟨fun i => ⟨?_, .inl rfl⟩, fun i => ⟨?_, .inl rfl⟩, fun i => ⟨?_, .inl rfl⟩⟩
  · rw [word_pf]; exact in_both _ (h _)
  · rw [e2]; exact in_both _ (h _)
  · rw [e3]; exact in_down _ (h _)

variable (T0 : S160.Idx → Elt F .i32) (T1 : S1.Idx → Elt F .i32) (hN : Named T0)

/-- The pipeline at those tables. -/
def adm : (pcfg0 (F := F)).Adm := ⟨pfAt T0 T1, ok_pf T0 T1 hN⟩
abbrev cfgA : Pipeline.Cfg sig Λ₀ := cfg0 (F := F) (adm T0 T1 hN)
abbrev pcs : Fin 1 → Pipeline.Cfg sig Λ₀ := Pipeline.pin (pcfgs (F := F)) fun _ => adm T0 T1 hN

/-- The output's buffer is stored at every tile: no tile is idle. -/
theorem idle_out (i : grid0.Coords) : (cfgA T0 T1 hN).idle (4 : Fin 5) i = false := by
  have e : ∀ w : BitVec 32, (!(k0_cond2 i w == 1#1) && !(k0_cond3 i w == 1#1)) = false := by
    intro w
    by_cases h : k0_cond2 i w = 1#1
    · simp [h]
    · simp [(cond3_iff i w).mpr h]
  exact e _

variable (m : (ℓ : Loc nD τ sig) → Buf (Elt F) ℓ) (ρ : Dev nD → PrngReg)

/-! ## A tile's coordinates, staging buffers and blocks -/

abbrev crd (t : Fin (cfgA T0 T1 hN).N) : (cfgA T0 T1 hN).grid.Coords := (cfgA T0 T1 hN).grid.coords t

theorem crd_val (t : Fin (cfgA T0 T1 hN).N) : ((crd T0 T1 hN t) 0).val = t.val :=
  (by decide +kernel : ∀ t : Fin grid0.N, ((grid0.coords t) 0).val = t.val) t

abbrev ms0_0 (t : Fin (cfgA T0 T1 hN).N) : Memref sig .tc .vmem S256x2048 .f32 := spec0_0.stage ((cfgA T0 T1 hN).slots t (0 : Fin 5))
abbrev hs0_0 (t : Fin (cfgA T0 T1 hN).N) : (ms0_0 T0 T1 hN t).IsWhole := hstage0_0 (((cfgA T0 T1 hN).slots t (0 : Fin 5)).cast nbuf0_0)
abbrev ms0_1 (t : Fin (cfgA T0 T1 hN).N) : Memref sig .tc .vmem S1x2048x512 .f32 := spec0_1.stage ((cfgA T0 T1 hN).slots t (1 : Fin 5))
abbrev hs0_1 (t : Fin (cfgA T0 T1 hN).N) : (ms0_1 T0 T1 hN t).IsWhole := hstage0_1 (((cfgA T0 T1 hN).slots t (1 : Fin 5)).cast nbuf0_1)
abbrev ms0_2 (t : Fin (cfgA T0 T1 hN).N) : Memref sig .tc .vmem S1x2048x512 .f32 := spec0_2.stage ((cfgA T0 T1 hN).slots t (2 : Fin 5))
abbrev hs0_2 (t : Fin (cfgA T0 T1 hN).N) : (ms0_2 T0 T1 hN t).IsWhole := hstage0_2 (((cfgA T0 T1 hN).slots t (2 : Fin 5)).cast nbuf0_2)
abbrev ms0_3 (t : Fin (cfgA T0 T1 hN).N) : Memref sig .tc .vmem S1x512x2048 .f32 := spec0_3.stage ((cfgA T0 T1 hN).slots t (3 : Fin 5))
abbrev hs0_3 (t : Fin (cfgA T0 T1 hN).N) : (ms0_3 T0 T1 hN t).IsWhole := hstage0_3 (((cfgA T0 T1 hN).slots t (3 : Fin 5)).cast nbuf0_3)
abbrev ms0_4 (t : Fin (cfgA T0 T1 hN).N) : Memref sig .tc .vmem S256x2048 .f32 := spec0_4.stage ((cfgA T0 T1 hN).slots t (4 : Fin 5))
abbrev hs0_4 (t : Fin (cfgA T0 T1 hN).N) : (ms0_4 T0 T1 hN t).IsWhole := hstage0_4 (((cfgA T0 T1 hN).slots t (4 : Fin 5)).cast nbuf0_4)

/-- Window `w`'s block at tile `t`, read off its array at launch. -/
def iblk (c : Dev nD) (w : Fin (cfgA T0 T1 hN).W) (t : Fin (cfgA T0 T1 hN).N) :
    (((cfgA T0 T1 hN).win w).xblock (crd T0 T1 hN t)).Idx → Elt F ((cfgA T0 T1 hN).win w).elt :=
  (((cfgA T0 T1 hN).win w).blk t).view.read (Elt F) ((s₀ m ρ).mem (((cfgA T0 T1 hN).win w).arr.view.loc (c : Thread nD τ)))

/-- The tile's rows and its expert's three weight matrices. -/
abbrev xs (c : Dev nD) (t : Fin (cfgA T0 T1 hN).N) : S256x2048.Idx → Elt F .f32 := iblk T0 T1 hN m ρ c (0 : Fin 5) t
abbrev wa (c : Dev nD) (t : Fin (cfgA T0 T1 hN).N) : S1x2048x512.Idx → Elt F .f32 := iblk T0 T1 hN m ρ c (1 : Fin 5) t
abbrev wc (c : Dev nD) (t : Fin (cfgA T0 T1 hN).N) : S1x2048x512.Idx → Elt F .f32 := iblk T0 T1 hN m ρ c (2 : Fin 5) t
abbrev wd (c : Dev nD) (t : Fin (cfgA T0 T1 hN).N) : S1x512x2048.Idx → Elt F .f32 := iblk T0 T1 hN m ρ c (3 : Fin 5) t

/-- The expert of tile `t`. -/
def expertAt (i : grid0.Coords) : Fin 64 := ⟨_, hN (place (i 0).val (coord_lt i))⟩

theorem wa_eq (c : Dev nD) (t : Fin (cfgA T0 T1 hN).N) (y : S1x2048x512.Idx) :
    wa T0 T1 hN m ρ c t y = m ((c : Thread nD τ).loc main_arg3) (ValueIdx.ix3 (expertAt T0 hN (crd T0 T1 hN t)) (y 1) (y 2)) := by
  have e : ∀ t : Fin (cfgA T0 T1 hN).N, ((cfgA T0 T1 hN).win (1 : Fin 5)).index t = _ := fun t => word_pf (crd T0 T1 hN t) T0 T1
  unfold expertAt
  blk_ext [wa, iblk, e]

theorem wc_eq (c : Dev nD) (t : Fin (cfgA T0 T1 hN).N) (y : S1x2048x512.Idx) :
    wc T0 T1 hN m ρ c t y = m ((c : Thread nD τ).loc main_arg4) (ValueIdx.ix3 (expertAt T0 hN (crd T0 T1 hN t)) (y 1) (y 2)) := by
  have e : ∀ t : Fin (cfgA T0 T1 hN).N, ((cfgA T0 T1 hN).win (2 : Fin 5)).index t = _ := fun t => word_pf (crd T0 T1 hN t) T0 T1
  unfold expertAt
  blk_ext [wc, iblk, e]

theorem wd_eq (c : Dev nD) (t : Fin (cfgA T0 T1 hN).N) (y : S1x512x2048.Idx) :
    wd T0 T1 hN m ρ c t y = m ((c : Thread nD τ).loc main_arg5) (ValueIdx.ix3 (expertAt T0 hN (crd T0 T1 hN t)) (y 1) (y 2)) := by
  have e : ∀ t : Fin (cfgA T0 T1 hN).N, ((cfgA T0 T1 hN).win (3 : Fin 5)).index t = _ := fun t => word_pf (crd T0 T1 hN t) T0 T1
  unfold expertAt
  blk_ext [wd, iblk, e]

/-- What the scratch buffers hold once tile `t` has run. -/
abbrev ha (c : Dev nD) (t : Fin (cfgA T0 T1 hN).N) : S2048x512.Idx → Elt F .bf16 := k0_pay1 (wa T0 T1 hN m ρ c t)
abbrev hc (c : Dev nD) (t : Fin (cfgA T0 T1 hN).N) : S2048x512.Idx → Elt F .bf16 := k0_pay2 (wc T0 T1 hN m ρ c t)
abbrev hd (c : Dev nD) (t : Fin (cfgA T0 T1 hN).N) : S512x2048.Idx → Elt F .bf16 := k0_pay3 (wd T0 T1 hN m ρ c t)

/-- The tile of results. -/
def outB (c : Dev nD) (t : Fin (cfgA T0 T1 hN).N) : S256x2048.Idx → Elt F .f32 :=
  outOf (crd T0 T1 hN t) T1 (xs T0 T1 hN m ρ c t) (ha T0 T1 hN m ρ c t) (hc T0 T1 hN m ρ c t) (hd T0 T1 hN m ρ c t)

/-- A tile that does not start a new expert has the blocks of the tile before. -/
theorem held (c : Dev nD) (t : Fin (cfgA T0 T1 hN).N) (h : ¬newCond (crd T0 T1 hN t) T0 = 1#1) :
    ∃ h0 : t.val ≠ 0, wa T0 T1 hN m ρ c t = wa T0 T1 hN m ρ c ⟨t.val - 1, by omega⟩
      ∧ wc T0 T1 hN m ρ c t = wc T0 T1 hN m ρ c ⟨t.val - 1, by omega⟩
      ∧ wd T0 T1 hN m ρ c t = wd T0 T1 hN m ρ c ⟨t.val - 1, by omega⟩ := by
  obtain ⟨h0, h1⟩ := not_new h
  have hv := crd_val T0 T1 hN t
  have hv' := crd_val T0 T1 hN ⟨t.val - 1, by omega⟩
  have he : expertAt T0 hN (crd T0 T1 hN t) = expertAt T0 hN (crd T0 T1 hN ⟨t.val - 1, by omega⟩) := by
    unfold expertAt; apply Fin.ext
    show BitVec.toNat (T0 _) = BitVec.toNat (T0 _)
    rw [h1]; congr 2
    have : ∀ n n' (h : n < 160) (h' : n' < 160), n = n' → place n h = place n' h' := by intro n n' h h' e; subst e; rfl
    exact this _ _ _ _ (by rw [hv, hv'])
  refine ⟨by rw [← hv]; exact h0, funext fun y => ?_, funext fun y => ?_, funext fun y => ?_⟩
  · rw [wa_eq, wa_eq, he]
  · rw [wc_eq, wc_eq, he]
  · rw [wd_eq, wd_eq, he]

/-! ## The pipeline's proof data -/

/-- Before tile `t` the scratch buffers hold what the tile before left (before the first tile, anything); the tables are read. -/
def Phi (c : Dev nD) (t : Fin ((cfgA T0 T1 hN).N + 1)) : sProp 𝕄 :=
  iprop((∃ a, ⌜∀ h : t.val ≠ 0, a = ha T0 T1 hN m ρ c ⟨t.val - 1, by omega⟩⌝ ∗ owns (c : Thread nD τ) sc0 fullShare a)
    ∗ (∃ a, ⌜∀ h : t.val ≠ 0, a = hc T0 T1 hN m ρ c ⟨t.val - 1, by omega⟩⌝ ∗ owns (c : Thread nD τ) sc1 fullShare a)
    ∗ (∃ a, ⌜∀ h : t.val ≠ 0, a = hd T0 T1 hN m ρ c ⟨t.val - 1, by omega⟩⌝ ∗ owns (c : Thread nD τ) sc2 fullShare a)
    ∗ (tb0.view.loc (c : Thread nD τ) ↦{fullShare.right} T0)
    ∗ (tb1.view.loc (c : Thread nD τ) ↦{fullShare.right} T1))

/-- The proof data of the one pipeline on core `c`. -/
def dats (_ : Fin 1) (c : Dev nD) : Dat τ (Elt F) Unit ℕ (UR sig nD τ) ℕ (cfgA T0 T1 hN) c where
  A w := (s₀ m ρ).mem (((cfgA T0 T1 hN).win w).arr.view.loc (c : Thread nD τ))
  after w t := match w with
    | ⟨0, _⟩ => iblk T0 T1 hN m ρ c (0 : Fin 5) t
    | ⟨1, _⟩ => iblk T0 T1 hN m ρ c (1 : Fin 5) t
    | ⟨2, _⟩ => iblk T0 T1 hN m ρ c (2 : Fin 5) t
    | ⟨3, _⟩ => iblk T0 T1 hN m ρ c (3 : Fin 5) t
    | ⟨4, _⟩ => outB T0 T1 hN m ρ c t
  Φ t := Phi T0 T1 hN m ρ c t
  q _ := fullShare
  owed _ := 0

theorem after0_0 (c : Dev nD) (t : Fin (cfgA T0 T1 hN).N) : (dats T0 T1 hN m ρ 0 c).after (0 : Fin 5) t = iblk T0 T1 hN m ρ c (0 : Fin 5) t := rfl
theorem after0_1 (c : Dev nD) (t : Fin (cfgA T0 T1 hN).N) : (dats T0 T1 hN m ρ 0 c).after (1 : Fin 5) t = iblk T0 T1 hN m ρ c (1 : Fin 5) t := rfl
theorem after0_2 (c : Dev nD) (t : Fin (cfgA T0 T1 hN).N) : (dats T0 T1 hN m ρ 0 c).after (2 : Fin 5) t = iblk T0 T1 hN m ρ c (2 : Fin 5) t := rfl
theorem after0_3 (c : Dev nD) (t : Fin (cfgA T0 T1 hN).N) : (dats T0 T1 hN m ρ 0 c).after (3 : Fin 5) t = iblk T0 T1 hN m ρ c (3 : Fin 5) t := rfl
theorem after0_4 (c : Dev nD) (t : Fin (cfgA T0 T1 hN).N) : (dats T0 T1 hN m ρ 0 c).after (4 : Fin 5) t = outB T0 T1 hN m ρ c t := rfl

theorem before0_0 (c : Dev nD) (t : Fin (cfgA T0 T1 hN).N) (d) : (dats T0 T1 hN m ρ 0 c).before (0 : Fin 5) t d = iblk T0 T1 hN m ρ c (0 : Fin 5) t :=
  ((dats T0 T1 hN m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 hN).N) (d) : (dats T0 T1 hN m ρ 0 c).before (1 : Fin 5) t d = iblk T0 T1 hN m ρ c (1 : Fin 5) t :=
  ((dats T0 T1 hN m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 hN).N) (d) : (dats T0 T1 hN m ρ 0 c).before (2 : Fin 5) t d = iblk T0 T1 hN m ρ c (2 : Fin 5) t :=
  ((dats T0 T1 hN m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 hN).N) (d) : (dats T0 T1 hN m ρ 0 c).before (3 : Fin 5) t d = iblk T0 T1 hN m ρ c (3 : Fin 5) t :=
  ((dats T0 T1 hN m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-! ## The body obligation -/

/-- The body at tile `t` on its staging buffers, as the pipeline calls it. -/
abbrev bodyAt (t : Fin (cfgA T0 T1 hN).N) : Prog (TpuEff nD τ sig (Elt F) Λ₀ .tc) PUnit :=
  cc0_moe_experts (crd T0 T1 hN t) tb0 (Memref.isWhole_whole _) tb1 (Memref.isWhole_whole _) (ms0_0 T0 T1 hN t) (hs0_0 T0 T1 hN t) (ms0_1 T0 T1 hN t) (hs0_1 T0 T1 hN t)
    (ms0_2 T0 T1 hN t) (hs0_2 T0 T1 hN t) (ms0_3 T0 T1 hN t) (hs0_3 T0 T1 hN t) (ms0_4 T0 T1 hN t) (hs0_4 T0 T1 hN t) sc0 (Memref.isWhole_whole _) sc1 (Memref.isWhole_whole _) sc2 (Memref.isWhole_whole _)

set_option maxHeartbeats 4000000 in
theorem sound_body (c : Dev nD) (t : Fin (cfgA T0 T1 hN).N) :
    iprop((dats T0 T1 hN m ρ 0 c).Φ t.castSucc ∗ (dats T0 T1 hN m ρ 0 c).owesAt () t.castSucc
        ∗ (∃ d, owns (c : Thread nD τ) (ms0_0 T0 T1 hN t) fullShare ((dats T0 T1 hN m ρ 0 c).before (0 : Fin 5) t d))
        ∗ (∃ d, owns (c : Thread nD τ) (ms0_1 T0 T1 hN t) fullShare ((dats T0 T1 hN m ρ 0 c).before (1 : Fin 5) t d))
        ∗ (∃ d, owns (c : Thread nD τ) (ms0_2 T0 T1 hN t) fullShare ((dats T0 T1 hN m ρ 0 c).before (2 : Fin 5) t d))
        ∗ (∃ d, owns (c : Thread nD τ) (ms0_3 T0 T1 hN t) fullShare ((dats T0 T1 hN m ρ 0 c).before (3 : Fin 5) t d))
        ∗ (∃ d, owns (c : Thread nD τ) (ms0_4 T0 T1 hN t) fullShare ((dats T0 T1 hN m ρ 0 c).before (4 : Fin 5) t d)))
      ⊢ wp frame (wpE (defs₀ (F := F)) Variants.none c none) Set.univ (bodyAt T0 T1 hN t) fun _ =>
          iprop((dats T0 T1 hN m ρ 0 c).Φ t.succ ∗ (dats T0 T1 hN m ρ 0 c).owesAt () t.succ
            ∗ bigSep Finset.univ fun w : Fin (cfgA T0 T1 hN).W =>
                match (cfgA T0 T1 hN).idle w ((cfgA T0 T1 hN).grid.coords t) with
                | true =>
                  match ((cfgA T0 T1 hN).win w).flush t with
                  | false => iprop(∃ d, owns (c : Thread nD τ) (((cfgA T0 T1 hN).win w).stage ((cfgA T0 T1 hN).slots t w)) fullShare ((dats T0 T1 hN m ρ 0 c).before w t d))
                  | true => owns (c : Thread nD τ) (((cfgA T0 T1 hN).win w).stage ((cfgA T0 T1 hN).slots t w)) fullShare ((dats T0 T1 hN m ρ 0 c).after w t)
                | false => owns (c : Thread nD τ) (((cfgA T0 T1 hN).win w).stage ((cfgA T0 T1 hN).slots t w)) fullShare ((dats T0 T1 hN m ρ 0 c).after w t)) := by
  rw [bigSep_W0]
  have i4 : (cfgA T0 T1 hN).idle (4 : Fin 5) ((cfgA T0 T1 hN).grid.coords t) = false := idle_out T0 T1 hN _
  rewrite [i4]
  simp only [before0_0, before0_1, before0_2, before0_3, after0_0, after0_1, after0_2, after0_3, after0_4]
  rewrite [show (dats T0 T1 hN m ρ 0 c).Φ t.succ = Phi T0 T1 hN m ρ c t.succ from rfl, show (dats T0 T1 hN m ρ 0 c).Φ t.castSucc = Phi T0 T1 hN m ρ c t.castSucc from rfl,
    show (dats T0 T1 hN m ρ 0 c).owesAt () t.succ = (dats T0 T1 hN m ρ 0 c).owesAt () t.castSucc from rfl]
  unfold Phi
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (body_run c (crd T0 T1 hN t) (ms0_0 T0 T1 hN t) (hs0_0 T0 T1 hN t) (ms0_1 T0 T1 hN t) (hs0_1 T0 T1 hN t) (ms0_2 T0 T1 hN t) (hs0_2 T0 T1 hN t)
    (ms0_3 T0 T1 hN t) (hs0_3 T0 T1 hN t) (ms0_4 T0 T1 hN t) (hs0_4 T0 T1 hN t) T0 T1
    (xs T0 T1 hN m ρ c t) (wa T0 T1 hN m ρ c t) (wc T0 T1 hN m ρ c t) (wd T0 T1 hN m ρ c t) a0 a1
    (ha T0 T1 hN m ρ c t) (hc T0 T1 hN m ρ c t) a2 (hd T0 T1 hN m ρ c t) (fun _ => ⟨rfl, rfl, rfl⟩)
    (fun h => by
      obtain ⟨h0, e1, e2, e3⟩ := held T0 T1 hN m ρ c t h
      have g0 := ha0 h0; have g1 := ha1 h0; have g2 := ha2 h0
      refine ⟨?_, ?_, ?_⟩
      · rw [g0]; exact congrArg k0_pay1 e1
      · rw [g1]; exact congrArg k0_pay2 e2
      · rw [g2]; exact congrArg k0_pay3 e3) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iapply rep_of_owns; iexact HS0
  isplitl [HS1]; · iapply rep_of_owns; iexact HS1
  isplitl [HS2]; · iapply rep_of_owns; iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold outB
  iexact H4

theorem body_obligation (c : Dev nD) : BodyObligation (dats T0 T1 hN m ρ 0 c) (defs₀ (F := F)) Variants.none () Set.univ := fun t => by
  rw [bigSep_W0]
  exact sound_body T0 T1 hN m ρ c t

/-! ## The launch -/

abbrev EP : Emb (UR sig nD τ) 𝕄 := emb₁

def u₀ : UR sig nD τ :=
  initOf (Pipeline.cells (pcs T0 T1 hN) ((launch0 (F := F)).cellOf_inj fun _ => adm T0 T1 hN))
    (Pipeline.launchToks (pcs T0 T1 hN) ((launch0 (F := F)).cellOf_inj fun _ => adm T0 T1 hN))

theorem share_eq (c : Dev nD) (w : Fin (cfgA T0 T1 hN).W) : (dats T0 T1 hN m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T0 T1 hN).1 ∗ Pipeline.scopedRest spec0 c) ⊢ (dats T0 T1 hN m ρ 0 c).Φ 0 := by
  rw [prefHeld_eq, scopedRest0_eq, show (dats T0 T1 hN m ρ 0 c).Φ 0 = Phi T0 T1 hN m ρ c 0 from rfl]
  unfold Phi
  iintro ⟨-, ⟨HT0, HT1⟩, ⟨%a0, HS0⟩, ⟨%a1, HS1⟩, ⟨%a2, HS2⟩⟩
  isplitl [HS0]
  · iexists a0; isplitr
    · ipureintro; intro h; exact absurd rfl h
    · rw [owns_whole]; iexact HS0
  isplitl [HS1]
  · iexists a1; isplitr
    · ipureintro; intro h; exact absurd rfl h
    · rw [owns_whole]; iexact HS1
  isplitl [HS2]
  · iexists a2; isplitr
    · ipureintro; intro h; exact absurd rfl h
    · rw [owns_whole]; iexact HS2
  isplitl [HT0]
  · iexact HT0
  iexact HT1

theorem phiN_exit (c : Dev nD) : (dats T0 T1 hN m ρ 0 c).Φ (Fin.last (cfgA T0 T1 hN).N) ⊢ iprop(BI.emp ∗ Pipeline.scopedRest spec0 c) := by
  rw [scopedRest0_eq, show (dats T0 T1 hN m ρ 0 c).Φ (Fin.last (cfgA T0 T1 hN).N) = Phi T0 T1 hN m ρ c (Fin.last _) from rfl]
  unfold Phi
  simp only [owns_whole]
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- After the run: every array as the library computes it, and the tables unchanged. -/
def QC : PUnit × MemSt nD τ sig (Elt F) → Prop := fun r =>
  ∀ c : Dev nD, (∀ w : Fin (cfgA T0 T1 hN).W, r.2.mem (((cfgA T0 T1 hN).win w).arr.view.loc (c : Thread nD τ)) = (dats T0 T1 hN m ρ 0 c).arrAt w (cfgA T0 T1 hN).N)
    ∧ ∀ j, r.2.mem ((c : Thread nD τ).loc (pre0.ref j)) = (adm T0 T1 hN).1 j

/-- The memory's tables are the ones the pipeline runs at. -/
def Tables : Prop := ∀ c : Dev nD, m ((c : Thread nD τ).loc main_arg0) = T0 ∧ m ((c : Thread nD τ).loc main_arg1) = T1

variable {T0 T1 m} in
theorem V_pre (hp : Tables T0 T1 m) (c : Dev nD) (j : Fin 2) : m ((c : Thread nD τ).loc (pre0.ref j)) = (adm T0 T1 hN).1 j := by
  fin_cases j
  · exact (hp c).1
  · exact (hp c).2

set_option backward.isDefEq.respectTransparency.types false in
set_option maxHeartbeats 4000000 in
theorem run_main_quiescent (hp : Tables T0 T1 m) :
    θ_run (defs (F := F)) (onTc (τ := τ) (main (F := F))) (s₀ m ρ) (fun r => QC T0 T1 hN m ρ r ∧ r.2.sem = fun _ => 0) :=
  Pipeline.θ_run_region_noSem_pf_quiescent pcfgs (fun _ => adm T0 T1 hN) (dats T0 T1 hN m ρ) () ((launch0 (F := F)).cellOf_inj fun _ => adm T0 T1 hN) (0 : Fin 1)
    (launch0 (F := F)).win.to₀ (launch0 (F := F)).pre EP defs₀ Variants.none m ρ main
    (hbody := fun c => (body_obligation T0 T1 hN m ρ c).loose) (hne := (launch0 (F := F)).block_pos)
    (harr := (launch0 (F := F)).arr_whole) (hstage := (launch0 (F := F)).stage_whole) (howed := fun _ _ => rfl)
    (u₀ := u₀ T0 T1 hN) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hN) (dats T0 T1 hN m ρ) 0 (launch0 (F := F)).win.arr_inj c (launch0 (F := F)).arr_whole
      (share_eq T0 T1 hN m ρ c) _ _ fun _ => rfl)
    (hpf := V_pre hN hp)
    (X := fun _ => iprop(emp)) (Y := fun _ => iprop(emp)) (Z := fun _ => iprop(emp))
    (hX := fun c => by rw [unscopedRestP0_eq]; iintro -; isplitr <;> iempintro)
    (hin := phi0_intro T0 T1 hN m ρ)
    (hout := phiN_exit T0 T1 hN m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result array and the argument arrays after the run. -/
theorem run (hp : Tables T0 T1 m) :
    θ_run (defs (F := F)) (onTc (τ := τ) (main (F := F))) ⟨m, fun _ => 0, ρ⟩ (fun r => (∀ c : Dev nD,
      r.2.mem ((c.tc : Thread nD τ).loc main_v0) = (dats T0 T1 hN m ρ 0 c).arrAt (4 : Fin 5) (cfgA T0 T1 hN).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 (4 : Fin 5), ((h.1 c).2 0).trans (hp c).1.symm, ((h.1 c).2 1).trans (hp c).2.symm,
    ((h.1 c).1 (0 : Fin 5)).trans ((dats T0 T1 hN m ρ 0 c).arrAt_in (0 : Fin 5) rfl _),
    ((h.1 c).1 (1 : Fin 5)).trans ((dats T0 T1 hN m ρ 0 c).arrAt_in (1 : Fin 5) rfl _),
    ((h.1 c).1 (2 : Fin 5)).trans ((dats T0 T1 hN m ρ 0 c).arrAt_in (2 : Fin 5) rfl _),
    ((h.1 c).1 (3 : Fin 5)).trans ((dats T0 T1 hN m ρ 0 c).arrAt_in (3 : Fin 5) rfl _)⟩, h.2⟩) (run_main_quiescent T0 T1 hN m ρ hp)

include hN in
/-- The argument arrays end unchanged and every counter at zero. -/
theorem frame (hp : Tables T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2, h.2⟩) (run T0 T1 hN m ρ hp)

/-! ## The result array -/

theorem tile_lt (j : S40960x2048.Idx) : (j 0).val / 256 < grid0.N := by
  have h : (j 0).val < 40960 := (j 0).isLt
  rw [N_0]; omega

/-- Place `(row, column)` of the result: tile `row / 256`'s result at row `row % 256`. -/
def result (c : Dev nD) : S40960x2048.Idx → Elt F .f32 := fun j =>
  outB T0 T1 hN m ρ c ⟨(j 0).val / 256, tile_lt j⟩ (ValueIdx.ix2 ⟨(j 0).val % 256, Nat.mod_lt _ (by decide)⟩ (j 1))

theorem index_out (t : Fin (cfgA T0 T1 hN).N) : ((cfgA T0 T1 hN).win (4 : Fin 5)).index t = ![t.val, 0] := by
  show cc0_transform_4 (crd T0 T1 hN t) = _
  unfold cc0_transform_4
  dsimp only
  rw [coord_word, crd_val]; rfl

theorem covers : ((cfgA T0 T1 hN).win (4 : Fin 5)).Covers := by
  refine ((cfgA T0 T1 hN).win (4 : Fin 5)).covers_of_index_surj rfl (show ∀ a, 0 < S256x2048.size a by decide) fun β => ?_
  have h0 : (β (0 : Fin 2)).val < 160 := (β (0 : Fin 2)).isLt.trans_eq (show (40960 + 256 - 1) / 256 = 160 by norm_num)
  have h1 : (β (1 : Fin 2)).val < 1 := (β (1 : Fin 2)).isLt.trans_eq (show (2048 + 2048 - 1) / 2048 = 1 by norm_num)
  refine ⟨⟨(β (0 : Fin 2)).val, by show _ < grid0.N; rw [N_0]; exact h0⟩, ?_⟩
  rw [index_out]
  exact fun a => match a with | ⟨0, _⟩ => rfl | ⟨1, _⟩ => (show 0 = (β (1 : Fin 2)).val by omega)

theorem out_congr (c : Dev nD) {t t' : Fin (cfgA T0 T1 hN).N} {y y' : S256x2048.Idx} (ht : t = t') (hy : y = y') :
    outB T0 T1 hN m ρ c t y = outB T0 T1 hN m ρ c t' y' := by subst ht hy; rfl

theorem final (c : Dev nD) : (dats T0 T1 hN m ρ 0 c).arrAt (4 : Fin 5) (cfgA T0 T1 hN).N = result T0 T1 hN m ρ c := by
  refine (dats T0 T1 hN m ρ 0 c).arrAt_eq_of_covers (4 : Fin 5) _ (covers T0 T1 hN) fun t hf y => ?_
  have e := index_out T0 T1 hN t
  have y0 : (y (0 : Fin 2)).val < 256 := (y (0 : Fin 2)).isLt
  have e0 : ((((cfgA T0 T1 hN).win (4 : Fin 5)).blk t).view.emb y (0 : Fin 2)).val = t.val * 256 + (y (0 : Fin 2)).val := by blk_simp [e]
  have e1 : ((((cfgA T0 T1 hN).win (4 : Fin 5)).blk t).view.emb y (1 : Fin 2)).val = (y (1 : Fin 2)).val := by blk_simp [e]
  blk_simp
  rw [after0_4]
  unfold result
  refine out_congr T0 T1 hN m ρ c (Fin.ext ?_) (funext fun a => Fin.ext ?_)
  · show t.val = ((((cfgA T0 T1 hN).win (4 : Fin 5)).blk t).view.emb y (0 : Fin 2)).val / 256
    rw [e0]; omega
  · match a with
    | ⟨0, _⟩ =>
      show (y (0 : Fin 2)).val = ((((cfgA T0 T1 hN).win (4 : Fin 5)).blk t).view.emb y (0 : Fin 2)).val % 256
      rw [e0]; omega
    | ⟨1, _⟩ => exact e1.symm

end Cert.ExpertIdeal.Own

end
-- ==== Proof.ExpertRefValue.lean ====
/- The experts' reference at an index, over the extended reals: the sum over all experts, weighted by 1 at the expert of the
   row's tile and 0 elsewhere, is the gated product of that one expert (or 0 where the tile is not in use). -/
module

public import proofs.«01_k».proof.Proof.Gen.ExpertRefIdeal.Run
public import Idealize.ShloMosaic.Lib.Pointwise
public import Idealize.ShloMosaic.Lib.WordCmp

@[expose] public section

set_option maxRecDepth 16384

noncomputable section

namespace Cert.ExpertRefIdeal.Own

open Cert.ExpertRefIdeal Cert.ExpertRefIdeal.Gen
open Idealize.ShloMosaic

/-- The gate: `a` times its logistic, times `c`. -/
def gate (a c : EReal) : EReal := a * Ideal.div 1 (1 + Ideal.exp (-a)) * c

/-- Expert `e`'s gated product of row `r`, at feature `d`. -/
def expert (x : FVec Ideal S40960x2048 .f32) (w1 w3 : FVec Ideal S64x2048x512 .f32) (w2 : FVec Ideal S64x512x2048 .f32)
    (e : Fin 64) (r : Fin 40960) (d : Fin 2048) : EReal :=
  ∑ f : Fin 512, gate (∑ k : Fin 2048, x (ValueIdx.ix2 r k) * w1 (ValueIdx.ix3 e k f)) (∑ k : Fin 2048, x (ValueIdx.ix2 r k) * w3 (ValueIdx.ix3 e k f))
    * w2 (ValueIdx.ix3 e f d)

/-- The tile of a row. -/
def tile (r : Fin 40960) : Fin 160 := ⟨r.val / 256, by have := r.isLt; omega⟩

/-- The reference's result, as its run states it. -/
def term (te : IVec S160 32) (nu : IVec S1 32) (x : FVec Ideal S40960x2048 .f32)
    (w1 w3 : FVec Ideal S64x2048x512 .f32) (w2 : FVec Ideal S64x512x2048 .f32) : FVec Ideal S40960x2048 .f32 :=
  Host.dotGeneral dot_S40960x64x512_S64x512x2048_S40960x2048_12_01_0_2_n_n none (mulf (mulf (mulf (Host.dotGeneral dot_S40960x2048_S64x2048x512_S40960x64x512_1_1_0_02_n_n none x w1) (Host.divf (broadcastInDim S40960x64x512 ![] bcast_S_S40960x64x512 (constant S_ .f32 0x3F800000#32)) (addf (broadcastInDim S40960x64x512 ![] bcast_S_S40960x64x512 (constant S_ .f32 0x3F800000#32)) (Host.exp (Host.negf (Host.dotGeneral dot_S40960x2048_S64x2048x512_S40960x64x512_1_1_0_02_n_n none x w1)))))) (Host.dotGeneral dot_S40960x2048_S64x2048x512_S40960x64x512_1_1_0_02_n_n none x w3)) (broadcastInDim S40960x64x512 ![0, 1, 2] bcast_S40960x64x1_S40960x64x512_0_1_2 (broadcastInDim S40960x64x1 ![0, 1] bcast_S40960x64_S40960x64x1_0_1 (shapeCast _ (broadcastInDim S160x256x64 ![0, 2] bcast_S160x64_S160x256x64_0_2 (mulf (uitofp .f32 (cmpi .eq (broadcastInDim S160x64 ![0, 1] bcast_S160x1_S160x64_0_1 (broadcastInDim S160x1 ![0] bcast_S160_S160x1_0 te)) (broadcastInDim S160x64 ![0, 1] bcast_S1x64_S160x64_0_1 (iotaInDim S1x64 32 1)))) (broadcastInDim S160x64 ![0, 1] bcast_S160x1_S160x64_0_1 (broadcastInDim S160x1 ![0] bcast_S160_S160x1_0 (uitofp .f32 (cmpi .slt (iotaInDim S160 32 0) (broadcastInDim S160 ![] bcast_S_S160 (shapeCast _ nu shapeCasts_S1_S_)))))))) shapeCasts_S160x256x64_S40960x64)))) w2

/-- The weight a comparison gives. -/
theorem uitofp_bit (b : BitVec 1) : (FloatOps.uitofp (F := Ideal) FTy.f32 b : EReal) = if b = 1#1 then 1 else 0 := by
  rcases (by revert b; decide : b = 1#1 ∨ b = 0#1) with h | h <;> subst h <;> simp [FloatOps.uitofp]

theorem cmp_eq_bit {a b : BitVec 32} : (IntOp.cmpi .eq a b = 1#1) = (a = b) := by
  rw [WordCmp.cmpi_eq_eq]
  by_cases h : a = b <;> simp [h, BitVec.ofBool]

theorem term_apply (te : IVec S160 32) (nu : IVec S1 32) (x : FVec Ideal S40960x2048 .f32)
    (w1 w3 : FVec Ideal S64x2048x512 .f32) (w2 : FVec Ideal S64x512x2048 .f32) (j : S40960x2048.Idx)
    (e : Fin 64) (he : te (ValueIdx.ix1 (tile (j 0))) = BitVec.ofNat 32 e.val) :
    term te nu x w1 w3 w2 j
      = if IntOp.cmpi .slt (BitVec.ofNat 32 ((j 0).val / 256)) (nu (ValueIdx.ix1 0)) = 1#1 then expert x w1 w3 w2 e (j 0) (j 1) else 0 := by
  unfold term
  pointwise
  rw [Finset.sum_eq_single e]
  · show (∑ f : Fin 512, gate _ _ * (FloatOps.uitofp (F := Ideal) FTy.f32 (IntOp.cmpi .eq (te (ValueIdx.ix1 (tile (j 0)))) (BitVec.ofNat 32 e.val))
        * FloatOps.uitofp (F := Ideal) FTy.f32 _) * _ : EReal) = _
    rw [he, uitofp_bit, uitofp_bit, if_pos (cmp_eq_bit.mpr rfl)]
    split
    · rename_i h
      refine Eq.trans ?_ (if_pos h).symm
      simp only [one_mul, mul_one]; rfl
    · rename_i h
      refine Eq.trans ?_ (if_neg h).symm
      simp only [mul_zero, zero_mul, Finset.sum_const_zero]
  · intro b _ hb
    refine Finset.sum_eq_zero fun f _ => ?_
    show (_ * (FloatOps.uitofp (F := Ideal) FTy.f32 (IntOp.cmpi .eq (te (ValueIdx.ix1 (tile (j 0)))) (BitVec.ofNat 32 b.val))
        * FloatOps.uitofp (F := Ideal) FTy.f32 _) * _ : EReal) = _
    rw [he, uitofp_bit, if_neg, zero_mul, mul_zero, zero_mul]
    rw [cmp_eq_bit]
    intro h
    apply hb
    have := congrArg BitVec.toNat h
    simp only [BitVec.toNat_ofNat] at this
    have h1 := b.isLt; have h2 := e.isLt
    exact Fin.ext (by omega)
  · intro h; exact absurd (Finset.mem_univ _) h

end Cert.ExpertRefIdeal.Own

end
-- ==== Proof.ExpertValue.lean ====
/- The experts' kernel at an index, over the extended reals: the gated product of the tile's expert, or 0 where the tile is not in
   use; and its equality with the reference. -/
module

public import proofs.«01_k».proof.Proof.ExpertIdealRun
public import proofs.«01_k».proof.Proof.ExpertRefValue
public import Idealize.ShloMosaic.Lib.Pointwise

@[expose] public section

set_option maxRecDepth 16384

noncomputable section

namespace Cert.ExpertIdeal.Own

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

theorem pay_apply (x : FVec Ideal S256x2048 .f32) (w1 w3 : FVec Ideal S1x2048x512 .f32) (w2 : FVec Ideal S1x512x2048 .f32)
    (y : S256x2048.Idx) : k0_pay4 (F := Ideal) x (k0_pay1 (F := Ideal) w1) (k0_pay2 (F := Ideal) w3) (k0_pay3 (F := Ideal) w2) y
      = ∑ f : Fin 512, Cert.ExpertRefIdeal.Own.gate (∑ k : Fin 2048, x (ValueIdx.ix2 (y 0) k) * w1 (ValueIdx.ix3 0 k f))
          (∑ k : Fin 2048, x (ValueIdx.ix2 (y 0) k) * w3 (ValueIdx.ix3 0 k f)) * w2 (ValueIdx.ix3 0 f (y 1)) := by
  unfold k0_pay4 k0_pay1 k0_pay2 k0_pay3
  pointwise
  simp only [zero_sub]
  rfl

theorem pay5_apply (y : S256x2048.Idx) : (k0_pay5 (F := Ideal)) y = (0 : EReal) := by
  unfold k0_pay5
  pointwise

variable (T0 : S160.Idx → Elt Ideal .i32) (T1 : S1.Idx → Elt Ideal .i32) (hN : Named T0)
variable (m : (ℓ : Loc nD τ sig) → Buf (Elt Ideal) ℓ) (ρ : Dev nD → PrngReg)

theorem index_rows (t : Fin (cfgA T0 T1 hN).N) : ((cfgA T0 T1 hN).win (0 : Fin 5)).index t = ![t.val, 0] := by
  show cc0_transform_0 (crd T0 T1 hN t) = _
  unfold cc0_transform_0
  dsimp only
  rw [coord_word, crd_val]; rfl

/-- Row `y` of the tile read at point `t` is row `256 t + y` of the array. -/
theorem xs_eq (c : Dev nD) (t : Fin (cfgA T0 T1 hN).N) (y : S256x2048.Idx) (r : Fin 40960) (hr : r.val = t.val * 256 + (y 0).val) (k : Fin 2048) :
    xs T0 T1 hN m ρ c t (ValueIdx.ix2 (y 0) k) = m ((c : Thread nD τ).loc main_arg2) (ValueIdx.ix2 r k) := by
  have e : ∀ t : Fin (cfgA T0 T1 hN).N, ((cfgA T0 T1 hN).win (0 : Fin 5)).index t = ![t.val, 0] := index_rows T0 T1 hN
  blk_ext [xs, iblk, e, hr]

/-- The test of a tile's use is the comparison of its number with the word of `nu`. -/
theorem used_eq (i : grid0.Coords) : (k0_cond2 i (usedWord (F := Ideal) T1) = 1#1)
    = (IntOp.cmpi .slt (BitVec.ofNat 32 (i 0).val) (T1 (ValueIdx.ix1 0)) = 1#1) := by
  have e (b : Bool) : (Scalar.cmpi .ne (Scalar.extui (BitVec.ofBool b) : BitVec 32) 0#32 = 1#1) = (BitVec.ofBool b = 1#1) := by cases b <;> decide
  have hw : usedWord (F := Ideal) T1 = T1 (ValueIdx.ix1 0) := congrArg T1 (funext fun a => match a with | ⟨0, _⟩ => rfl)
  unfold k0_cond2
  simp only [Scalar.cmpi, IntOp.cmpi] at e ⊢
  rw [e, hw]

theorem result_apply (c : Dev nD) (j : S40960x2048.Idx) :
    result T0 T1 hN m ρ c j = Cert.ExpertRefIdeal.Own.term T0 T1 (m ((c : Thread nD τ).loc main_arg2)) (m ((c : Thread nD τ).loc main_arg3))
      (m ((c : Thread nD τ).loc main_arg4)) (m ((c : Thread nD τ).loc main_arg5)) j := by
  have h160 : (j 0).val / 256 < 160 := by have h : (j 0).val < 40960 := (j 0).isLt; omega
  have ht := crd_val T0 T1 hN ⟨(j 0).val / 256, tile_lt j⟩
  have hp : place ((crd T0 T1 hN ⟨(j 0).val / 256, tile_lt j⟩) 0).val (coord_lt _) = ValueIdx.ix1 (Cert.ExpertRefIdeal.Own.tile (j 0)) := by
    funext a; match a with | ⟨0, _⟩ => exact Fin.ext ht
  have he : T0 (ValueIdx.ix1 (Cert.ExpertRefIdeal.Own.tile (j 0))) = BitVec.ofNat 32 (expertAt T0 hN (crd T0 T1 hN ⟨(j 0).val / 256, tile_lt j⟩)).val := by
    rw [← hp]; exact BitVec.eq_of_toNat_eq (Nat.mod_eq_of_lt (BitVec.isLt _)).symm
  rw [Cert.ExpertRefIdeal.Own.term_apply _ _ _ _ _ _ j _ he]
  have hu := used_eq T1 (crd T0 T1 hN ⟨(j 0).val / 256, tile_lt j⟩)
  rw [ht] at hu
  unfold result outB outOf
  by_cases hc2 : k0_cond2 (crd T0 T1 hN ⟨(j 0).val / 256, tile_lt j⟩) (usedWord (F := Ideal) T1) = 1#1
  · rw [if_pos hc2, if_pos (hu ▸ hc2), pay_apply]
    unfold Cert.ExpertRefIdeal.Own.expert
    have hx : ∀ k : Fin 2048, xs T0 T1 hN m ρ c ⟨(j 0).val / 256, tile_lt j⟩ (ValueIdx.ix2 (⟨(j 0).val % 256, Nat.mod_lt _ (by decide)⟩ : Fin 256) k)
        = m ((c : Thread nD τ).loc main_arg2) (ValueIdx.ix2 (j 0) k) := fun k =>
      xs_eq T0 T1 hN m ρ c ⟨(j 0).val / 256, tile_lt j⟩ (ValueIdx.ix2 ⟨(j 0).val % 256, Nat.mod_lt _ (by decide)⟩ (j 1)) (j 0)
        (Nat.div_add_mod' _ _).symm k
    refine Finset.sum_congr rfl fun f _ => ?_
    refine congr (congrArg _ (congr (congrArg _ (Finset.sum_congr rfl fun k _ => ?_)) (Finset.sum_congr rfl fun k _ => ?_))) ?_
    · exact congr (congrArg _ (hx k)) (wa_eq T0 T1 hN m ρ c _ _)
    · exact congr (congrArg _ (hx k)) (wc_eq T0 T1 hN m ρ c _ _)
    · exact wd_eq T0 T1 hN m ρ c _ _
  · rw [if_neg hc2, if_neg fun h => hc2 (hu ▸ h)]
    exact pay5_apply _

end Cert.ExpertIdeal.Own

end
-- ==== Proof.ExpertClaims.lean ====
/- The claims about the experts: the precondition read as a bound on the table's words, the frames, and the equality of results. -/
module

public import proofs.«01_k».proof.Defs
public import proofs.«01_k».proof.Proof.Gen.Expert
public import proofs.«01_k».proof.Proof.Gen.ExpertIdeal
public import proofs.«01_k».proof.Proof.Gen.ExpertRefIdeal
public import proofs.«01_k».proof.Proof.Gen.Pre_experts_named
public import proofs.«01_k».proof.Proof.ExpertRun
public import proofs.«01_k».proof.Proof.ExpertValue
public import Idealize.ShloMosaic.Adequacy
public import Idealize.ShloMosaic.Init
public import Idealize.ShloMosaic.Lib.Quiescent

@[expose] public section

noncomputable section

namespace Cert.Experts

open Idealize.ShloMosaic Idealize.SL.Sem

/-- A word that is at least 0 and less than 64 as a signed number is less than 64 as a natural number. -/
theorem word_lt (w : BitVec 32) (h : IntOp.andi (IntOp.cmpi .sge w 0#32) (IntOp.cmpi .slt w 64#32) = 1#1) : w.toNat < 64 := by
  have andi_one (a b : BitVec 1) : (IntOp.andi a b = 1#1) = (a = 1#1 ∧ b = 1#1) := by revert a b; decide
  have ofBool_eq_one (p : Bool) : (BitVec.ofBool p = 1#1) = (p = true) := by cases p <;> decide
  rw [andi_one] at h
  simp only [IntOp.cmpi, ofBool_eq_one, BitVec.sle, BitVec.slt, decide_eq_true_eq, BitVec.toInt, BitVec.toNat_ofNat] at h
  have := w.isLt
  split at h <;> omega

theorem named {F : FTy → Type} [FloatOps F] {te : IVec Cert.Pre_experts_named.S160 32} {nu : IVec Cert.Pre_experts_named.S1 32} {x w1 w3 w2}
    (h : Cert.Pre_experts_named.fn (F := F) te nu x w1 w3 w2 = fun _ => 1#1) (j : Cert.Pre_experts_named.S160.Idx) : (te j).toNat < 64 := by
  have := congrFun h j
  simp only [Cert.Pre_experts_named.fn, constantI, broadcastInDim, cmpi, andi] at this
  exact word_lt _ this

/-- The tables of the bit-exact program's memory. -/
def teB (m : (ℓ : Loc Cert.Expert.nD Cert.Expert.τ Cert.Expert.sig) → Buf (Elt Bits) ℓ) : Cert.Expert.S160.Idx → Elt Bits .i32 :=
  m ((Dev.tc (0 : Dev Cert.Expert.nD) : Thread Cert.Expert.nD Cert.Expert.τ).loc Cert.Expert.main_arg0)
def nuB (m : (ℓ : Loc Cert.Expert.nD Cert.Expert.τ Cert.Expert.sig) → Buf (Elt Bits) ℓ) : Cert.Expert.S1.Idx → Elt Bits .i32 :=
  m ((Dev.tc (0 : Dev Cert.Expert.nD) : Thread Cert.Expert.nD Cert.Expert.τ).loc Cert.Expert.main_arg1)

theorem named_teB (m : (ℓ : Loc Cert.Expert.nD Cert.Expert.τ Cert.Expert.sig) → Buf (Elt Bits) ℓ) (h : Cert.Pre_Expert m) :
    Cert.Expert.Own.Named (teB m) := named (F := Bits) (h 0)

theorem tablesB (m : (ℓ : Loc Cert.Expert.nD Cert.Expert.τ Cert.Expert.sig) → Buf (Elt Bits) ℓ) :
    Cert.Expert.Own.Tables (teB m) (nuB m) m :=
  fun c => by obtain rfl : c = 0 := Subsingleton.elim _ _; exact ⟨rfl, rfl⟩

theorem frame_kernel : Cert.quiescent_Expert := fun m ρ h =>
  Cert.Expert.Own.frame (teB m) (nuB m) (named_teB m h) m ρ (tablesB m)

/-- The tables of the ideal program's memory. -/
def te (m : (ℓ : Loc Cert.ExpertIdeal.nD Cert.ExpertIdeal.τ Cert.ExpertIdeal.sig) → Buf (Elt Ideal) ℓ) : Cert.ExpertIdeal.S160.Idx → Elt Ideal .i32 :=
  m ((Dev.tc (0 : Dev Cert.ExpertIdeal.nD) : Thread Cert.ExpertIdeal.nD Cert.ExpertIdeal.τ).loc Cert.ExpertIdeal.main_arg0)
def nu (m : (ℓ : Loc Cert.ExpertIdeal.nD Cert.ExpertIdeal.τ Cert.ExpertIdeal.sig) → Buf (Elt Ideal) ℓ) : Cert.ExpertIdeal.S1.Idx → Elt Ideal .i32 :=
  m ((Dev.tc (0 : Dev Cert.ExpertIdeal.nD) : Thread Cert.ExpertIdeal.nD Cert.ExpertIdeal.τ).loc Cert.ExpertIdeal.main_arg1)

theorem named_te (m : (ℓ : Loc Cert.ExpertIdeal.nD Cert.ExpertIdeal.τ Cert.ExpertIdeal.sig) → Buf (Elt Ideal) ℓ) (h : Cert.Pre_ExpertIdeal m) :
    Cert.ExpertIdeal.Own.Named (te m) := named (F := Ideal) (h 0)

theorem tables (m : (ℓ : Loc Cert.ExpertIdeal.nD Cert.ExpertIdeal.τ Cert.ExpertIdeal.sig) → Buf (Elt Ideal) ℓ) :
    Cert.ExpertIdeal.Own.Tables (te m) (nu m) m :=
  fun c => by obtain rfl : c = 0 := Subsingleton.elim _ _; exact ⟨rfl, rfl⟩

theorem frame_ideal : Cert.quiescent_ExpertIdeal := fun m ρ h =>
  Cert.ExpertIdeal.Own.frame (te m) (nu m) (named_te m h) m ρ (tables m)

theorem frame_reference : Cert.quiescent_ExpertRefIdeal := fun m ρ _ =>
  (θ_run _ _ _).mono (fun r h => ⟨fun c => (h c).2, sem_eq_zero_of_no_sems (by decide) r.2⟩) (Cert.ExpertRefIdeal.Value.run (F := Ideal) m ρ)

theorem equal : Cert.algebraic_ExpertIdeal_ExpertRefIdeal := fun m g m' g' h hargs => by
  refine ⟨fun c => Cert.ExpertIdeal.Own.result (te m) (nu m) (named_te m h) m g c, ?_, ?_⟩
  · exact (θ_run _ _ _).mono (fun _ hr c => ⟨((hr.1 c).1).trans (Cert.ExpertIdeal.Own.final (te m) (nu m) (named_te m h) m g c), (hr.1 c).2⟩)
      (Cert.ExpertIdeal.Own.run (te m) (nu m) (named_te m h) m g (tables m))
  · refine (θ_run _ _ _).mono (fun _ hr c => ⟨((hr c).1).trans ?_, (hr c).2⟩) (Cert.ExpertRefIdeal.Value.run m' g')
    obtain rfl : c = 0 := Subsingleton.elim _ _
    obtain ⟨h0, h1, h2, h3, h4, h5⟩ := hargs 0
    rw [h0, h1, h2, h3, h4, h5]
    exact (funext fun j => Cert.ExpertIdeal.Own.result_apply (te m) (nu m) (named_te m h) m g 0 j).symm

end Cert.Experts

end
-- ==== Proof.InProjValue.lean ====
/- The input projection's kernel against its reference: the normalised rows, kept over the column blocks of one row block, times the
   weights and the columns' scale. -/
module

public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InProjIdeal.Own

open Cert.InProjIdeal Cert.InProjIdeal.Gen
open Idealize.ShloMosaic Idealize.ShloMosaic.TcCoe Idealize.ShloMosaic.Tactic Idealize.SL.Sem
open Idealize.ShloMosaic.Pipeline (Dat)

/-- The reference's rows, each over the root of its mean square, times the gain. -/
abbrev normed (x : FVec Ideal Cert.InProjRefIdeal.S2x8192x2048 .f32) (g : FVec Ideal Cert.InProjRefIdeal.S2048 .f32) :
    FVec Ideal Cert.InProjRefIdeal.S2x8192x2048 .f32 :=
  open Cert.InProjRefIdeal Cert.InProjRefIdeal.Gen in
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

/-- The reference's term. -/
abbrev projected (x : FVec Ideal Cert.InProjRefIdeal.S2x8192x2048 .f32) (g : FVec Ideal Cert.InProjRefIdeal.S2048 .f32)
    (w : FVec Ideal Cert.InProjRefIdeal.S2048x3072 .f32) (cs : FVec Ideal Cert.InProjRefIdeal.S3072 .f32) : FVec Ideal Cert.InProjRefIdeal.S16384x3072 .bf16 :=
  open Cert.InProjRefIdeal Cert.InProjRefIdeal.Gen in
  truncf .bf16 (shapeCast _ (mulf (Host.dotGeneral dot_S2x8192x2048_S2048x3072_S2x8192x3072_2_0_01_1_n_n none (normed x g) w) (broadcastInDim S2x8192x3072 ![0, 1, 2] bcast_S1x1x3072_S2x8192x3072_0_1_2 (broadcastInDim S1x1x3072 ![2] bcast_S3072_S1x1x3072_2 cs))) shapeCasts_S2x8192x3072_S16384x3072) Cert.InProjRefIdeal.Gen.bitsLt_bf16_f32

variable (m : (ℓ : Loc nD τ sig) → Buf (Elt Ideal) ℓ)

theorem idx : ∀ t : Fin cfg0.N, win0_0.index t = ![t.val / 3, 0] ∧ win0_1.index t = ![0, 0] ∧ win0_2.index t = ![0, t.val % 3]
    ∧ win0_3.index t = ![0, t.val % 3] ∧ win0_4.index t = ![t.val / 3, t.val % 3] :=
  (by decide +kernel : ∀ t : Fin grid0.N, _)

theorem block_lt {n : ℕ} (h : n < cfg0.N) : n / 3 < 16 := by
  have hN := lt_of_lt_of_eq h (show cfg0.N = 48 from N_0); omega

/-- A row block of the kernel, normalised, is the reference's at the block's rows. -/
theorem pay1_apply (c : Dev nD) (t : Fin cfg0.N) (y : S1024x2048.Idx) :
    k0_pay1 (iblk m c 0 t) (iblk m c 1 t) y
      = normed (m ((c : Thread nD τ).loc main_arg0)) (m ((c : Thread nD τ).loc main_arg1))
          (ValueIdx.ix3 ⟨(t.val / 3 * 1024 + (y 0).val) / 8192, by have := block_lt t.isLt; have h : (y 0).val < 1024 := (y 0).isLt; omega⟩
            ⟨(t.val / 3 * 1024 + (y 0).val) % 8192, Nat.mod_lt _ (by decide)⟩ (y 1)) := by
  pointwise [k0_pay1, normed]
  blk_point [iblk, V, idx t]

/-- What the scratch holds after point `n`: the normalised rows of `n`'s row block. -/
theorem scratch (c : Dev nD) : ∀ (n : ℕ) (hn : n < cfg0.N) (y : S1024x2048.Idx), (outsAt0 m c n hn).2 y
      = normed (m ((c : Thread nD τ).loc main_arg0)) (m ((c : Thread nD τ).loc main_arg1))
          (ValueIdx.ix3 ⟨(n / 3 * 1024 + (y 0).val) / 8192, by have := block_lt hn; have h : (y 0).val < 1024 := (y 0).isLt; omega⟩
            ⟨(n / 3 * 1024 + (y 0).val) % 8192, Nat.mod_lt _ (by decide)⟩ (y 1)) := by
  intro n
  induction n with
  | zero =>
    intro hn y
    rw [outsAt0_A m c ⟨0, hn⟩ rfl]
    frame_out
    exact pay1_apply m c ⟨0, hn⟩ y
  | succ n ih =>
    intro hn y
    by_cases h : (n + 1) % 3 = 0
    · rw [outsAt0_A m c ⟨n + 1, hn⟩ h]
      frame_out
      exact pay1_apply m c ⟨n + 1, hn⟩ y
    · rw [outsAt0_B m c ⟨n + 1, hn⟩ h]
      have e : (n + 1) / 3 = n / 3 := by omega
      refine (ih (Nat.lt_of_succ_lt hn) y).trans ?_
      simp only [e]

/-- The product of a row block, given its normalised rows. -/
theorem pay2_apply (c : Dev nD) (t : Fin cfg0.N) (s : FVec Ideal S1024x2048 .bf16)
    (hs : ∀ y : S1024x2048.Idx, s y = normed (m ((c : Thread nD τ).loc main_arg0)) (m ((c : Thread nD τ).loc main_arg1))
          (ValueIdx.ix3 ⟨(t.val / 3 * 1024 + (y 0).val) / 8192, by have := block_lt t.isLt; have h : (y 0).val < 1024 := (y 0).isLt; omega⟩
            ⟨(t.val / 3 * 1024 + (y 0).val) % 8192, Nat.mod_lt _ (by decide)⟩ (y 1)))
    (y : S1024x1024.Idx) : k0_pay2 s (iblk m c 2 t) (iblk m c 3 t) y
      = projected (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay2, projected, hs]
  blk_point [iblk, V, idx t]

theorem final (c : Dev nD) : (dats m 0 c).arrAt 4 (cfgs 0).N
    = projected (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  by_cases h : t.val % 3 = 0
  · rw [outsAt0_A m c t h]
    frame_out
    exact pay2_apply m c t _ (fun y => pay1_apply m c t y) y
  · have hlt := Nat.lt_of_le_of_lt (Nat.sub_le t.val 1) t.isLt
    rw [outsAt0_B m c t h]
    frame_out
    have e : (t.val - 1) / 3 = t.val / 3 := by omega
    refine pay2_apply m c t _ (fun y => ?_) y
    have hs := scratch m c (t.val - 1) hlt y
    simp only [e] at hs
    exact (congrFun (Idealize.ShloMosaic.read_unread_whole cc0_scratch0 _ _) y).trans hs

end Cert.InProjIdeal.Own

end
-- ==== Proof.InProjClaims.lean ====
/- The claims about the input projection: the reference's frame and the equality of results. -/
module

public import proofs.«01_k».proof.Defs
public import proofs.«01_k».proof.Proof.Gen.InProjIdeal
public import proofs.«01_k».proof.Proof.Gen.InProjRefIdeal
public import proofs.«01_k».proof.Proof.InProjValue
public import Idealize.ShloMosaic.Adequacy
public import Idealize.ShloMosaic.Init
public import Idealize.ShloMosaic.Lib.Quiescent

@[expose] public section

noncomputable section

namespace Cert.InProjs

open Idealize.ShloMosaic Idealize.SL.Sem

theorem frame_reference : Cert.quiescent_InProjRefIdeal := fun m ρ _ =>
  (θ_run _ _ _).mono (fun r h => ⟨fun c => (h c).2, sem_eq_zero_of_no_sems (by decide) r.2⟩) (Cert.InProjRefIdeal.Value.run (F := Ideal) m ρ)

theorem equal : Cert.algebraic_InProjIdeal_InProjRefIdeal := fun m g m' g' _ hargs => by
  refine ⟨fun c => (Cert.InProjIdeal.Gen.dats m 0 c).arrAt 4 Cert.InProjIdeal.cfg0.N, ?_, ?_⟩
  · exact Cert.InProjIdeal.Value.run_blocks m g
  · refine (θ_run _ _ _).mono (fun _ hr c => ⟨((hr c).1).trans ?_, (hr c).2⟩) (Cert.InProjRefIdeal.Value.run m' g')
    obtain rfl : c = 0 := Subsingleton.elim _ _
    obtain ⟨h0, h1, h2, h3⟩ := hargs 0
    rw [h0, h1, h2, h3]
    exact (Cert.InProjIdeal.Own.final m 0).symm

end Cert.InProjs

end
-- ==== Proof.InRestValue.lean ====
/- The second input projection's kernel (two column blocks, its result float32) against its reference. -/
module

public import proofs.«01_k».proof.Proof.Gen.InRestIdeal.Value
public import proofs.«01_k».proof.Proof.Gen.InRestRefIdeal.Run
public import proofs.«01_k».proof.Proof.InProjValue
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InRestIdeal.Own

open Cert.InRestIdeal Cert.InRestIdeal.Gen
open Idealize.ShloMosaic Idealize.ShloMosaic.TcCoe Idealize.ShloMosaic.Tactic Idealize.SL.Sem
open Idealize.ShloMosaic.Pipeline (Dat)

open Cert.InProjIdeal.Own (normed)

/-- The reference's term. -/
abbrev projected (x : FVec Ideal Cert.InRestRefIdeal.S2x8192x2048 .f32) (g : FVec Ideal Cert.InRestRefIdeal.S2048 .f32)
    (w : FVec Ideal Cert.InRestRefIdeal.S2048x2048 .f32) (cs : FVec Ideal Cert.InRestRefIdeal.S2048 .f32) : FVec Ideal Cert.InRestRefIdeal.S16384x2048 .f32 :=
  open Cert.InRestRefIdeal Cert.InRestRefIdeal.Gen in
  shapeCast _ (mulf (Host.dotGeneral dot_S2x8192x2048_S2048x2048_S2x8192x2048_2_0_01_1_n_n none (normed x g) w) (broadcastInDim S2x8192x2048 ![0, 1, 2] bcast_S1x1x2048_S2x8192x2048_0_1_2 (broadcastInDim S1x1x2048 ![2] bcast_S2048_S1x1x2048_2 cs))) Cert.InRestRefIdeal.Gen.shapeCasts_S2x8192x2048_S16384x2048

variable (m : (ℓ : Loc nD τ sig) → Buf (Elt Ideal) ℓ)

theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val / 2, t.val % 2] :=
  (by decide +kernel : ∀ t : Fin grid0.N, _)

theorem block_lt {n : ℕ} (h : n < cfg0.N) : n / 2 < 16 := by
  have hN := lt_of_lt_of_eq h (show cfg0.N = 32 from N_0); omega

/-- A row block of the kernel, normalised, is the reference's at the block's rows. -/
theorem pay1_apply (c : Dev nD) (t : Fin cfg0.N) (y : S1024x2048.Idx) :
    k0_pay1 (iblk m c 0 t) (iblk m c 1 t) y
      = normed (m ((c : Thread nD τ).loc main_arg0)) (m ((c : Thread nD τ).loc main_arg1))
          (ValueIdx.ix3 ⟨(t.val / 2 * 1024 + (y 0).val) / 8192, by have := block_lt t.isLt; have h : (y 0).val < 1024 := (y 0).isLt; omega⟩
            ⟨(t.val / 2 * 1024 + (y 0).val) % 8192, Nat.mod_lt _ (by decide)⟩ (y 1)) := by
  pointwise [k0_pay1, normed]
  blk_point [iblk, V, idx t]

/-- What the scratch holds after point `n`: the normalised rows of `n`'s row block. -/
theorem scratch (c : Dev nD) : ∀ (n : ℕ) (hn : n < cfg0.N) (y : S1024x2048.Idx), (outsAt0 m c n hn).2 y
      = normed (m ((c : Thread nD τ).loc main_arg0)) (m ((c : Thread nD τ).loc main_arg1))
          (ValueIdx.ix3 ⟨(n / 2 * 1024 + (y 0).val) / 8192, by have := block_lt hn; have h : (y 0).val < 1024 := (y 0).isLt; omega⟩
            ⟨(n / 2 * 1024 + (y 0).val) % 8192, Nat.mod_lt _ (by decide)⟩ (y 1)) := by
  intro n
  induction n with
  | zero =>
    intro hn y
    rw [outsAt0_A m c ⟨0, hn⟩ rfl]
    frame_out
    exact pay1_apply m c ⟨0, hn⟩ y
  | succ n ih =>
    intro hn y
    by_cases h : (n + 1) % 2 = 0
    · rw [outsAt0_A m c ⟨n + 1, hn⟩ h]
      frame_out
      exact pay1_apply m c ⟨n + 1, hn⟩ y
    · rw [outsAt0_B m c ⟨n + 1, hn⟩ h]
      have e : (n + 1) / 2 = n / 2 := by omega
      refine (ih (Nat.lt_of_succ_lt hn) y).trans ?_
      simp only [e]

/-- The product of a row block, given its normalised rows. -/
theorem pay2_apply (c : Dev nD) (t : Fin cfg0.N) (s : FVec Ideal S1024x2048 .bf16)
    (hs : ∀ y : S1024x2048.Idx, s y = normed (m ((c : Thread nD τ).loc main_arg0)) (m ((c : Thread nD τ).loc main_arg1))
          (ValueIdx.ix3 ⟨(t.val / 2 * 1024 + (y 0).val) / 8192, by have := block_lt t.isLt; have h : (y 0).val < 1024 := (y 0).isLt; omega⟩
            ⟨(t.val / 2 * 1024 + (y 0).val) % 8192, Nat.mod_lt _ (by decide)⟩ (y 1)))
    (y : S1024x1024.Idx) : k0_pay2 s (iblk m c 2 t) (iblk m c 3 t) y
      = projected (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay2, projected, hs]
  blk_point [iblk, V, idx t]

theorem final (c : Dev nD) : (dats m 0 c).arrAt 4 (cfgs 0).N
    = projected (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  by_cases h : t.val % 2 = 0
  · rw [outsAt0_A m c t h]
    frame_out
    exact pay2_apply m c t _ (fun y => pay1_apply m c t y) y
  · have hlt := Nat.lt_of_le_of_lt (Nat.sub_le t.val 1) t.isLt
    rw [outsAt0_B m c t h]
    frame_out
    have e : (t.val - 1) / 2 = t.val / 2 := by omega
    refine pay2_apply m c t _ (fun y => ?_) y
    have hs := scratch m c (t.val - 1) hlt y
    simp only [e] at hs
    exact (congrFun (Idealize.ShloMosaic.read_unread_whole cc0_scratch0 _ _) y).trans hs

end Cert.InRestIdeal.Own

end
-- ==== Proof.InRestClaims.lean ====
/- The claims about the second input projection: the reference's frame and the equality of results. -/
module

public import proofs.«01_k».proof.Defs
public import proofs.«01_k».proof.Proof.Gen.InRestIdeal
public import proofs.«01_k».proof.Proof.Gen.InRestRefIdeal
public import proofs.«01_k».proof.Proof.InRestValue
public import Idealize.ShloMosaic.Adequacy
public import Idealize.ShloMosaic.Init
public import Idealize.ShloMosaic.Lib.Quiescent

@[expose] public section

noncomputable section

namespace Cert.InRests

open Idealize.ShloMosaic Idealize.SL.Sem

theorem frame_reference : Cert.quiescent_InRestRefIdeal := fun m ρ _ =>
  (θ_run _ _ _).mono (fun r h => ⟨fun c => (h c).2, sem_eq_zero_of_no_sems (by decide) r.2⟩) (Cert.InRestRefIdeal.Value.run (F := Ideal) m ρ)

theorem equal : Cert.algebraic_InRestIdeal_InRestRefIdeal := fun m g m' g' _ hargs => by
  refine ⟨fun c => (Cert.InRestIdeal.Gen.dats m 0 c).arrAt 4 Cert.InRestIdeal.cfg0.N, ?_, ?_⟩
  · exact Cert.InRestIdeal.Value.run_blocks m g
  · refine (θ_run _ _ _).mono (fun _ hr c => ⟨((hr c).1).trans ?_, (hr c).2⟩) (Cert.InRestRefIdeal.Value.run m' g')
    obtain rfl : c = 0 := Subsingleton.elim _ _
    obtain ⟨h0, h1, h2, h3⟩ := hargs 0
    rw [h0, h1, h2, h3]
    exact (Cert.InRestIdeal.Own.final m 0).symm

end Cert.InRests

end
-- ==== Proof.OutProjValue.lean ====
/- The output projection's kernel against its reference: at every row and column the residual plus the product of the joined heads. -/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.OutProjIdeal.Own

open Cert.OutProjIdeal Cert.OutProjIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The reference's term: the residual plus the product of the three outputs joined along the columns. -/
abbrev joined (x : FVec Ideal S16384x2048 .f32) (oa : FVec Ideal S16384x1024 .bf16) (ob oc : FVec Ideal S16384x512 .bf16)
    (w : FVec Ideal S2048x2048 .f32) : FVec Ideal S16384x2048 .f32 :=
  addf x (Host.dotGeneral Cert.OutProjRefIdeal.dot_S16384x2048_S2048x2048_S16384x2048_1_0_0_1_n_n none
    ((concatenate Cert.OutProjRefIdeal.S16384x2048 1
      [⟨Cert.OutProjRefIdeal.S16384x1024, ((extf .f32 oa Cert.OutProjRefIdeal.Gen.bitsLt_bf16_f32) : (⟨Cert.OutProjRefIdeal.S16384x1024, .f32⟩ : BufTy).Contents (Elt Ideal))⟩,
        ⟨Cert.OutProjRefIdeal.S16384x512, ((extf .f32 ob Cert.OutProjRefIdeal.Gen.bitsLt_bf16_f32) : (⟨Cert.OutProjRefIdeal.S16384x512, .f32⟩ : BufTy).Contents (Elt Ideal))⟩,
        ⟨Cert.OutProjRefIdeal.S16384x512, ((extf .f32 oc Cert.OutProjRefIdeal.Gen.bitsLt_bf16_f32) : (⟨Cert.OutProjRefIdeal.S16384x512, .f32⟩ : BufTy).Contents (Elt Ideal))⟩]
      Cert.OutProjRefIdeal.Gen.concatenates_S16384x1024_S16384x512_S16384x512_S16384x2048_d1 : FVec Ideal Cert.OutProjRefIdeal.S16384x2048 .f32)) w)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

theorem final (c : Dev nD) : (dats m 0 c).arrAt 5 (cfgs 0).N
    = joined (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay1, joined, sumSplitAll]
  refine Eq.trans (congrArg _ (add_assoc _ _ _)) ?_
  blk_point [iblk, V, idx t]

end Cert.OutProjIdeal.Own

end
-- ==== Proof.OutProjClaims.lean ====
/- The claims about the output projection: the reference's frame and the equality of results. -/
module

public import proofs.«01_k».proof.Defs
public import proofs.«01_k».proof.Proof.Gen.OutProjIdeal
public import proofs.«01_k».proof.Proof.Gen.OutProjRefIdeal
public import proofs.«01_k».proof.Proof.OutProjValue
public import Idealize.ShloMosaic.Adequacy
public import Idealize.ShloMosaic.Init
public import Idealize.ShloMosaic.Lib.Quiescent

@[expose] public section

noncomputable section

namespace Cert.OutProjs

open Idealize.ShloMosaic Idealize.SL.Sem

theorem frame_reference : Cert.quiescent_OutProjRefIdeal := fun m ρ _ =>
  (θ_run _ _ _).mono (fun r h => ⟨fun c => (h c).2, sem_eq_zero_of_no_sems (by decide) r.2⟩) (Cert.OutProjRefIdeal.Value.run (F := Ideal) m ρ)

theorem equal : Cert.algebraic_OutProjIdeal_OutProjRefIdeal := fun m g m' g' _ hargs => by
  refine ⟨fun c => (Cert.OutProjIdeal.Gen.dats m 0 c).arrAt 5 Cert.OutProjIdeal.cfg0.N, ?_, ?_⟩
  · exact Cert.OutProjIdeal.Value.run_blocks m g
  · refine (θ_run _ _ _).mono (fun _ hr c => ⟨((hr c).1).trans ?_, (hr c).2⟩) (Cert.OutProjRefIdeal.Value.run m' g')
    obtain rfl : c = 0 := Subsingleton.elim _ _
    obtain ⟨h0, h1, h2, h3, h4⟩ := hargs 0
    rw [h0, h1, h2, h3, h4]
    exact (Cert.OutProjIdeal.Own.final m 0).symm

end Cert.OutProjs

end
-- ==== Proof.CrossMath.lean ====
/- Facts about the extended reals an attention needs: which operations keep a value real, and that dividing the weighted sum by the sum
   of the weights is weighing by the quotients. -/
module

public import Idealize.ShloMosaic.Lib.Pointwise
public import Idealize.ShloMosaic.Lib.ValueIdx
public import Idealize.ShloMosaic.PureOps.Ideal.Laws

@[expose] public section

noncomputable section

namespace Cert.Attention

open Idealize.ShloMosaic

/-- A value that is neither infinity. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} (s : Finset ι) (f : ι → EReal) (h : ∀ i, IsReal (f i)) : IsReal (∑ i ∈ s, f i) :=
  Finset.sum_induction f IsReal (fun _ _ => IsReal.add) ⟨0, EReal.coe_zero.symm⟩ fun i _ => h i

theorem isReal_of_abs_lt {x : EReal} (h : max x (-x) < ⊤) : IsReal x := by
  induction x with
  | bot => simp at h
  | top => simp at h
  | coe r => exact ⟨r, rfl⟩

theorem negInf : Ideal.ofBits .f32 0xFF800000#32 = ⊥ := by simp [Ideal.ofBits, Ideal.ieee]
theorem posInf : Ideal.ofBits .f32 0x7F800000#32 = ⊤ := by simp [Ideal.ofBits, Ideal.ieee]

/-- The scores' scale. -/
theorem scale : Ideal.ofBits .f32 0x3DB504F3#32 = ((11863283 / 2 ^ 27 : ℝ) : EReal) := by
  simp [Ideal.ofBits, Ideal.ieee, -EReal.coe_mul]; norm_num

/-- The length of a row. -/
theorem width : Ideal.ofBits .f32 0x45000000#32 = ((2048 : ℝ) : EReal) := by
  simp [Ideal.ofBits, Ideal.ieee, -EReal.coe_mul]; norm_num

/-- What the mean square is raised by. -/
theorem raise : Ideal.ofBits .f32 0x358637BD#32 = ((8796093 / 2 ^ 43 : ℝ) : EReal) := by
  simp [Ideal.ofBits, Ideal.ieee, -EReal.coe_mul]; norm_num

/-- The greatest of finitely many reals is a real. -/
theorem isReal_greatest {n : ℕ} [NeZero n] (s : Fin n → EReal) (h : ∀ j, IsReal (s j)) :
    IsReal (Finset.univ.fold max (⊥ : EReal) s) := by
  obtain ⟨i, _, e⟩ := Finset.exists_mem_eq_sup (Finset.univ : Finset (Fin n)) Finset.univ_nonempty s
  obtain ⟨r, hr⟩ := h i
  exact ⟨r, (show Finset.univ.fold max (⊥ : EReal) s = Finset.univ.sup s from rfl).trans (e.trans hr)⟩

theorem sum_mul_real {n : ℕ} (f : Fin n → EReal) {c : ℝ} (hc : 0 ≤ c) : (∑ i, f i) * (c : EReal) = ∑ i, f i * (c : EReal) := by
  refine Finset.induction_on (Finset.univ : Finset (Fin n)) (by simp) fun i s hi ih => ?_
  rw [Finset.sum_insert hi, Finset.sum_insert hi, EReal.right_distrib_of_nonneg_of_ne_top (EReal.coe_nonneg.mpr hc) (EReal.coe_ne_top c), ih]

/-- Scaling the first factor of every product scales the sum. -/
theorem sum_scaled {n : ℕ} (f g : Fin n → EReal) {c : ℝ} (hc : 0 ≤ c) :
    ∑ i, f i * (c : EReal) * g i = (∑ i, f i * g i) * (c : EReal) := by
  rw [sum_mul_real _ hc]
  exact Finset.sum_congr rfl fun i _ => by rw [mul_assoc, mul_comm (c : EReal), ← mul_assoc]

/-- Weighing by exponentials and dividing by their sum is weighing by their quotients. -/
theorem weigh {n : ℕ} [NeZero n] (s v : Fin n → EReal) (h : ∀ j, IsReal (s j)) {M : EReal} (hM : IsReal M) :
    Ideal.div (∑ j, Ideal.exp (s j - M) * v j) (∑ j, Ideal.exp (s j - M))
      = ∑ j, v j * Ideal.div (Ideal.exp (s j - M)) (∑ j, Ideal.exp (s j - M)) := by
  obtain ⟨M, rfl⟩ := hM
  choose r hr using h
  obtain rfl : s = fun j => (r j : EReal) := funext hr
  have e (j : Fin n) : Ideal.exp ((r j : EReal) - (M : EReal)) = ((Real.exp (r j - M) : ℝ) : EReal) := by
    rw [← EReal.coe_sub, Ideal.exp_coe]
  have hl : (∑ j, ((Real.exp (r j - M) : ℝ) : EReal)) = ((∑ j, Real.exp (r j - M) : ℝ) : EReal) := by
    induction (Finset.univ : Finset (Fin n)) using Finset.induction_on with
    | empty => simp
    | insert i s hi ih => rw [Finset.sum_insert hi, Finset.sum_insert hi, EReal.coe_add, ih]
  have hpos : 0 < ∑ j, Real.exp (r j - M) := Finset.sum_pos (fun j _ => Real.exp_pos _) Finset.univ_nonempty
  simp only [e, hl, Ideal.div_coe hpos.ne']
  rw [sum_mul_real _ (by positivity)]
  exact Finset.sum_congr rfl fun j _ => by rw [mul_assoc, mul_left_comm]

/-- The root's reciprocal of a mean square plus a positive constant is a real. -/
theorem isReal_rsqrt {n : ℕ} (x : Fin n → EReal) (h : ∀ j, IsReal (x j)) {c e : ℝ} (hc : 0 < c) (he : 0 < e) :
    IsReal (Ideal.rsqrt (Ideal.div (∑ j, x j * x j) (c : EReal) + (e : EReal))) := by
  choose r hr using h
  obtain rfl : x = fun j => (r j : EReal) := funext hr
  have hl : (∑ j, (r j : EReal) * (r j : EReal)) = ((∑ j, r j * r j : ℝ) : EReal) := by
    induction (Finset.univ : Finset (Fin n)) using Finset.induction_on with
    | empty => simp
    | insert i s hi ih => rw [Finset.sum_insert hi, Finset.sum_insert hi, EReal.coe_add, ih, EReal.coe_mul]
  have hs : 0 ≤ ∑ j, r j * r j := Finset.sum_nonneg fun j _ => mul_self_nonneg _
  have hp : 0 < (∑ j, r j * r j) * (1 / c) + e := by positivity
  rw [hl, Ideal.div_coe hc.ne', ← EReal.coe_mul, ← EReal.coe_add]
  exact ⟨_, (show Ideal.rsqrt _ = if _ then _ else if _ then _ else _ from rfl).trans ((if_neg (not_lt.mpr hp.le)).trans (if_neg hp.ne'))⟩

end Cert.Attention

end
-- ==== Proof.CrossRefValue.lean ====
/- The attention to the memory: the reference's stages read at an index. -/
module

public import proofs.«01_k».proof.Proof.Gen.CrossRefIdeal.Run
public import proofs.«01_k».proof.Proof.InProjValue
public import Idealize.ShloMosaic.Lib.Pipeline.ValueKit
public import Idealize.ShloMosaic.Lib.Pointwise
public import Idealize.ShloMosaic.Lib.ValueIdx
public import proofs.«01_k».proof.Proof.CrossMath

@[expose] public section

set_option maxRecDepth 16384

noncomputable section

namespace Cert.CrossRefIdeal.Own

open Cert.CrossRefIdeal Cert.CrossRefIdeal.Gen
open Idealize.ShloMosaic Idealize.ShloMosaic.TcCoe Idealize.ShloMosaic.Tactic Idealize.SL.Sem

/-- The queries, all heads side by side. -/
def queries (x : FVec Ideal S2x8192x2048 .f32) (g : FVec Ideal S2048 .f32) (wq : FVec Ideal S2048x512 .f32) : FVec Ideal S2x8192x512 .f32 :=
  Host.dotGeneral dot_S2x8192x2048_S2048x512_S2x8192x512_2_0_01_1_n_n none (Cert.InProjIdeal.Own.normed x g) wq

/-- The scores of every head. -/
def scores (q : FVec Ideal S2x8192x512 .f32) (kv : FVec Ideal S2x256x1024 .bf16) : FVec Ideal S2x4x8192x256 .f32 :=
  mulf (Host.dotGeneral dot_S2x8192x4x128_S2x256x4x128_S2x4x8192x256_3_3_1_1_02_02 none (shapeCast _ q shapeCasts_S2x8192x512_S2x8192x4x128) (shapeCast _ (extractStridedSlice S2x256x512 ![0, 0, 0] (extf .f32 kv bitsLt_bf16_f32) slices_S2x256x1024_S2x256x512_0_0_0) shapeCasts_S2x256x512_S2x256x4x128)) (broadcastInDim S2x4x8192x256 ![] bcast_S_S2x4x8192x256 (constant S_ .f32 0x3DB504F3#32))

/-- The greatest score of every row. -/
def greatest (s : FVec Ideal S2x4x8192x256 .f32) : FVec Ideal S2x4x8192 .f32 :=
  Host.reduce FloatOps.maximumf s (constant S_ .f32 0xFF800000#32) reducesTo_S2x4x8192x256_S2x4x8192_d3 h_S_

/-- The exponentials of the scores less their row's greatest. -/
def powers (s : FVec Ideal S2x4x8192x256 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) (greatest s)))))

/-- The weights of a row: its exponentials over their sum. -/
def weights (p : FVec Ideal S2x4x8192x256 .f32) : FVec Ideal S2x4x8192x256 .f32 :=
  Host.divf p (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd p (constant S_ .f32 0x00000000#32) reducesTo_S2x4x8192x256_S2x4x8192_d3 h_S_)))

/-- The values, weighted, all heads side by side. -/
def attended (kv : FVec Ideal S2x256x1024 .bf16) (w : FVec Ideal S2x4x8192x256 .f32) : FVec Ideal S2x8192x512 .f32 :=
  shapeCast _ (transpose S2x8192x4x128 [0, 3, 1, 2] (Host.dotGeneral dot_S2x256x4x128_S2x4x8192x256_S2x4x128x8192_1_3_3_2_02_01 none (shapeCast _ (extractStridedSlice S2x256x512 ![0, 0, 512] (extf .f32 kv bitsLt_bf16_f32) slices_S2x256x1024_S2x256x512_0_0_512) shapeCasts_S2x256x512_S2x256x4x128) w) transposes_S2x4x128x8192_S2x8192x4x128_0_3_1_2) shapeCasts_S2x8192x4x128_S2x8192x512

/-- The reference's result. -/
def result (x : FVec Ideal S2x8192x2048 .f32) (g : FVec Ideal S2048 .f32) (wq : FVec Ideal S2048x512 .f32) (kv : FVec Ideal S2x256x1024 .bf16)
    (wo : FVec Ideal S512x2048 .f32) : FVec Ideal S2x8192x2048 .f32 :=
  addf x (Host.dotGeneral dot_S2x8192x512_S512x2048_S2x8192x2048_2_0_01_1_n_n none (attended kv (weights (powers (scores (queries x g wq) kv)))) wo)

theorem result_eq (m : (ℓ : Loc nD τ sig) → Buf (Elt Ideal) ℓ) (c : Dev nD) : Value.res_main_v38 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

theorem scores_apply (q : FVec Ideal S2x8192x512 .f32) (kv : FVec Ideal S2x256x1024 .bf16) (j : S2x4x8192x256.Idx) :
    scores q kv j = (∑ e : Fin 128, q (ValueIdx.ix3 (j 0) (j 2) ⟨(j 1).val * 128 + e.val, by have h : (j 1).val < 4 := (j 1).isLt; omega⟩)
        * kv (ValueIdx.ix3 (j 0) (j 3) ⟨(j 1).val * 128 + e.val, by have h : (j 1).val < 4 := (j 1).isLt; omega⟩)) * Ideal.ofBits .f32 0x3DB504F3#32 := by
  unfold scores
  pointwise
  rfl

theorem queries_apply (x : FVec Ideal S2x8192x2048 .f32) (g : FVec Ideal S2048 .f32) (wq : FVec Ideal S2048x512 .f32) (j : S2x8192x512.Idx) :
    queries x g wq j = ∑ d : Fin 2048, (x (ValueIdx.ix3 (j 0) (j 1) d)
        * Ideal.rsqrt (Ideal.div (∑ d : Fin 2048, x (ValueIdx.ix3 (j 0) (j 1) d) * x (ValueIdx.ix3 (j 0) (j 1) d)) (Ideal.ofBits .f32 0x45000000#32)
            + Ideal.ofBits .f32 0x358637BD#32)
        * g (ValueIdx.ix1 d)) * wq (ValueIdx.ix2 d (j 2)) := by
  pointwise [queries, Cert.InProjIdeal.Own.normed]
  rfl

open Cert.Attention in
/-- The scores of finite rows, gains, weights and keys are real. -/
theorem isReal_scores (x : FVec Ideal S2x8192x2048 .f32) (g : FVec Ideal S2048 .f32) (wq : FVec Ideal S2048x512 .f32) (kv : FVec Ideal S2x256x1024 .bf16)
    (hx : ∀ j, IsReal (x j)) (hg : ∀ j, IsReal (g j)) (hw : ∀ j, IsReal (wq j))
    (hk : ∀ (b : Fin 2) (j : Fin 256) (n : Fin 1024), n.val < 512 → IsReal (kv (ValueIdx.ix3 b j n))) (j : S2x4x8192x256.Idx) :
    IsReal (scores (queries x g wq) kv j) := by
  have h1 : (j 1).val < 4 := (j 1).isLt
  rw [scores_apply, scale]
  refine (IsReal.sum _ _ fun e => ?_).mul ⟨_, rfl⟩
  refine IsReal.mul ?_ (hk _ _ _ (by have := e.isLt; show (j 1).val * 128 + e.val < 512; omega))
  rw [queries_apply, width, raise]
  exact IsReal.sum _ _ fun d => (((hx _).mul (isReal_rsqrt _ (fun d => hx _) (by norm_num) (by norm_num))).mul (hg _)).mul (hw _)

theorem greatest_apply (s : FVec Ideal S2x4x8192x256 .f32) (j : S2x4x8192.Idx) :
    greatest s j = Finset.univ.fold max (⊥ : EReal) fun k : Fin 256 => s (ValueIdx.ix4 (j 0) (j 1) (j 2) k) := by
  unfold greatest
  rw [Host.reduce_eq_fold_single (FloatOps.maximumf (F := Ideal) (φ := .f32)) _ _ _ (by decide : S2x4x8192x256.Reduces [3] S2x4x8192) _ j]
  have e : (s ∘ Shape.Reduces.lift (by decide : S2x4x8192x256.Reduces [3] S2x4x8192) j)
      = fun k : Fin 256 => s (ValueIdx.ix4 (j 0) (j 1) (j 2) k) :=
    funext fun k => congrArg s (funext fun a => Fin.ext (by fin_cases a <;> rfl))
  rw [e]
  refine congrArg (fun b : EReal => Finset.univ.fold max b _) Cert.Attention.negInf

/-- The scores less a value of their row, exponentiated, at an index. -/
theorem less_apply (s : FVec Ideal S2x4x8192x256 .f32) (G : FVec Ideal S2x4x8192 .f32) (j : S2x4x8192x256.Idx) :
    Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 G))) j
      = Ideal.exp (s j - G (ValueIdx.ix3 (j 0) (j 1) (j 2))) := by
  pointwise
  rfl

theorem bottom_apply (G : FVec Ideal S2x4x8192 .f32) (j : S2x4x8192.Idx) :
    maximumf (broadcastInDim S2x4x8192 ![] bcast_S_S2x4x8192 (constant S_ .f32 0xFF800000#32)) G j = G j := by
  show max (Ideal.ofBits .f32 0xFF800000#32) (G j) = G j
  rw [Cert.Attention.negInf, max_eq_right bot_le]

theorem powers_apply (s : FVec Ideal S2x4x8192x256 .f32) (j : S2x4x8192x256.Idx) :
    powers s j = Ideal.exp (s j - greatest s (ValueIdx.ix3 (j 0) (j 1) (j 2))) := by
  unfold powers
  rw [less_apply, bottom_apply]

theorem weights_apply (p : FVec Ideal S2x4x8192x256 .f32) (j : S2x4x8192x256.Idx) :
    weights p j = Ideal.div (p j) (∑ k : Fin 256, p (ValueIdx.ix4 (j 0) (j 1) (j 2) k)) := by
  unfold weights
  pointwise
  rfl

theorem attended_apply (kv : FVec Ideal S2x256x1024 .bf16) (w : FVec Ideal S2x4x8192x256 .f32) (j : S2x8192x512.Idx) :
    attended kv w j = ∑ k : Fin 256, kv (ValueIdx.ix3 (j 0) k ⟨512 + (j 2).val, by have h : (j 2).val < 512 := (j 2).isLt; omega⟩)
      * w (ValueIdx.ix4 (j 0) ⟨(j 2).val / 128, by have h : (j 2).val < 512 := (j 2).isLt; omega⟩ (j 1) k) := by
  unfold attended
  pointwise
  rfl

end Cert.CrossRefIdeal.Own

end
-- ==== Proof.CrossValue.lean ====
/- The attention to the memory: the kernel's four heads against the reference's. -/
module

public import proofs.«01_k».proof.Proof.Gen.CrossIdeal.Value
public import proofs.«01_k».proof.Proof.CrossRefValue
public import Idealize.ShloMosaic.Lib.Pipeline.ValueKit
public import Idealize.ShloMosaic.Lib.Pointwise

@[expose] public section

set_option maxRecDepth 16384

noncomputable section

namespace Cert.CrossIdeal.Own

open Cert.CrossIdeal Cert.CrossIdeal.Gen
open Idealize.ShloMosaic Idealize.ShloMosaic.TcCoe Idealize.ShloMosaic.Tactic Idealize.SL.Sem
open Idealize.ShloMosaic.Pipeline (Dat)
open Cert.CrossRefIdeal.Own (queries scores greatest powers weights attended)
open Cert.Attention

/-! ## One head of the kernel -/

/-- The exponentials of a head's scores less their row's greatest. -/
def powersOf (q k : FVec Ideal S256x128 .bf16) : FVec Ideal S256x256 .f32 :=
  have s : FVec Ideal S256x256 .f32 := matmul dot_S256x128_S256x128_S256x256_1_1_0_0_n_n none q k (constant S256x256 .f32 0x00000000#32)
  exp (subf s (broadcastTo S256x256 (shapeCast S256x1 (multiReduction .maximumf [1] S256 s 0xFF800000#32 reduces_S256x256_S256 (.inl rfl) rfl) shapeCasts_S256_S256x1) broadcasts_S256x1_S256x256))

/-- A head's result: the values weighted by the exponentials, over the exponentials' sum. -/
def headOf (q k v : FVec Ideal S256x128 .bf16) : FVec Ideal S256x128 .bf16 :=
  truncf .bf16 (divf (matmul dot_S256x256_S256x128_S256x128_1_0_0_1_n_n none (truncf .bf16 (powersOf q k) bitsLt_bf16_f32) v (constant S256x128 .f32 0x00000000#32))
    (broadcastTo S256x128 (shapeCast S256x1 (multiReduction .add [1] S256 (powersOf q k) 0x00000000#32 reduces_S256x256_S256 (.inl rfl) rfl) shapeCasts_S256_S256x1) broadcasts_S256x1_S256x128)) bitsLt_bf16_f32

/-- The four heads side by side. -/
def joined (a b c d : FVec Ideal S256x128 .bf16) : FVec Ideal S256x512 .bf16 :=
  concatenate S256x512 1 [⟨S256x128, a⟩, ⟨S256x128, b⟩, ⟨S256x128, c⟩, ⟨S256x128, d⟩] concatenates_S256x128_S256x128_S256x128_S256x128_S256x512_d1

/-- The columns of one head. -/
abbrev cast3 (k : FVec Ideal S1x256x128 .bf16) : FVec Ideal S256x128 .bf16 := shapeCast S256x128 k shapeCasts_S1x256x128_S256x128

theorem pay8_eq (x : FVec Ideal S1x256x2048 .f32) (g : FVec Ideal S1x2048 .f32) (w : FVec Ideal S2048x512 .bf16) (k v : FVec Ideal S1x256x128 .bf16) :
    k0_pay8 (k0_pay4 v) (k0_pay6 x g w k) (k0_pay7 x g w k)
      = headOf (extractStridedSlice S256x128 ![0, 0] (k0_pay3 x g w) slices_S256x512_o0_0_S256x128) (cast3 k) (cast3 v) := rfl

theorem pay9_eq (q : FVec Ideal S256x512 .bf16) (k v : FVec Ideal S1x256x128 .bf16) :
    k0_pay9 q k v = headOf (extractStridedSlice S256x128 ![0, 128] q slices_S256x512_o0_128_S256x128) (cast3 k) (cast3 v) := rfl

theorem pay10_eq (q : FVec Ideal S256x512 .bf16) (k v : FVec Ideal S1x256x128 .bf16) :
    truncf .bf16 (k0_pay10 q k v) bitsLt_bf16_f32
      = headOf (extractStridedSlice S256x128 ![0, 256] q slices_S256x512_o0_256_S256x128) (cast3 k) (cast3 v) := rfl

theorem pay1_eq (x : FVec Ideal S256x2048 .f32) (q : FVec Ideal S256x512 .bf16) (a b : FVec Ideal S256x128 .bf16) (c : FVec Ideal S256x128 .f32)
    (k v : FVec Ideal S1x256x128 .bf16) (w : FVec Ideal S512x2048 .bf16) :
    k0_pay1 x q a b c k v w
      = shapeCast S1x256x2048 (addf x (matmul dot_S256x512_S512x2048_S256x2048_1_0_0_1_n_n none
          (joined a b (truncf .bf16 c bitsLt_bf16_f32) (headOf (extractStridedSlice S256x128 ![0, 384] q slices_S256x512_o0_384_S256x128) (cast3 k) (cast3 v)))
          (shapeCast S512x2048 w shapeCasts_S512x2048_S512x2048) (constant S256x2048 .f32 0x00000000#32))) shapeCasts_S256x2048_S1x256x2048 := rfl

/-- The scores of a head. -/
abbrev dotRow (q k : FVec Ideal S256x128 .bf16) (i j : Fin 256) : EReal :=
  ∑ e : Fin 128, (q (ValueIdx.ix2 i e) : EReal) * k (ValueIdx.ix2 j e)

theorem powersOf_apply (q k : FVec Ideal S256x128 .bf16) (y : S256x256.Idx) :
    powersOf q k y = Ideal.exp (dotRow q k (y 0) (y 1) - Finset.univ.fold max (⊥ : EReal) (dotRow q k (y 0))) := by
  rw [← negInf]
  pointwise [powersOf]
  rfl

theorem headOf_apply (q k v : FVec Ideal S256x128 .bf16) (y : S256x128.Idx) :
    headOf q k v y = Ideal.div (∑ j : Fin 256, powersOf q k (ValueIdx.ix2 (y 0) j) * v (ValueIdx.ix2 j (y 1)))
      (∑ j : Fin 256, powersOf q k (ValueIdx.ix2 (y 0) j)) := by
  pointwise [headOf]
  rfl

/-- A head whose queries are scaled and whose scores are real is the reference's, at the head's columns. -/
theorem headOf_eq (Q : FVec Ideal Cert.CrossRefIdeal.S2x8192x512 .f32) (kv : FVec Ideal Cert.CrossRefIdeal.S2x256x1024 .bf16) (b : Fin 2) (row : Fin 256 → Fin 8192) (h : Fin 4) (o u : ℕ) (ho : o = h.val * 128) (hu : u = 512 + o)
    (q k v : FVec Ideal S256x128 .bf16) (hs : ∀ j, IsReal (scores Q kv j))
    (hq : ∀ i e, q (ValueIdx.ix2 i e) = Q (ValueIdx.ix3 b (row i) ⟨o + e.val, by have := h.isLt; omega⟩) * Ideal.ofBits .f32 0x3DB504F3#32)
    (hk : ∀ j e, k (ValueIdx.ix2 j e) = kv (ValueIdx.ix3 b j ⟨o + e.val, by have := h.isLt; omega⟩))
    (hv : ∀ j e, v (ValueIdx.ix2 j e) = kv (ValueIdx.ix3 b j ⟨u + e.val, by have := h.isLt; omega⟩))
    (i : Fin 256) (e : Fin 128) :
    headOf q k v (ValueIdx.ix2 i e)
      = attended kv (weights (powers (scores Q kv))) (ValueIdx.ix3 b (row i) ⟨o + e.val, by have := h.isLt; omega⟩) := by
  subst ho
  have hv (j : Fin 256) (e : Fin 128) : v (ValueIdx.ix2 j e) = kv (ValueIdx.ix3 b j ⟨512 + (h.val * 128 + e.val), by have := h.isLt; omega⟩) :=
    (hv j e).trans (congrArg (fun n => kv (ValueIdx.ix3 b j n)) (Fin.ext (by show u + e.val = 512 + (h.val * 128 + e.val); omega)))
  have hdot (j : Fin 256) : dotRow q k i j = scores Q kv (ValueIdx.ix4 b h (row i) j) := by
    rw [Cert.CrossRefIdeal.Own.scores_apply]
    simp only [dotRow, hq, hk, scale]
    exact sum_scaled _ _ (by positivity)
  have hpow (j : Fin 256) : powersOf q k (ValueIdx.ix2 i j) = Ideal.exp (scores Q kv (ValueIdx.ix4 b h (row i) j)
      - Finset.univ.fold max (⊥ : EReal) fun j => scores Q kv (ValueIdx.ix4 b h (row i) j)) := by
    rw [powersOf_apply]
    show Ideal.exp (dotRow q k i j - Finset.univ.fold max (⊥ : EReal) (dotRow q k i)) = _
    rw [funext hdot]
  have hh : (⟨(h.val * 128 + e.val) / 128, by have := h.isLt; omega⟩ : Fin 4) = h := Fin.ext (by have := e.isLt; show (h.val * 128 + e.val) / 128 = h.val; omega)
  rw [headOf_apply, Cert.CrossRefIdeal.Own.attended_apply]
  show Ideal.div (∑ j : Fin 256, powersOf q k (ValueIdx.ix2 i j) * v (ValueIdx.ix2 j e)) (∑ j : Fin 256, powersOf q k (ValueIdx.ix2 i j))
    = ∑ j : Fin 256, kv (ValueIdx.ix3 b j ⟨512 + (h.val * 128 + e.val), _⟩) * weights (powers (scores Q kv)) (ValueIdx.ix4 b ⟨(h.val * 128 + e.val) / 128, _⟩ (row i) j)
  simp only [hh, hpow, hv, Cert.CrossRefIdeal.Own.weights_apply, Cert.CrossRefIdeal.Own.powers_apply, Cert.CrossRefIdeal.Own.greatest_apply]
  exact weigh _ _ (fun j => hs _) (isReal_greatest _ fun j => hs _)

/-- Four heads, each the reference's at its columns, are the reference's at every column. -/
theorem joined_eq (A : FVec Ideal Cert.CrossRefIdeal.S2x8192x512 .f32) (b : Fin 2) (row : Fin 256 → Fin 8192) (o0 o1 o2 o3 : FVec Ideal S256x128 .bf16)
    (h0 : ∀ i e, o0 (ValueIdx.ix2 i e) = A (ValueIdx.ix3 b (row i) ⟨0 + e.val, by omega⟩))
    (h1 : ∀ i e, o1 (ValueIdx.ix2 i e) = A (ValueIdx.ix3 b (row i) ⟨128 + e.val, by omega⟩))
    (h2 : ∀ i e, o2 (ValueIdx.ix2 i e) = A (ValueIdx.ix3 b (row i) ⟨256 + e.val, by omega⟩))
    (h3 : ∀ i e, o3 (ValueIdx.ix2 i e) = A (ValueIdx.ix3 b (row i) ⟨384 + e.val, by omega⟩)) (i : Fin 256) (n : Fin 512) :
    joined o0 o1 o2 o3 (ValueIdx.ix2 i n) = A (ValueIdx.ix3 b (row i) n) := by
  unfold joined
  pointwise
  have e1 : (ValueIdx.ix2 i n 1).val = n.val := rfl
  have hn := n.isLt
  split
  · exact (h0 i _).trans (congrArg (fun n => A (ValueIdx.ix3 b (row i) n)) (Fin.ext (by show 0 + n.val = n.val; omega)))
  · split
    · exact (h1 i _).trans (congrArg (fun n => A (ValueIdx.ix3 b (row i) n)) (Fin.ext (by show 128 + (n.val - 128) = n.val; omega)))
    · split
      · exact (h2 i _).trans (congrArg (fun n => A (ValueIdx.ix3 b (row i) n)) (Fin.ext (by show 256 + (n.val - 128 - 128) = n.val; omega)))
      · exact (h3 i _).trans (congrArg (fun n => A (ValueIdx.ix3 b (row i) n)) (Fin.ext (by show 384 + (n.val - 128 - 128 - 128) = n.val; omega)))

/-- The columns of the queries one head takes. -/
theorem sliced (q : FVec Ideal S256x512 .bf16) (o : ℕ) (ho : o + 128 ≤ 512) (h : S256x512.Slices ![0, o] S256x128) (i : Fin 256) (e : Fin 128) :
    extractStridedSlice S256x128 ![0, o] q h (ValueIdx.ix2 i e) = q (ValueIdx.ix2 i ⟨o + e.val, by omega⟩) := by
  pointwise
  rfl

/-! ## The blocks -/

variable (m : (ℓ : Loc nD τ sig) → Buf (Elt Ideal) ℓ)

theorem idx : ∀ t : Fin cfg0.N, win0_0.index t = ![t.val / 32, t.val % 32, 0] ∧ win0_1.index t = ![0, 0] ∧ win0_2.index t = ![0, 0]
    ∧ win0_3.index t = ![t.val / 32, 0, 0] ∧ win0_4.index t = ![0, 0] ∧ win0_5.index t = ![t.val / 32, t.val % 32, 0] :=
  (by decide +kernel : ∀ t : Fin grid0.N, _)

theorem batch_lt {n : ℕ} (h : n < cfg0.N) : n / 32 < 2 := by
  have hN := lt_of_lt_of_eq h (show cfg0.N = 64 from N_0); omega

/-- The batch and the row of the stream a point's rows stand for. -/
abbrev batch (t : Fin cfg0.N) : Fin 2 := ⟨t.val / 32, batch_lt t.isLt⟩
abbrev row (t : Fin cfg0.N) (i : Fin 256) : Fin 8192 := ⟨t.val % 32 * 256 + i.val, by omega⟩

abbrev X (c : Dev nD) : FVec Ideal Cert.CrossRefIdeal.S2x8192x2048 .f32 := m ((c : Thread nD τ).loc main_arg0)
abbrev G (c : Dev nD) : FVec Ideal Cert.CrossRefIdeal.S2048 .f32 := m ((c : Thread nD τ).loc main_arg1)
abbrev WQ (c : Dev nD) : FVec Ideal Cert.CrossRefIdeal.S2048x512 .f32 := m ((c : Thread nD τ).loc main_arg2)
abbrev KV (c : Dev nD) : FVec Ideal Cert.CrossRefIdeal.S2x256x1024 .bf16 := m ((c : Thread nD τ).loc main_arg3)
abbrev WO (c : Dev nD) : FVec Ideal Cert.CrossRefIdeal.S512x2048 .f32 := m ((c : Thread nD τ).loc main_arg4)

/-- A point's scaled queries. -/
theorem pay3_apply (c : Dev nD) (t : Fin cfg0.N) (i : Fin 256) (n : Fin 512) :
    k0_pay3 (iblk m c 0 t) (iblk m c 1 t) (iblk m c 2 t) (ValueIdx.ix2 i n)
      = queries (X m c) (G m c) (WQ m c) (ValueIdx.ix3 (batch t) (row t i) n) * Ideal.ofBits .f32 0x3DB504F3#32 := by
  pointwise [k0_pay3, k0_pay2, queries, Cert.InProjIdeal.Own.normed]
  blk_point [iblk, V, idx t]

/-- A point's read of 128 columns of the memory's keys or values. -/
theorem column (c : Dev nD) (t : Fin cfg0.N) (o : ℕ) (ho : o + 128 ≤ 1024)
    (h : ∀ a, (![0, 0, o] : Fin 3 → ℕ) a + S1x256x128.size a ≤ S1x256x1024.size a) (j : Fin 256) (e : Fin 128) :
    cast3 (View.ld (iblk m c 3 t) (Rect.unit (s := S1x256x1024) ![0, 0, o] S1x256x128.size h)) (ValueIdx.ix2 j e)
      = KV m c (ValueIdx.ix3 (batch t) j ⟨o + e.val, by omega⟩) := by
  pointwise [cast3]
  blk_point [iblk, V, idx t]

/-- One head of a point, whichever columns it takes. -/
theorem head_eq (c : Dev nD) (t : Fin cfg0.N) (hs : ∀ j, IsReal (scores (queries (X m c) (G m c) (WQ m c)) (KV m c) j)) (h : Fin 4) (o u : ℕ)
    (ho : o = h.val * 128) (hu : u = 512 + o) (ho' : o + 128 ≤ 512) (hu' : u + 128 ≤ 1024) (hS : S256x512.Slices ![0, o] S256x128)
    (hk : ∀ a, (![0, 0, o] : Fin 3 → ℕ) a + S1x256x128.size a ≤ S1x256x1024.size a)
    (hv : ∀ a, (![0, 0, u] : Fin 3 → ℕ) a + S1x256x128.size a ≤ S1x256x1024.size a) (i : Fin 256) (e : Fin 128) :
    headOf (extractStridedSlice S256x128 ![0, o] (k0_pay3 (iblk m c 0 t) (iblk m c 1 t) (iblk m c 2 t)) hS)
        (cast3 (View.ld (iblk m c 3 t) (Rect.unit (s := S1x256x1024) ![0, 0, o] S1x256x128.size hk)))
        (cast3 (View.ld (iblk m c 3 t) (Rect.unit (s := S1x256x1024) ![0, 0, u] S1x256x128.size hv))) (ValueIdx.ix2 i e)
      = attended (KV m c) (weights (powers (scores (queries (X m c) (G m c) (WQ m c)) (KV m c)))) (ValueIdx.ix3 (batch t) (row t i) ⟨o + e.val, by omega⟩) :=
  headOf_eq _ _ (batch t) (row t) h o u ho hu _ _ _ hs
    (fun i e => (sliced _ o ho' hS i e).trans (pay3_apply m c t i _))
    (fun j e => column m c t o (by omega) hk j e) (fun j e => column m c t u hu' hv j e) i e

theorem final (c : Dev nD) (hs : ∀ j, IsReal (scores (queries (X m c) (G m c) (WQ m c)) (KV m c) j)) :
    (dats m 0 c).arrAt 5 (cfgs 0).N = Cert.CrossRefIdeal.Own.result (X m c) (G m c) (WQ m c) (KV m c) (WO m c) := by
  refine (dats m 0 c).arrAt_eq_of_covers 5 _ (by decide +kernel) fun t _ y => ?_
  blk_simp
  rw [after0_5]
  unfold_out out0_5
  frame_out
  rw [pay8_eq, pay9_eq, pay1_eq, pay10_eq]
  have hj := joined_eq _ (batch t) (row t) _ _ _ _ (head_eq m c t hs 0 0 512 rfl rfl (by decide) (by decide) slices_S256x512_o0_0_S256x128 inb_S1x256x1024_S1x256x128_0_0_0 inb_S1x256x1024_S1x256x128_0_0_512)
    (head_eq m c t hs 1 128 640 rfl rfl (by decide) (by decide) slices_S256x512_o0_128_S256x128 inb_S1x256x1024_S1x256x128_0_0_128 inb_S1x256x1024_S1x256x128_0_0_640)
    (head_eq m c t hs 2 256 768 rfl rfl (by decide) (by decide) slices_S256x512_o0_256_S256x128 inb_S1x256x1024_S1x256x128_0_0_256 inb_S1x256x1024_S1x256x128_0_0_768)
    (head_eq m c t hs 3 384 896 rfl rfl (by decide) (by decide) slices_S256x512_o0_384_S256x128 inb_S1x256x1024_S1x256x128_0_0_384 inb_S1x256x1024_S1x256x128_0_0_896)
  generalize joined _ _ _ _ = J at hj ⊢
  unfold Cert.CrossRefIdeal.Own.result
  generalize attended _ _ = A at hj ⊢
  pointwise [k0_pay2]
  refine congrArg₂ (fun a b : EReal => a + b) ?_ (Finset.sum_congr rfl fun x _ => congrArg₂ (fun a b : EReal => a * b) ((hj (y 1) x).trans ?_) ?_)
    <;> blk_point [iblk, V, idx t]

end Cert.CrossIdeal.Own

end
-- ==== Proof.CrossClaims.lean ====
/- The claims about the attention to the memory: the reference's frame and the equality of results. -/
module

public import proofs.«01_k».proof.Defs
public import proofs.«01_k».proof.Proof.Gen.CrossIdeal
public import proofs.«01_k».proof.Proof.Gen.CrossRefIdeal
public import proofs.«01_k».proof.Proof.CrossValue
public import proofs.«01_k».proof.Proof.Gen.Pre_cross_finite
public import Idealize.ShloMosaic.Adequacy
public import Idealize.ShloMosaic.Init
public import Idealize.ShloMosaic.Lib.Quiescent

@[expose] public section

noncomputable section

namespace Cert.Crosses

open Idealize.ShloMosaic Idealize.SL.Sem
open Cert.Attention (IsReal)

theorem frame_reference : Cert.quiescent_CrossRefIdeal := fun m ρ _ =>
  (θ_run _ _ _).mono (fun r h => ⟨fun c => (h c).2, sem_eq_zero_of_no_sems (by decide) r.2⟩) (Cert.CrossRefIdeal.Value.run (F := Ideal) m ρ)

theorem isReal_of_less (x : EReal) (h : Ideal.cmp .olt (max x (-x)) (Ideal.ofBits .f32 0x7F800000#32) = 1#1) : IsReal x := by
  refine Cert.Attention.isReal_of_abs_lt ?_
  rw [Cert.Attention.posInf] at h
  by_contra hn
  simp [Ideal.cmp, hn] at h

/-- What the precondition says of the four arrays. -/
theorem finite {x : FVec Ideal Cert.Pre_cross_finite.S2x8192x2048 .f32} {g : FVec Ideal Cert.Pre_cross_finite.S2048 .f32}
    {wq : FVec Ideal Cert.Pre_cross_finite.S2048x512 .f32} {kv : FVec Ideal Cert.Pre_cross_finite.S2x256x1024 .bf16} {wo : FVec Ideal Cert.Pre_cross_finite.S512x2048 .f32}
    (h : (Cert.Pre_cross_finite.fn (F := Ideal) x g wq kv wo).1 = (fun _ => 1#1)
      ∧ (Cert.Pre_cross_finite.fn (F := Ideal) x g wq kv wo).2.1 = (fun _ => 1#1)
      ∧ (Cert.Pre_cross_finite.fn (F := Ideal) x g wq kv wo).2.2.1 = (fun _ => 1#1)
      ∧ (Cert.Pre_cross_finite.fn (F := Ideal) x g wq kv wo).2.2.2 = (fun _ => 1#1)) :
    (∀ j, IsReal (x j)) ∧ (∀ j, IsReal (g j)) ∧ (∀ j, IsReal (wq j))
      ∧ ∀ (b : Fin 2) (j : Fin 256) (n : Fin 1024), n.val < 512 → IsReal (kv (ValueIdx.ix3 b j n)) := by
  obtain ⟨h0, h1, h2, h3⟩ := h
  refine ⟨fun j => isReal_of_less _ (congrFun h0 j), fun j => isReal_of_less _ (congrFun h1 j), fun j => isReal_of_less _ (congrFun h2 j),
    fun b j n hn => ?_⟩
  refine isReal_of_less _ (Eq.trans ?_ (congrFun h3 (ValueIdx.ix3 b j ⟨n.val, hn⟩)))
  simp only [Cert.Pre_cross_finite.fn]
  pointwise
  rfl

theorem equal : Cert.algebraic_CrossIdeal_CrossRefIdeal_pre_cross_finite := fun m g m' g' hp hargs => by
  refine ⟨fun c => (Cert.CrossIdeal.Gen.dats m 0 c).arrAt 5 Cert.CrossIdeal.cfg0.N, ?_, ?_⟩
  · exact Cert.CrossIdeal.Value.run_blocks m g
  · refine (θ_run _ _ _).mono (fun _ hr c => ⟨((hr c).1).trans ?_, (hr c).2⟩) (Cert.CrossRefIdeal.Value.run m' g')
    obtain rfl : c = 0 := Subsingleton.elim _ _
    obtain ⟨h0, h1, h2, h3, h4⟩ := hargs 0
    rw [Cert.CrossRefIdeal.Own.result_eq, h0, h1, h2, h3, h4]
    obtain ⟨hx, hg, hw, hk⟩ := finite (hp 0)
    exact (Cert.CrossIdeal.Own.final m 0 (Cert.CrossRefIdeal.Own.isReal_scores _ _ _ _ hx hg hw hk)).symm

end Cert.Crosses

end
-- ==== Proof.KvProjValue.lean ====
/- The projection of the memory (one block: its rows normalised, times the key and value weights side by side) against its reference. -/
module

public import proofs.«01_k».proof.Proof.Gen.KvProjIdeal.Value
public import proofs.«01_k».proof.Proof.Gen.KvProjRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KvProjIdeal.Own

open Cert.KvProjIdeal Cert.KvProjIdeal.Gen
open Idealize.ShloMosaic Idealize.ShloMosaic.TcCoe Idealize.ShloMosaic.Tactic Idealize.SL.Sem
open Idealize.ShloMosaic.Pipeline (Dat)

/-- The reference's rows, each over the root of its mean square, times the gain. -/
abbrev normed (x : FVec Ideal Cert.KvProjRefIdeal.S2x256x2048 .f32) (g : FVec Ideal Cert.KvProjRefIdeal.S2048 .f32) :
    FVec Ideal Cert.KvProjRefIdeal.S2x256x2048 .f32 :=
  open Cert.KvProjRefIdeal Cert.KvProjRefIdeal.Gen in
  mulf (mulf x (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf x x) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 g))

/-- The reference's product of the normalised rows with one of the two weights. -/
abbrev product (h : FVec Ideal Cert.KvProjRefIdeal.S2x256x2048 .f32) (w : FVec Ideal Cert.KvProjRefIdeal.S2048x512 .f32) :
    FVec Ideal Cert.KvProjRefIdeal.S2x256x512 .f32 :=
  Host.dotGeneral Cert.KvProjRefIdeal.dot_S2x256x2048_S2048x512_S2x256x512_2_0_01_1_n_n none h w

/-- The two products side by side, their rows in one list. -/
abbrev joined (h : FVec Ideal Cert.KvProjRefIdeal.S2x256x2048 .f32) (wk wv : FVec Ideal Cert.KvProjRefIdeal.S2048x512 .f32) :
    FVec Ideal Cert.KvProjRefIdeal.S512x1024 .bf16 :=
  open Cert.KvProjRefIdeal in
  truncf .bf16 (shapeCast _ (concatenate S2x256x1024 2 [⟨S2x256x512, product h wk⟩, ⟨S2x256x512, product h wv⟩]
    Cert.KvProjRefIdeal.Gen.concatenates_S2x256x512_S2x256x512_S2x256x1024_d2) Cert.KvProjRefIdeal.Gen.shapeCasts_S2x256x1024_S512x1024) Cert.KvProjRefIdeal.Gen.bitsLt_bf16_f32

/-- The reference's term. -/
abbrev projected (x : FVec Ideal Cert.KvProjRefIdeal.S2x256x2048 .f32) (g : FVec Ideal Cert.KvProjRefIdeal.S2048 .f32)
    (wk wv : FVec Ideal Cert.KvProjRefIdeal.S2048x512 .f32) : FVec Ideal Cert.KvProjRefIdeal.S512x1024 .bf16 :=
  joined (normed x g) wk wv

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The kernel's rows, normalised, are the reference's. -/
theorem pay1_apply (c : Dev nD) (t : Fin cfg0.N) (y : S512x2048.Idx) :
    k0_pay1 (iblk m c 0 t) (iblk m c 1 t) y
      = normed (m ((c : Thread nD τ).loc main_arg0)) (m ((c : Thread nD τ).loc main_arg1))
          (ValueIdx.ix3 ⟨(y 0).val / 256, by have h : (y 0).val < 512 := (y 0).isLt; omega⟩
            ⟨(y 0).val % 256, Nat.mod_lt _ (by decide)⟩ (y 1)) := by
  pointwise [k0_pay1, normed]
  blk_point [iblk, V, idx t]

/-- The columns' scale is 1 everywhere. -/
theorem ones (c : Dev nD) (t : Fin cfg0.N) (j : Fin 1024) : iblk m c 3 t (ValueIdx.ix2 0 j) = (1 : EReal) := by
  refine Eq.trans ?_ (show Ideal.ofBits .f32 0x3F800000#32 = (1 : EReal) by
    simp [Ideal.ofBits, Ideal.ieee, -EReal.coe_mul]; norm_num)
  blk_point [iblk, V, idx t]

/-- The array of the weights as the kernel finds it. -/
theorem weights (c : Dev nD) : V m c main_v1 = truncf .bf16 (concatenate S2048x1024 1
    [⟨S2048x512, (m ((c : Thread nD τ).loc main_arg2) : FVec Ideal S2048x512 .f32)⟩, ⟨S2048x512, (m ((c : Thread nD τ).loc main_arg3) : FVec Ideal S2048x512 .f32)⟩]
      concatenates_S2048x512_S2048x512_S2048x1024_d1 : FVec Ideal S2048x1024 .f32) bitsLt_bf16_f32 := by
  unfold V
  after_results <;> rfl

/-- The weights' block: the keys' columns, then the values'. -/
theorem columns (c : Dev nD) (t : Fin cfg0.N) (x : Fin 2048) (j : Fin 1024) : iblk m c 2 t (ValueIdx.ix2 x j)
    = if h : j.val < 512 then m ((c : Thread nD τ).loc main_arg2) (ValueIdx.ix2 x ⟨j.val, h⟩)
      else m ((c : Thread nD τ).loc main_arg3) (ValueIdx.ix2 x ⟨j.val - 512, by have := j.isLt; omega⟩) := by
  have e : iblk m c 2 t (ValueIdx.ix2 x j) = V m c main_v1 (ValueIdx.ix2 x j) := by
    blk_point [iblk, idx t]
  rw [e, weights]
  pointwise
  rfl

/-- The kernel's product is the reference's, whatever the rows. -/
theorem pay2_apply (c : Dev nD) (t : Fin cfg0.N) (s : FVec Ideal S512x2048 .bf16) (H : FVec Ideal Cert.KvProjRefIdeal.S2x256x2048 .f32)
    (hs : ∀ y : S512x2048.Idx, s y = H (ValueIdx.ix3 ⟨(y 0).val / 256, by have h : (y 0).val < 512 := (y 0).isLt; omega⟩
      ⟨(y 0).val % 256, Nat.mod_lt _ (by decide)⟩ (y 1)))
    (y : S512x1024.Idx) : k0_pay2 s (iblk m c 2 t) (iblk m c 3 t) y
      = joined H (m ((c : Thread nD τ).loc main_arg2)) (m ((c : Thread nD τ).loc main_arg3)) y := by
  have h2 (x : Fin 2048) := columns m c t x (y 1)
  have h3 := ones m c t (y 1)
  have e : k0_pay2 s (iblk m c 2 t) (iblk m c 3 t) y = (∑ x : Fin 2048, s (ValueIdx.ix2 (y 0) x) * iblk m c 2 t (ValueIdx.ix2 x (y 1))) * iblk m c 3 t (ValueIdx.ix2 0 (y 1)) := by
    pointwise [k0_pay2]
    rfl
  rw [e, h3, mul_one]
  simp only [h2, hs]
  pointwise [joined]
  by_cases h : (y 1).val < 512
  · simp only [h, dite_true]
    rfl
  · simp only [h, dite_false]
    rfl

theorem final (c : Dev nD) : (dats m 0 c).arrAt 4 (cfgs 0).N
    = projected (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  unfold outsAt0
  frame_out
  refine (pay2_apply m c t _ _ (fun y => pay1_apply m c t y) y).trans ?_
  unfold projected
  generalize joined _ _ _ = J
  blk_point [idx t]

end Cert.KvProjIdeal.Own

end
-- ==== Proof.KvProjClaims.lean ====
/- The claims about the projection of the memory: the reference's frame and the equality of results. -/
module

public import proofs.«01_k».proof.Defs
public import proofs.«01_k».proof.Proof.Gen.KvProjIdeal
public import proofs.«01_k».proof.Proof.Gen.KvProjRefIdeal
public import proofs.«01_k».proof.Proof.KvProjValue
public import Idealize.ShloMosaic.Adequacy
public import Idealize.ShloMosaic.Init
public import Idealize.ShloMosaic.Lib.Quiescent

@[expose] public section

noncomputable section

namespace Cert.KvProjs

open Idealize.ShloMosaic Idealize.SL.Sem

theorem frame_reference : Cert.quiescent_KvProjRefIdeal := fun m ρ _ =>
  (θ_run _ _ _).mono (fun r h => ⟨fun c => (h c).2, sem_eq_zero_of_no_sems (by decide) r.2⟩) (Cert.KvProjRefIdeal.Value.run (F := Ideal) m ρ)

theorem equal : Cert.algebraic_KvProjIdeal_KvProjRefIdeal := fun m g m' g' _ hargs => by
  refine ⟨fun c => (Cert.KvProjIdeal.Gen.dats m 0 c).arrAt 4 Cert.KvProjIdeal.cfg0.N, ?_, ?_⟩
  · exact Cert.KvProjIdeal.Value.run_blocks m g
  · refine (θ_run _ _ _).mono (fun _ hr c => ⟨((hr c).1).trans ?_, (hr c).2⟩) (Cert.KvProjRefIdeal.Value.run m' g')
    obtain rfl : c = 0 := Subsingleton.elim _ _
    obtain ⟨h0, h1, h2, h3⟩ := hargs 0
    rw [h0, h1, h2, h3]
    exact (Cert.KvProjIdeal.Own.final m 0).symm

end Cert.KvProjs

end
-- ==== Proof.PoolValue.lean ====
/- The mixing by trailing means (one block of 512 tokens with the 16 before it) against its reference. -/
module

public import proofs.«01_k».proof.Proof.Gen.PoolIdeal.Value
public import proofs.«01_k».proof.Proof.Gen.PoolRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PoolIdeal.Own

open Cert.PoolIdeal Cert.PoolIdeal.Gen
open Idealize.ShloMosaic Idealize.ShloMosaic.TcCoe Idealize.ShloMosaic.Tactic Idealize.SL.Sem
open Idealize.ShloMosaic.Pipeline (Dat)

/-- The last 512 columns as four groups of 128. -/
abbrev groups (x : FVec Ideal Cert.PoolRefIdeal.S2x8192x2048 .f32) : FVec Ideal Cert.PoolRefIdeal.S2x8192x4x128 .f32 :=
  open Cert.PoolRefIdeal Cert.PoolRefIdeal.Gen in
  shapeCast _ (extractStridedSlice S2x8192x512 ![0, 0, 1536] x slices_S2x8192x2048_S2x8192x512_0_0_1536) shapeCasts_S2x8192x512_S2x8192x4x128

/-- How far the second token lies behind the first. -/
abbrev behind : IVec Cert.PoolRefIdeal.S8192x8192 32 :=
  open Cert.PoolRefIdeal Cert.PoolRefIdeal.Gen in
  subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))

/-- The four windows: 2, 4, 8, 16. -/
abbrev windows : IVec Cert.PoolRefIdeal.S4 32 :=
  open Cert.PoolRefIdeal Cert.PoolRefIdeal.Gen in
  Host.shli (broadcastInDim S4 ![] bcast_S_S4 (constantI S_ 32 2#32)) (iotaInDim S4 32 0)

/-- 1 where the second token lies in the group's window before the first, else 0. -/
abbrev inside : FVec Ideal Cert.PoolRefIdeal.S4x8192x8192 .f32 :=
  open Cert.PoolRefIdeal Cert.PoolRefIdeal.Gen in
  uitofp .f32 (andi (broadcastInDim S4x8192x8192 ![0, 1, 2] bcast_S1x8192x8192_S4x8192x8192_0_1_2 (broadcastInDim S1x8192x8192 ![1, 2] bcast_S8192x8192_S1x8192x8192_1_2 (cmpi .sge behind (broadcastInDim S8192x8192 ![] bcast_S_S8192x8192 (constantI S_ 32 0#32))))) (cmpi .slt (broadcastInDim S4x8192x8192 ![0, 1, 2] bcast_S1x8192x8192_S4x8192x8192_0_1_2 (broadcastInDim S1x8192x8192 ![1, 2] bcast_S8192x8192_S1x8192x8192_1_2 behind)) (broadcastInDim S4x8192x8192 ![0, 1, 2] bcast_S4x1x1_S4x8192x8192_0_1_2 (broadcastInDim S4x1x1 ![0] bcast_S4_S4x1x1_0 windows))))

/-- How many tokens a window holds: fewer than its length at the start. -/
abbrev counts : FVec Ideal Cert.PoolRefIdeal.S8192x4 .f32 :=
  open Cert.PoolRefIdeal Cert.PoolRefIdeal.Gen in
  sitofp .f32 (minsi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32)))) (broadcastInDim S8192x4 ![0, 1] bcast_S1x4_S8192x4_0_1 (broadcastInDim S1x4 ![1] bcast_S4_S1x4_1 windows)))

/-- The mean over each token's window less the token. -/
abbrev centred (u : FVec Ideal Cert.PoolRefIdeal.S2x8192x4x128 .f32) (a : FVec Ideal Cert.PoolRefIdeal.S4x8192x8192 .f32) (n : FVec Ideal Cert.PoolRefIdeal.S8192x4 .f32) :
    FVec Ideal Cert.PoolRefIdeal.S2x8192x4x128 .f32 :=
  open Cert.PoolRefIdeal Cert.PoolRefIdeal.Gen in
  subf (Host.divf (transpose S2x8192x4x128 [1, 3, 0, 2] (Host.dotGeneral dot_S2x8192x4x128_S4x8192x8192_S4x2x128x8192_1_2_03_1_2_0 none u a) transposes_S4x2x128x8192_S2x8192x4x128_1_3_0_2) (broadcastInDim S2x8192x4x128 ![0, 1, 2, 3] bcast_S1x8192x4x1_S2x8192x4x128_0_1_2_3 (broadcastInDim S1x8192x4x1 ![1, 2] bcast_S8192x4_S1x8192x4x1_1_2 n))) u

/-- The groups through their maps, scaled, as 512 columns again. -/
abbrev mapped (h : FVec Ideal Cert.PoolRefIdeal.S2x8192x4x128 .f32) (w : FVec Ideal Cert.PoolRefIdeal.S4x128x128 .f32) (sc : FVec Ideal Cert.PoolRefIdeal.S512 .f32) :
    FVec Ideal Cert.PoolRefIdeal.S2x8192x512 .bf16 :=
  open Cert.PoolRefIdeal Cert.PoolRefIdeal.Gen in
  truncf .bf16 (shapeCast _ (mulf (transpose S2x8192x4x128 [2, 3, 0, 1] (Host.dotGeneral dot_S4x128x128_S2x8192x4x128_S4x128x2x8192_1_3_2_01_0_2 none w h) transposes_S4x128x2x8192_S2x8192x4x128_2_3_0_1) (broadcastInDim S2x8192x4x128 ![0, 1, 2, 3] bcast_S1x1x4x128_S2x8192x4x128_0_1_2_3 (broadcastInDim S1x1x4x128 ![2, 3] bcast_S4x128_S1x1x4x128_2_3 (shapeCast _ sc shapeCasts_S512_S4x128)))) shapeCasts_S2x8192x4x128_S2x8192x512) Cert.PoolRefIdeal.Gen.bitsLt_bf16_f32

/-- The reference's term. -/
abbrev result (x : FVec Ideal Cert.PoolRefIdeal.S2x8192x2048 .f32) (w : FVec Ideal Cert.PoolRefIdeal.S4x128x128 .f32) (sc : FVec Ideal Cert.PoolRefIdeal.S512 .f32) :
    FVec Ideal Cert.PoolRefIdeal.S2x8192x512 .bf16 :=
  mapped (centred (groups x) inside counts) w sc

theorem groups_apply (x : FVec Ideal Cert.PoolRefIdeal.S2x8192x2048 .f32) (b : Fin 2) (s : Fin 8192) (g : Fin 4) (e : Fin 128) :
    groups x (ValueIdx.ix4 b s g e) = x (ValueIdx.ix3 b s ⟨1536 + (g.val * 128 + e.val), by omega⟩) := by
  pointwise [groups]
  rfl

theorem window_eq (g : Fin 4) : IntOp.shli ArithUnit.host (2#32) (BitVec.ofNat 32 g.val) = BitVec.ofNat 32 (2 ^ (g.val + 1)) := by
  fin_cases g <;> rfl

theorem window_le (g : Fin 4) : 2 ^ (g.val + 1) ≤ 16 := by
  fin_cases g <;> decide

theorem inside_apply (g : Fin 4) (t s : Fin 8192) : inside (ValueIdx.ix3 g t s)
    = if s.val ≤ t.val ∧ t.val < s.val + 2 ^ (g.val + 1) then (1 : EReal) else 0 := by
  pointwise [inside]
  show FloatOps.uitofp FTy.f32 (IntOp.andi (IntOp.cmpi .sge (IntOp.subi (BitVec.ofNat 32 t.val) (BitVec.ofNat 32 s.val)) 0#32)
    (IntOp.cmpi .slt (IntOp.subi (BitVec.ofNat 32 t.val) (BitVec.ofNat 32 s.val)) (IntOp.shli ArithUnit.host (2#32) (BitVec.ofNat 32 g.val)))) = _
  have hw := window_le g
  rw [window_eq, WordCmp.andi_sge_zero_slt_ofNat (by omega)]
  have e : (IntOp.subi (BitVec.ofNat 32 t.val) (BitVec.ofNat 32 s.val)).toNat < 2 ^ (g.val + 1) ↔ s.val ≤ t.val ∧ t.val < s.val + 2 ^ (g.val + 1) := by
    generalize 2 ^ (g.val + 1) = n at hw ⊢
    simp only [IntOp.subi, BitVec.toNat_sub, BitVec.toNat_ofNat]
    omega
  simp only [e]
  by_cases h : s.val ≤ t.val ∧ t.val < s.val + 2 ^ (g.val + 1)
  · simp only [h, and_self, decide_true, if_true]
    show (((1#1 : BitVec 1).toNat : ℝ) : EReal) = 1
    simp
  · simp only [h, decide_false, if_false]
    show (((0#1 : BitVec 1).toNat : ℝ) : EReal) = 0
    simp

theorem counts_apply (t : Fin 8192) (g : Fin 4) : counts (ValueIdx.ix2 t g)
    = FloatOps.sitofp (F := Ideal) FTy.f32 (IntOp.minsi (IntOp.addi (BitVec.ofNat 32 t.val) 1#32) (BitVec.ofNat 32 (2 ^ (g.val + 1)))) := by
  pointwise [counts]
  exact congrArg (fun n => FloatOps.sitofp (F := Ideal) FTy.f32 (IntOp.minsi (IntOp.addi (BitVec.ofNat 32 t.val) 1#32) n)) (window_eq g)

theorem centred_apply (u : FVec Ideal Cert.PoolRefIdeal.S2x8192x4x128 .f32) (a : FVec Ideal Cert.PoolRefIdeal.S4x8192x8192 .f32) (n : FVec Ideal Cert.PoolRefIdeal.S8192x4 .f32)
    (b : Fin 2) (t : Fin 8192) (g : Fin 4) (e : Fin 128) : centred u a n (ValueIdx.ix4 b t g e)
      = Ideal.div (∑ s : Fin 8192, u (ValueIdx.ix4 b s g e) * a (ValueIdx.ix3 g t s)) (n (ValueIdx.ix2 t g)) - u (ValueIdx.ix4 b t g e) := by
  pointwise [centred]
  rfl

theorem mapped_apply (h : FVec Ideal Cert.PoolRefIdeal.S2x8192x4x128 .f32) (w : FVec Ideal Cert.PoolRefIdeal.S4x128x128 .f32) (sc : FVec Ideal Cert.PoolRefIdeal.S512 .f32)
    (b : Fin 2) (t : Fin 8192) (g : Fin 4) (d : Fin 128) : mapped h w sc (ValueIdx.ix3 b t ⟨g.val * 128 + d.val, by omega⟩)
      = (∑ e : Fin 128, w (ValueIdx.ix3 g e d) * h (ValueIdx.ix4 b t g e)) * sc (ValueIdx.ix1 ⟨g.val * 128 + d.val, by omega⟩) := by
  have h1 : (g.val * 128 + d.val) / 128 = g.val := by omega
  have h2 : (g.val * 128 + d.val) % 128 = d.val := by omega
  pointwise [mapped]
  simp only [h1, h2]
  rfl

/-- A sum over all tokens, masked to a window, is the sum over the window's lags. -/
theorem window_sum (f : Fin 8192 → EReal) (n : ℕ) (t : Fin 8192) :
    ∑ s : Fin 8192, f s * (if s.val ≤ t.val ∧ t.val < s.val + n then (1 : EReal) else 0)
      = ∑ k ∈ Finset.range n, if h : k ≤ t.val then f ⟨t.val - k, by omega⟩ else 0 := by
  have ht := t.isLt
  let F : ℕ → EReal := fun i => if h : i < 8192 then f ⟨i, h⟩ else 0
  have e1 : ∀ s : Fin 8192, f s * (if s.val ≤ t.val ∧ t.val < s.val + n then (1 : EReal) else 0)
      = (fun i => if i ≤ t.val ∧ t.val < i + n then F i else 0) s.val := by
    intro s
    by_cases h : s.val ≤ t.val ∧ t.val < s.val + n <;> simp [h, F, s.isLt]
  have e2 : ∀ k : ℕ, (if h : k ≤ t.val then f ⟨t.val - k, by omega⟩ else 0) = if k ≤ t.val then F (t.val - k) else 0 := by
    intro k
    have hk : t.val - k < 8192 := by omega
    by_cases h : k ≤ t.val <;> simp [h, F, hk]
  rw [Finset.sum_congr rfl fun s _ => e1 s, Fin.sum_univ_eq_sum_range (fun i => if i ≤ t.val ∧ t.val < i + n then F i else 0) 8192,
    Finset.sum_congr rfl fun k _ => e2 k, ← Finset.sum_filter, ← Finset.sum_filter]
  refine Finset.sum_nbij' (fun i => t.val - i) (fun k => t.val - k) ?_ ?_ ?_ ?_ ?_
  · intro i hi; simp only [Finset.mem_filter, Finset.mem_range] at hi ⊢; omega
  · intro i hi; simp only [Finset.mem_filter, Finset.mem_range] at hi ⊢; omega
  · intro i hi; simp only [Finset.mem_filter, Finset.mem_range] at hi ⊢; omega
  · intro i hi; simp only [Finset.mem_filter, Finset.mem_range] at hi ⊢; omega
  · intro i hi; simp only [Finset.mem_filter, Finset.mem_range] at hi
    exact congrArg F (by omega)

/-- The reference at a token and a column: the group's mean over the window's lags less the token, through the group's map, scaled. -/
theorem result_apply (x : FVec Ideal Cert.PoolRefIdeal.S2x8192x2048 .f32) (w : FVec Ideal Cert.PoolRefIdeal.S4x128x128 .f32) (sc : FVec Ideal Cert.PoolRefIdeal.S512 .f32)
    (b : Fin 2) (t : Fin 8192) (g : Fin 4) (d : Fin 128) : result x w sc (ValueIdx.ix3 b t ⟨g.val * 128 + d.val, by omega⟩)
      = (∑ e : Fin 128, w (ValueIdx.ix3 g e d) *
          (Ideal.div (∑ k ∈ Finset.range (2 ^ (g.val + 1)), if h : k ≤ t.val then x (ValueIdx.ix3 b ⟨t.val - k, by omega⟩ ⟨1536 + (g.val * 128 + e.val), by omega⟩) else 0)
              (FloatOps.sitofp (F := Ideal) FTy.f32 (IntOp.minsi (IntOp.addi (BitVec.ofNat 32 t.val) 1#32) (BitVec.ofNat 32 (2 ^ (g.val + 1)))))
            - x (ValueIdx.ix3 b t ⟨1536 + (g.val * 128 + e.val), by omega⟩))) * sc (ValueIdx.ix1 ⟨g.val * 128 + d.val, by omega⟩) := by
  unfold result
  rw [mapped_apply]
  refine congrArg (fun z : EReal => z * _) (Finset.sum_congr rfl fun e _ => congrArg (fun z : EReal => _ * z) ?_)
  rw [centred_apply, counts_apply]
  simp only [inside_apply, groups_apply]
  rw [window_sum (fun s => x (ValueIdx.ix3 b s ⟨1536 + (g.val * 128 + e.val), by omega⟩))]

/-- One group of a block, from its rows' sums `A`, its own rows `B`, its map and its scales. -/
abbrev pooled (p : IVec S512x1 32) (n : BitVec 32) (A B : FVec Ideal S512x128 .f32) (w : FVec Ideal S1x128x128 .bf16) (s : FVec Ideal S1x128 .f32) :
    FVec Ideal S1x512x128 .bf16 :=
  shapeCast S1x512x128 (truncf .bf16 (mulf (matmul dot_S512x128_S128x128_S512x128_1_0_0_1_n_n none
    (truncf .bf16 (subf (divf A (broadcastTo S512x128 (sitofp .f32 (minsi (addi p (broadcast S512x1 1#32)) (broadcast S512x1 n)) : FVec Ideal S512x1 .f32) broadcasts_S512x1_S512x128)) B) bitsLt_bf16_f32)
    (shapeCast S128x128 w shapeCasts_S1x128x128_S128x128) (constant S512x128 .f32 0x00000000#32))
    (broadcastTo S512x128 (shapeCast S1x128 s shapeCasts_S1x128_S1x128) broadcasts_S1x128_S512x128)) bitsLt_bf16_f32) shapeCasts_S512x128_S1x512x128

theorem pooled_apply (p : IVec S512x1 32) (n : BitVec 32) (A B : FVec Ideal S512x128 .f32) (w : FVec Ideal S1x128x128 .bf16) (s : FVec Ideal S1x128 .f32)
    (y : S1x512x128.Idx) : pooled p n A B w s y
      = (∑ e : Fin 128, (Ideal.div (A (ValueIdx.ix2 (y 1) e)) (FloatOps.sitofp (F := Ideal) FTy.f32 (IntOp.minsi (IntOp.addi (p (ValueIdx.ix2 (y 1) 0)) 1#32) n))
          - B (ValueIdx.ix2 (y 1) e)) * w (ValueIdx.ix3 0 e (y 2))) * s (ValueIdx.ix2 0 (y 2)) := by
  pointwise [pooled]
  rfl

variable (m : (ℓ : Loc nD τ sig) → Buf (Elt Ideal) ℓ)

theorem idx : ∀ t : Fin cfg0.N, win0_0.index t = ![t.val / 16, t.val % 16, 3] ∧ win0_1.index t = ![t.val / 16, t.val % 16 * 32 - 1, 3]
    ∧ win0_2.index t = ![0, 0, 0] ∧ win0_3.index t = ![0, 0] ∧ win0_4.index t = ![t.val / 16, t.val % 16, 0] :=
  (by decide +kernel : ∀ t : Fin grid0.N, _)

/-- A point's batch and its tokens. -/
abbrev batch (t : Fin cfg0.N) : Fin 2 := ⟨t.val / 16, by have h : t.val < 32 := t.isLt; omega⟩
abbrev token (t : Fin cfg0.N) (r : Fin 512) : Fin 8192 := ⟨t.val % 16 * 512 + r.val, by omega⟩

abbrev X (c : Dev nD) : FVec Ideal Cert.PoolRefIdeal.S2x8192x2048 .f32 := m ((c : Thread nD τ).loc main_arg0)
abbrev W (c : Dev nD) : FVec Ideal Cert.PoolRefIdeal.S4x128x128 .f32 := m ((c : Thread nD τ).loc main_arg1)
abbrev SC (c : Dev nD) : FVec Ideal Cert.PoolRefIdeal.S512 .f32 := m ((c : Thread nD τ).loc main_arg2)

theorem coords : ∀ t : Fin cfg0.N, (grid0.coords t 1).val = t.val % 16 :=
  (by decide +kernel : ∀ t : Fin grid0.N, _)

/-- The token's position as the kernel counts it. -/
theorem position (t : Fin cfg0.N) (r : Fin 512) : k0_pay4 (grid0.coords t) (ValueIdx.ix2 r 0) = BitVec.ofNat 32 (token t r).val := by
  have e : k0_pay4 (grid0.coords t) (ValueIdx.ix2 r 0) = BitVec.ofNat 32 (grid0.coords t 1).val * 512#32 + BitVec.ofNat 32 r.val := by
    pointwise [k0_pay4]
    rfl
  rw [e, coords]
  apply BitVec.eq_of_toNat_eq
  simp

/-- Whether a block is the first of its row. -/
theorem first : ∀ n : Fin 16, Scalar.cmpi CmpIPredicate.sgt (BitVec.ofNat 32 n.val) 0#32 = BitVec.ofBool (decide (0 < n.val)) := by
  decide

/-- The block with the 16 tokens before it, as the kernel lays them out. -/
abbrev laid (c : Dev nD) (t : Fin cfg0.N) : S528x512.Idx → EReal :=
  View.canon (Val := Elt Ideal) (e := .f32) [⟨Rect.unit (s := S528x512) ![16, 0] S512x512.size inb_S528x512_S512x512_16_0, k0_pay3 (iblk m c 0 t)⟩,
    ⟨Rect.unit (s := S528x512) ![0, 0] S16x512.size inb_S528x512_S16x512_0_0, k0_pay2 (grid0.coords t) (iblk m c 1 t)⟩]

/-- A row of it is a token of the stream some lags back, or 0 before the start. -/
theorem laid_apply (c : Dev nD) (t : Fin cfg0.N) (y : S528x512.Idx) (r : Fin 512) (k : ℕ) (hk : (y 0).val + k = 16 + r.val) (j : Fin 2048)
    (hj : j.val = 1536 + (y 1).val) : laid m c t y = if h : k ≤ (token t r).val then X m c (ValueIdx.ix3 (batch t) ⟨(token t r).val - k, by omega⟩ j) else 0 := by
  have h0 : (y 0).val < 528 := (y 0).isLt
  have h1 : (y 1).val < 512 := (y 1).isLt
  unfold laid
  canon_tiles x h using (by
    by_cases h : (y 0).val < 16
    · refine ⟨_, List.mem_cons_of_mem _ List.mem_cons_self, (Rect.mem_set_unit (inb := inb_S528x512_S16x512_0_0)).mpr fun a => ?_⟩
      fin_cases a
      · exact ⟨Nat.zero_le _, by simpa using h⟩
      · exact ⟨Nat.zero_le _, by simpa using h1⟩
    · refine ⟨_, List.mem_cons_self, (Rect.mem_set_unit (inb := inb_S528x512_S512x512_16_0)).mpr fun a => ?_⟩
      fin_cases a
      · exact ⟨by simp; omega, by simp; omega⟩
      · exact ⟨Nat.zero_le _, by simpa using h1⟩)
  · pointwise [k0_pay3]
    have hk' : k ≤ t.val % 16 * 512 + r.val := by omega
    rw [dif_pos hk']
    blk_point [iblk, V, idx t]
    show 3 * 512 + (x 1).val = j.val
    omega
  · pointwise [k0_pay2]
    rw [coords, first ⟨t.val % 16, Nat.mod_lt _ (by decide)⟩]
    by_cases ht : t.val % 16 = 0
    · have hk' : ¬ k ≤ t.val % 16 * 512 + r.val := by omega
      rw [dif_neg hk']
      simp only [ht, Nat.lt_irrefl, decide_false]
      rfl
    · have hk' : k ≤ t.val % 16 * 512 + r.val := by omega
      rw [dif_pos hk']
      simp only [Nat.pos_of_ne_zero ht, decide_true]
      refine Eq.trans (show _ = iblk m c 1 t (ValueIdx.ix3 0 (x 0) (x 1)) from rfl) ?_
      blk_point [iblk, V, idx t]
      · show (t.val % 16 * 32 - 1) * 16 + (x 0).val = t.val % 16 * 512 + r.val - k
        omega
      · show 3 * 512 + (x 1).val = j.val
        omega

/-- The stream some lags behind a token, or 0 before the start. -/
def lag (c : Dev nD) (t : Fin cfg0.N) (r : Fin 512) (j : Fin 2048) (k : ℕ) : EReal :=
  if h : k ≤ (token t r).val then X m c (ValueIdx.ix3 (batch t) ⟨(token t r).val - k, by omega⟩ j) else 0

/-- A read of a group's columns from a row on. -/
abbrev back (c : Dev nD) (t : Fin cfg0.N) (o q : ℕ) (h : ∀ a, (![o, q] : Fin 2 → ℕ) a + S512x128.size a ≤ S528x512.size a) : FVec Ideal S512x128 .f32 :=
  fun j => laid m c t ((Rect.unit (s := S528x512) ![o, q] S512x128.size h).idx j)

theorem back_apply (c : Dev nD) (t : Fin cfg0.N) (o q : ℕ) (h : ∀ a, (![o, q] : Fin 2 → ℕ) a + S512x128.size a ≤ S528x512.size a)
    (ho : o ≤ 16) (hq : q ≤ 384) (r : Fin 512) (e : Fin 128) : back m c t o q h (ValueIdx.ix2 r e) = lag m c t r ⟨1536 + (q + e.val), by omega⟩ (16 - o) := by
  refine laid_apply m c t _ r (16 - o) ?_ _ ?_
  · show o + 1 * r.val + (16 - o) = 16 + r.val
    omega
  · show 1536 + (q + e.val) = 1536 + (q + 1 * e.val)
    omega

/-- The sum of a group's reads from a row on and from each of the `n` rows before it, in the kernel's order. -/
def run (c : Dev nD) (t : Fin cfg0.N) (q : ℕ) (hq : q ≤ 384) : (n : ℕ) → n ≤ 16 → FVec Ideal S512x128 .f32
  | 0, _ => back m c t 16 q (fun a => by fin_cases a <;> simp <;> omega)
  | n + 1, hn => addf (run c t q hq n (by omega)) (back m c t (16 - (n + 1)) q (fun a => by fin_cases a <;> simp <;> omega))

theorem run_apply (c : Dev nD) (t : Fin cfg0.N) (q : ℕ) (hq : q ≤ 384) (n : ℕ) (hn : n ≤ 16) (r : Fin 512) (e : Fin 128) :
    run m c t q hq n hn (ValueIdx.ix2 r e) = ∑ k ∈ Finset.range (n + 1), lag m c t r ⟨1536 + (q + e.val), by omega⟩ k := by
  induction n with
  | zero =>
    rw [Finset.sum_range_one]
    exact back_apply m c t 16 q _ (by omega) hq r e
  | succ n ih =>
    rw [Finset.sum_range_succ, ← ih (by omega)]
    refine congrArg (fun z : EReal => _ + z) ((back_apply m c t (16 - (n + 1)) q _ (by omega) hq r e).trans ?_)
    exact congrArg _ (by omega)

/-- A read of one group's map. -/
theorem map_apply (c : Dev nD) (t : Fin cfg0.N) (g : Fin 4) (u : ℕ) (hu : u = g.val) (h : ∀ a, (![u, 0, 0] : Fin 3 → ℕ) a + S1x128x128.size a ≤ S4x128x128.size a)
    (e d : Fin 128) : View.ld (iblk m c 2 t) (Rect.unit (s := S4x128x128) ![u, 0, 0] S1x128x128.size h) (ValueIdx.ix3 0 e d) = W m c (ValueIdx.ix3 g e d) := by
  blk_point [iblk, V, idx t]

/-- A read of one group's scales. -/
theorem scale_apply (c : Dev nD) (t : Fin cfg0.N) (q : ℕ) (h : ∀ a, (![0, q] : Fin 2 → ℕ) a + S1x128.size a ≤ S1x512.size a)
    (d : Fin 128) (j : Fin 512) (hj : q + d.val = j.val) : View.ld (iblk m c 3 t) (Rect.unit (s := S1x512) ![0, q] S1x128.size h) (ValueIdx.ix2 0 d) = SC m c (ValueIdx.ix1 j) := by
  have e : V m c main_v1 = broadcastInDim S1x512 ![1] bcast_S512_S1x512_1 (SC m c) := by
    unfold V
    after_results <;> rfl
  have b (Z : FVec Ideal S1x512 .f32) : View.ld (((cfg0.win 3).blk t).view.read (Elt Ideal) Z) (Rect.unit (s := S1x512) ![0, q] S1x128.size h) (ValueIdx.ix2 0 d)
      = Z (ValueIdx.ix2 0 j) := by
    show Z (((cfg0.win 3).blk t).view.emb ((Rect.unit (s := S1x512) ![0, q] S1x128.size h).idx (ValueIdx.ix2 0 d))) = _
    blk_point [idx t]
    show q + 1 * d.val = j.val
    omega
  refine (b (V m c main_v1)).trans ?_
  rw [e]
  pointwise
  rfl

/-- One group of a point, whichever it is. -/
theorem group_eq (c : Dev nD) (t : Fin cfg0.N) (g : Fin 4) (n : BitVec 32) (hn : n = BitVec.ofNat 32 (2 ^ (g.val + 1)))
    (q l : ℕ) (hq : q = g.val * 128) (hl : l + 1 = 2 ^ (g.val + 1)) (hq' : q ≤ 384) (hl' : l ≤ 16)
    (hb : ∀ a, (![16, q] : Fin 2 → ℕ) a + S512x128.size a ≤ S528x512.size a)
    (u : ℕ) (hu : u = g.val) (hw : ∀ a, (![u, 0, 0] : Fin 3 → ℕ) a + S1x128x128.size a ≤ S4x128x128.size a)
    (hs : ∀ a, (![0, q] : Fin 2 → ℕ) a + S1x128.size a ≤ S1x512.size a)
    (x : S1x512x128.Idx) (j : S2x8192x512.Idx) (h0 : (j 0).val = t.val / 16) (h1 : (j 1).val = t.val % 16 * 512 + (x 1).val)
    (h2 : (j 2).val = g.val * 128 + (x 2).val) : pooled (k0_pay4 (grid0.coords t)) n (run m c t q hq' l hl') (back m c t 16 q hb)
      (View.ld (iblk m c 2 t) (Rect.unit (s := S4x128x128) ![u, 0, 0] S1x128x128.size hw)) (View.ld (iblk m c 3 t) (Rect.unit (s := S1x512) ![0, q] S1x128.size hs)) x = result (X m c) (W m c) (SC m c) j := by
  have hj : j = ValueIdx.ix3 (batch t) (token t (x 1)) ⟨g.val * 128 + (x 2).val, by have h : (x 2).val < 128 := (x 2).isLt; omega⟩ := by
    funext a
    fin_cases a
    · exact Fin.ext h0
    · exact Fin.ext h1
    · exact Fin.ext h2
  rw [hj, pooled_apply]
  refine Eq.trans ?_ (result_apply (X m c) (W m c) (SC m c) (batch t) (token t (x 1)) g (x 2)).symm
  refine congrArg₂ (fun a b : EReal => a * b) (Finset.sum_congr rfl fun e _ => ?_) (scale_apply m c t q hs _ _ (congrArg (· + _) hq))
  subst hq
  refine (mul_comm _ _).trans (congrArg₂ (fun a b : EReal => a * b) (map_apply m c t g u hu hw e (x 2)) (congrArg₂ (fun a b : EReal => a - b)
    (congrArg₂ Ideal.div ((run_apply m c t _ hq' l hl' (x 1) e).trans ?_) ?_) (back_apply m c t 16 _ hb (by omega) hq' (x 1) e)))
  · rw [hl]
    rfl
  · rw [hn]
    exact congrArg (fun p => FloatOps.sitofp (F := Ideal) FTy.f32 (IntOp.minsi (IntOp.addi p 1#32) _)) (position t (x 1))

theorem final (c : Dev nD) : (dats m 0 c).arrAt 4 (cfgs 0).N = result (X m c) (W m c) (SC m c) := by
  refine (dats m 0 c).arrAt_eq_of_covers 4 _ (by decide +kernel) fun t _ y => ?_
  blk_simp
  rw [after0_4]
  unfold outsAt0
  unfold out0_A_4
  frame_out
  simp only [View.readCov_eq_canon']
  have h0' : ((((View.whole main_v2).slice (win0_4.rect t)).emb y) 0).val = t.val / 16 := by blk_point [idx t]
  have h1' : ((((View.whole main_v2).slice (win0_4.rect t)).emb y) 1).val = t.val % 16 * 512 + (y 1).val := by blk_point [idx t]
  have h2' : ((((View.whole main_v2).slice (win0_4.rect t)).emb y) 2).val = (y 2).val := by blk_point [idx t]
  generalize ((View.whole main_v2).slice (win0_4.rect t)).emb y = j at h0' h1' h2' ⊢
  canon_tiles x h
  · exact group_eq m c t 3 16#32 rfl 384 15 rfl rfl (by decide) (by decide) inb_S528x512_S512x128_16_384 3 rfl inb_S4x128x128_S1x128x128_3_0_0 inb_S1x512_S1x128_0_384
      x j h0' (h1'.trans (congrArg _ h1)) (h2'.trans h2)
  · exact group_eq m c t 2 8#32 rfl 256 7 rfl rfl (by decide) (by decide) inb_S528x512_S512x128_16_256 2 rfl inb_S4x128x128_S1x128x128_2_0_0 inb_S1x512_S1x128_0_256
      x j h0' (h1'.trans (congrArg _ h1)) (h2'.trans h2)
  · exact group_eq m c t 1 4#32 rfl 128 3 rfl rfl (by decide) (by decide) inb_S528x512_S512x128_16_128 1 rfl inb_S4x128x128_S1x128x128_1_0_0 inb_S1x512_S1x128_0_128
      x j h0' (h1'.trans (congrArg _ h1)) (h2'.trans h2)
  · exact group_eq m c t 0 2#32 rfl 0 1 rfl rfl (by decide) (by decide) inb_S528x512_S512x128_16_0 0 rfl inb_S4x128x128_S1x128x128_0_0_0 inb_S1x512_S1x128_0_0
      x j h0' (h1'.trans (congrArg _ h1)) (h2'.trans (h2.trans (Nat.zero_add _).symm))

end Cert.PoolIdeal.Own

end
-- ==== Proof.PoolClaims.lean ====
/- The claims about the mixing by trailing means: the reference's frame and the equality of results. -/
module

public import proofs.«01_k».proof.Defs
public import proofs.«01_k».proof.Proof.Gen.PoolIdeal
public import proofs.«01_k».proof.Proof.Gen.PoolRefIdeal
public import proofs.«01_k».proof.Proof.PoolValue
public import Idealize.ShloMosaic.Adequacy
public import Idealize.ShloMosaic.Init
public import Idealize.ShloMosaic.Lib.Quiescent

@[expose] public section

noncomputable section

namespace Cert.Pools

open Idealize.ShloMosaic Idealize.SL.Sem

theorem frame_reference : Cert.quiescent_PoolRefIdeal := fun m ρ _ =>
  (θ_run _ _ _).mono (fun r h => ⟨fun c => (h c).2, sem_eq_zero_of_no_sems (by decide) r.2⟩) (Cert.PoolRefIdeal.Value.run (F := Ideal) m ρ)

theorem equal : Cert.algebraic_PoolIdeal_PoolRefIdeal := fun m g m' g' _ hargs => by
  refine ⟨fun c => (Cert.PoolIdeal.Gen.dats m 0 c).arrAt 4 Cert.PoolIdeal.cfg0.N, ?_, ?_⟩
  · exact Cert.PoolIdeal.Value.run_blocks m g
  · refine (θ_run _ _ _).mono (fun _ hr c => ⟨((hr c).1).trans ?_, (hr c).2⟩) (Cert.PoolRefIdeal.Value.run m' g')
    obtain rfl : c = 0 := Subsingleton.elim _ _
    obtain ⟨h0, h1, h2⟩ := hargs 0
    rw [h0, h1, h2]
    exact (Cert.PoolIdeal.Own.final m 0).symm

end Cert.Pools

end
-- ==== Proof.RouterMath.lean ====
/- Facts about finite rows of scores: the first of the greatest, the first of the rest, how a count of the scores ahead tells them,
   and how a row's maximum with its least place finds them. -/
module

public import proofs.«01_k».proof.Proof.CrossMath

@[expose] public section

noncomputable section

namespace Cert.Routing

open Idealize.ShloMosaic Cert.Attention

/-- The score at `i` comes before the score at `j`, in falling order, the earlier of two equal ones first. -/
def Better {n : ℕ} (s : Fin n → EReal) (i j : Fin n) : Prop := s j < s i ∨ (s i = s j ∧ i < j)

theorem Better.asymm {n : ℕ} {s : Fin n → EReal} {i j : Fin n} : Better s i j → ¬Better s j i := by
  rintro (h | ⟨h, h'⟩) (k | ⟨k, k'⟩)
  · exact lt_asymm h k
  · exact h.ne k
  · exact k.ne h
  · exact lt_asymm h' k'

theorem Better.irrefl {n : ℕ} {s : Fin n → EReal} {i : Fin n} : ¬Better s i i := fun h => h.asymm h

theorem Better.le {n : ℕ} {s : Fin n → EReal} {i j : Fin n} : Better s i j → s j ≤ s i := by
  rintro (h | ⟨h, -⟩)
  exacts [h.le, h.ge]

theorem Better.lt {n : ℕ} {s : Fin n → EReal} {i j : Fin n} (h : Better s i j) (k : j < i) : s j < s i := by
  rcases h with h | ⟨-, h⟩
  exacts [h, absurd h (lt_asymm k)]

/-- Among finitely many places one is ahead of all the others. -/
theorem exists_best {n : ℕ} (s : Fin n → EReal) (S : Finset (Fin n)) (hS : S.Nonempty) :
    ∃ i ∈ S, ∀ j ∈ S, j ≠ i → Better s i j := by
  obtain ⟨i, hi, h⟩ := Finset.exists_min_image S (fun j => toLex (OrderDual.toDual (s j), j)) hS
  refine ⟨i, hi, fun j hj hne => ?_⟩
  have := h j hj
  rw [Prod.Lex.le_iff] at this
  rcases this with h | ⟨h, h'⟩
  · exact Or.inl h
  · exact Or.inr ⟨h, lt_of_le_of_ne h' (Ne.symm hne)⟩

/-- The first of the greatest scores. -/
def first {n : ℕ} [NeZero n] (s : Fin n → EReal) : Fin n := (exists_best s Finset.univ Finset.univ_nonempty).choose

theorem first_better {n : ℕ} [NeZero n] (s : Fin n → EReal) (j : Fin n) (h : j ≠ first s) : Better s (first s) j :=
  (exists_best s Finset.univ Finset.univ_nonempty).choose_spec.2 j (Finset.mem_univ _) h

theorem first_le {n : ℕ} [NeZero n] (s : Fin n → EReal) (j : Fin n) : s j ≤ s (first s) := by
  by_cases h : j = first s
  · rw [h]
  · exact (first_better s j h).le

theorem others_nonempty (i : Fin 8) : (Finset.univ.erase i : Finset (Fin 8)).Nonempty := by
  rw [← Finset.card_pos, Finset.card_erase_of_mem (Finset.mem_univ _)]; simp

/-- The first of the greatest among the other scores. -/
def second (s : Fin 8 → EReal) : Fin 8 := (exists_best s (Finset.univ.erase (first s)) (others_nonempty _)).choose

theorem second_ne (s : Fin 8 → EReal) : second s ≠ first s :=
  Finset.ne_of_mem_erase (exists_best s (Finset.univ.erase (first s)) (others_nonempty _)).choose_spec.1

theorem second_better (s : Fin 8 → EReal) (j : Fin 8) (h : j ≠ first s) (h' : j ≠ second s) : Better s (second s) j :=
  (exists_best s (Finset.univ.erase (first s)) (others_nonempty _)).choose_spec.2 j (Finset.mem_erase.mpr ⟨h, Finset.mem_univ _⟩) h'

open Classical in
/-- How many scores are ahead of the one at `i`. -/
def ahead {n : ℕ} (s : Fin n → EReal) (i : Fin n) : EReal := ∑ j, if Better s j i then 1 else 0

open Classical in
theorem ahead_eq {n : ℕ} (s : Fin n → EReal) (i : Fin n) (k : ℕ) :
    ahead s i = (k : EReal) ↔ (Finset.univ.filter fun j => Better s j i).card = k := by
  unfold ahead
  rw [Finset.sum_boole]
  norm_cast

theorem ahead_zero {n : ℕ} [NeZero n] (s : Fin n → EReal) (i : Fin n) : ahead s i = 0 ↔ i = first s := by
  classical
  have e := ahead_eq s i 0
  rw [Nat.cast_zero] at e
  rw [e, Finset.card_eq_zero, Finset.filter_eq_empty_iff]
  constructor
  · intro h
    by_contra hne
    exact h (Finset.mem_univ (first s)) (first_better s i hne)
  · rintro rfl j - h
    exact (first_better s j fun e => by rw [e] at h; exact h.irrefl).asymm h

theorem ahead_one (s : Fin 8 → EReal) (i : Fin 8) : ahead s i = 1 ↔ i = second s := by
  classical
  have e := ahead_eq s i 1
  rw [Nat.cast_one] at e
  rw [e, Finset.card_eq_one]
  constructor
  · rintro ⟨a, ha⟩
    have hi : i ≠ first s := by
      rintro rfl
      have : Better s a (first s) := by
        have := Finset.mem_singleton_self a
        rw [← ha] at this
        exact (Finset.mem_filter.mp this).2
      exact (first_better s a fun e => by rw [e] at this; exact this.irrefl).asymm this
    have hf : first s = a := Finset.mem_singleton.mp (ha ▸ Finset.mem_filter.mpr ⟨Finset.mem_univ _, first_better s i hi⟩)
    by_contra hne
    have : second s = a := Finset.mem_singleton.mp (ha ▸ Finset.mem_filter.mpr ⟨Finset.mem_univ _, second_better s i hi hne⟩)
    exact second_ne s (this.trans hf.symm)
  · rintro rfl
    refine ⟨first s, Finset.ext fun j => ?_⟩
    rw [Finset.mem_filter, Finset.mem_singleton]
    constructor
    · rintro ⟨-, h⟩
      by_contra hne
      exact (second_better s j hne fun e => by rw [e] at h; exact h.irrefl).asymm h
    · rintro rfl
      exact ⟨Finset.mem_univ _, first_better s _ (second_ne s)⟩

/-- The greatest of a row is the value at a place no other exceeds. -/
theorem fold_max {n : ℕ} (v : Fin n → EReal) (l : Fin n) (h : ∀ j, v j ≤ v l) : Finset.univ.fold max (⊥ : EReal) v = v l :=
  le_antisymm ((Finset.fold_max_le _).mpr ⟨bot_le, fun j _ => h j⟩) ((Finset.le_fold_max _).mpr (Or.inr ⟨l, Finset.mem_univ _, le_rfl⟩))

open Classical in
/-- The least place that holds the value at `l`, where none before `l` holds it. -/
theorem fold_min {n : ℕ} (v : Fin n → EReal) (l : Fin n) (c : EReal) (hc : ((l.val : ℝ) : EReal) ≤ c) (h : ∀ j < l, v j ≠ v l) :
    (Finset.univ.fold min (⊤ : EReal) fun j : Fin n => if v j = v l then ((j.val : ℝ) : EReal) else c) = ((l.val : ℝ) : EReal) := by
  refine le_antisymm ((Finset.fold_min_le _).mpr (Or.inr ⟨l, Finset.mem_univ _, by rw [if_pos rfl]⟩)) ((Finset.le_fold_min _).mpr ⟨le_top, fun j _ => ?_⟩)
  split_ifs with e
  · have : ¬j < l := fun hl => h j hl e
    exact EReal.coe_le_coe_iff.mpr (Nat.cast_le.mpr (not_lt.mp this))
  · exact hc

theorem coe_sum {n : ℕ} (r : Fin n → ℝ) : (∑ j, ((r j : ℝ) : EReal)) = ((∑ j, r j : ℝ) : EReal) := by
  induction (Finset.univ : Finset (Fin n)) using Finset.induction_on with
  | empty => simp
  | insert i s hi ih => rw [Finset.sum_insert hi, Finset.sum_insert hi, EReal.coe_add, ih]

theorem exp_sub {a b : ℝ} : Ideal.exp ((a : EReal) - (b : EReal)) = ((Real.exp (a - b) : ℝ) : EReal) := by
  rw [← EReal.coe_sub, Ideal.exp_coe]

/-- The softmax of a row at one place is a real, where the sum of the exponentials is. -/
theorem sum_exp {n : ℕ} [NeZero n] (s : Fin n → EReal) (h : ∀ j, IsReal (s j)) {M : EReal} (hM : IsReal M) :
    ∃ r : ℝ, 0 < r ∧ (∑ j, Ideal.exp (s j - M)) = (r : EReal) := by
  obtain ⟨M, rfl⟩ := hM
  choose r hr using h
  obtain rfl : s = fun j => (r j : EReal) := funext hr
  refine ⟨∑ j, Real.exp (r j - M), Finset.sum_pos (fun j _ => Real.exp_pos _) Finset.univ_nonempty, ?_⟩
  simp only [exp_sub]
  exact coe_sum _

/-- The two weights: the share of the first of two scores times a group's share. -/
theorem share_one {a b : EReal} (ha : IsReal a) (hb : IsReal b) {r : ℝ} (hr : 0 < r) :
    Ideal.div (Ideal.div 1 (r : EReal)) (1 + Ideal.exp (b - a))
      = Ideal.div (Ideal.exp (a - a)) (Ideal.exp (a - a) + Ideal.exp (b - a)) * Ideal.div (1 : EReal) (r : EReal) := by
  obtain ⟨a, rfl⟩ := ha
  obtain ⟨b, rfl⟩ := hb
  have hp : (0 : ℝ) < 1 + Real.exp (b - a) := by positivity
  have e0 : Real.exp (a - a) = 1 := by rw [sub_self, Real.exp_zero]
  simp only [exp_sub, e0, ← EReal.coe_one, ← EReal.coe_add, Ideal.div_coe hr.ne', Ideal.div_coe hp.ne', ← EReal.coe_mul]
  congr 1
  ring

/-- The second weight. -/
theorem share_two {a b : EReal} (ha : IsReal a) (hb : IsReal b) {r : ℝ} (hr : 0 < r) :
    Ideal.div (Ideal.div 1 (r : EReal) * Ideal.exp (b - a)) (1 + Ideal.exp (b - a))
      = Ideal.div (Ideal.exp (b - a)) (Ideal.exp (a - a) + Ideal.exp (b - a)) * Ideal.div (1 : EReal) (r : EReal) := by
  obtain ⟨a, rfl⟩ := ha
  obtain ⟨b, rfl⟩ := hb
  have hp : (0 : ℝ) < 1 + Real.exp (b - a) := by positivity
  have e0 : Real.exp (a - a) = 1 := by rw [sub_self, Real.exp_zero]
  simp only [exp_sub, e0, ← EReal.coe_one, ← EReal.coe_add, Ideal.div_coe hr.ne', Ideal.div_coe hp.ne', ← EReal.coe_mul]
  congr 1
  ring

/-! ## A row of lanes -/

/-- A row of lanes that holds four groups' scores, then each group's eight experts' scores; all of them real. -/
structure Row (L : Fin 128 → EReal) (G : Fin 4 → EReal) (E : Fin 4 → Fin 8 → EReal) : Prop where
  group : ∀ g : Fin 4, L ⟨g.val, by omega⟩ = G g
  expert : ∀ (g : Fin 4) (e : Fin 8), L ⟨4 + 8 * g.val + e.val, by omega⟩ = E g e
  realG : ∀ g, IsReal (G g)
  realE : ∀ g e, IsReal (E g e)

/-- The groups' lanes; the others are below every score. -/
def groupLanes (L : Fin 128 → EReal) (l : Fin 128) : EReal := if l.val < 4 then L l else ⊥

/-- The lanes of one group's experts; the others are below every score. -/
def expertLanes (L : Fin 128 → EReal) (g : Fin 4) (l : Fin 128) : EReal := if (4 ≤ l.val ∧ l.val < 36) ∧ (l.val - 4) / 8 = g.val then L l else ⊥

/-- The lanes of one group's experts but one. -/
def restLanes (L : Fin 128 → EReal) (g : Fin 4) (e : Fin 8) (l : Fin 128) : EReal := if l.val = 4 + 8 * g.val + e.val then ⊥ else expertLanes L g l

variable {L : Fin 128 → EReal} {G : Fin 4 → EReal} {E : Fin 4 → Fin 8 → EReal}

theorem Row.groupLanes_at (h : Row L G E) (g : Fin 4) : groupLanes L ⟨g.val, by omega⟩ = G g := (if_pos g.isLt).trans (h.group g)

theorem Row.expertLanes_at (h : Row L G E) (g : Fin 4) (e : Fin 8) : expertLanes L g ⟨4 + 8 * g.val + e.val, by omega⟩ = E g e :=
  (if_pos (by have := g.isLt; have := e.isLt; constructor <;> dsimp only <;> omega)).trans (h.expert g e)

theorem expertLanes_cases (g : Fin 4) (l : Fin 128) : expertLanes L g l = ⊥ ∨ ∃ e : Fin 8, l = ⟨4 + 8 * g.val + e.val, by omega⟩ := by
  unfold expertLanes
  split_ifs with h
  · exact Or.inr ⟨⟨(l.val - 4) % 8, by omega⟩, Fin.ext (by dsimp only; omega)⟩
  · exact Or.inl rfl

theorem Row.restLanes_at (h : Row L G E) (g : Fin 4) (e e' : Fin 8) (hne : e' ≠ e) : restLanes L g e ⟨4 + 8 * g.val + e'.val, by omega⟩ = E g e' :=
  (if_neg (by have := Fin.val_ne_of_ne hne; dsimp only; omega)).trans (h.expertLanes_at g e')

theorem IsReal.ne_bot {x : EReal} : IsReal x → x ≠ ⊥ := by rintro ⟨r, rfl⟩; exact EReal.coe_ne_bot r

theorem Row.group_le (h : Row L G E) (l : Fin 128) : groupLanes L l ≤ groupLanes L ⟨(first G).val, by omega⟩ := by
  rw [h.groupLanes_at]
  by_cases hl : l.val < 4
  · exact (h.groupLanes_at ⟨l.val, hl⟩).le.trans (first_le G _)
  · exact (if_neg hl : groupLanes L l = ⊥).le.trans bot_le

theorem Row.group_ne (h : Row L G E) (l : Fin 128) (hl : l < ⟨(first G).val, by omega⟩) : groupLanes L l ≠ groupLanes L ⟨(first G).val, by omega⟩ := by
  have hl : l.val < (first G).val := hl
  have h4 : l.val < 4 := by omega
  rw [h.groupLanes_at]
  intro e
  have hlt : (⟨l.val, h4⟩ : Fin 4) < first G := hl
  exact ((first_better G ⟨l.val, h4⟩ hlt.ne).lt hlt).ne ((h.groupLanes_at ⟨l.val, h4⟩).symm.trans e)

theorem Row.expert_le (h : Row L G E) (g : Fin 4) (l : Fin 128) :
    expertLanes L g l ≤ expertLanes L g ⟨4 + 8 * g.val + (first (E g)).val, by omega⟩ := by
  rw [h.expertLanes_at]
  rcases expertLanes_cases (L := L) g l with hb | ⟨e, rfl⟩
  · exact hb.le.trans bot_le
  · exact (h.expertLanes_at g e).le.trans (first_le _ _)

theorem Row.expert_ne (h : Row L G E) (g : Fin 4) (l : Fin 128) (hl : l < ⟨4 + 8 * g.val + (first (E g)).val, by omega⟩) :
    expertLanes L g l ≠ expertLanes L g ⟨4 + 8 * g.val + (first (E g)).val, by omega⟩ := by
  rw [h.expertLanes_at]
  rcases expertLanes_cases (L := L) g l with hb | ⟨e, rfl⟩
  · rw [hb]; exact (IsReal.ne_bot (h.realE _ _)).symm
  · rw [h.expertLanes_at]
    have hlt : e < first (E g) := by have : 4 + 8 * g.val + e.val < 4 + 8 * g.val + (first (E g)).val := hl; exact Fin.lt_def.mpr (by omega)
    exact ((first_better (E g) e hlt.ne).lt hlt).ne

theorem restLanes_cases (g : Fin 4) (e : Fin 8) (l : Fin 128) : restLanes L g e l = ⊥ ∨ ∃ e' : Fin 8, e' ≠ e ∧ l = ⟨4 + 8 * g.val + e'.val, by omega⟩ := by
  unfold restLanes
  split_ifs with h
  · exact Or.inl rfl
  · rcases expertLanes_cases (L := L) g l with hb | ⟨e', rfl⟩
    · exact Or.inl hb
    · exact Or.inr ⟨e', fun he => h (by rw [he]), rfl⟩

theorem Row.rest_le (h : Row L G E) (g : Fin 4) (l : Fin 128) :
    restLanes L g (first (E g)) l ≤ restLanes L g (first (E g)) ⟨4 + 8 * g.val + (second (E g)).val, by omega⟩ := by
  rw [h.restLanes_at _ _ _ (second_ne _)]
  rcases restLanes_cases (L := L) g (first (E g)) l with hb | ⟨e, he, rfl⟩
  · exact hb.le.trans bot_le
  · rw [h.restLanes_at _ _ _ he]
    by_cases h2 : e = second (E g)
    · rw [h2]
    · exact (second_better _ _ he h2).le

theorem Row.rest_ne (h : Row L G E) (g : Fin 4) (l : Fin 128) (hl : l < ⟨4 + 8 * g.val + (second (E g)).val, by omega⟩) :
    restLanes L g (first (E g)) l ≠ restLanes L g (first (E g)) ⟨4 + 8 * g.val + (second (E g)).val, by omega⟩ := by
  rw [h.restLanes_at _ _ _ (second_ne _)]
  rcases restLanes_cases (L := L) g (first (E g)) l with hb | ⟨e, he, rfl⟩
  · rw [hb]; exact (IsReal.ne_bot (h.realE _ _)).symm
  · rw [h.restLanes_at _ _ _ he]
    have hlt : e < second (E g) := by have : 4 + 8 * g.val + e.val < 4 + 8 * g.val + (second (E g)).val := hl; exact Fin.lt_def.mpr (by omega)
    exact ((second_better (E g) e he hlt.ne).lt hlt).ne

/-- Summing over the groups' lanes is summing over the groups. -/
theorem sum_groups (f : Fin 128 → EReal) : (∑ l : Fin 128, if l.val < 4 then f l else 0) = ∑ g : Fin 4, f ⟨g.val, by omega⟩ := by
  rw [← Finset.sum_filter]
  refine Finset.sum_nbij' (fun l => ⟨l.val % 4, Nat.mod_lt _ (by decide)⟩) (fun g => ⟨g.val, by omega⟩) ?_ ?_ ?_ ?_ ?_
  · intro l _; exact Finset.mem_univ _
  · intro g _; exact Finset.mem_filter.mpr ⟨Finset.mem_univ _, g.isLt⟩
  · intro l hl; exact Fin.ext (Nat.mod_eq_of_lt (Finset.mem_filter.mp hl).2)
  · intro g _; exact Fin.ext (Nat.mod_eq_of_lt g.isLt)
  · intro l hl; exact congrArg f (Fin.ext (Nat.mod_eq_of_lt (Finset.mem_filter.mp hl).2).symm)

/-! ## What a token is sent to -/

/-- The expert of the first of the greatest scores in the first of the greatest groups. -/
def number1 (G : Fin 4 → EReal) (E : Fin 4 → Fin 8 → EReal) : ℕ := 8 * (first G).val + (first (E (first G))).val

/-- The expert of the second score of that group. -/
def number2 (G : Fin 4 → EReal) (E : Fin 4 → Fin 8 → EReal) : ℕ := 8 * (first G).val + (second (E (first G))).val

theorem number1_lt (G : Fin 4 → EReal) (E : Fin 4 → Fin 8 → EReal) : number1 G E < 32 := by unfold number1; omega
theorem number2_lt (G : Fin 4 → EReal) (E : Fin 4 → Fin 8 → EReal) : number2 G E < 32 := by unfold number2; omega
theorem number_ne (G : Fin 4 → EReal) (E : Fin 4 → Fin 8 → EReal) : number1 G E ≠ number2 G E := by
  have := Fin.val_ne_of_ne (second_ne (E (first G)))
  unfold number1 number2; omega

/-- One where the expert is one of the token's two. -/
def sent (G : Fin 4 → EReal) (E : Fin 4 → Fin 8 → EReal) (l : ℕ) : EReal := if l = number1 G E ∨ l = number2 G E then 1 else 0

/-- The chosen group's share. -/
def groupShare (G : Fin 4 → EReal) : EReal := Ideal.div 1 (∑ g, Ideal.exp (G g - G (first G)))

/-- The first expert's weight. -/
def weight1 (G : Fin 4 → EReal) (E : Fin 4 → Fin 8 → EReal) : EReal :=
  Ideal.div (groupShare G) (1 + Ideal.exp (E (first G) (second (E (first G))) - E (first G) (first (E (first G)))))

/-- The second expert's weight. -/
def weight2 (G : Fin 4 → EReal) (E : Fin 4 → Fin 8 → EReal) : EReal :=
  Ideal.div (groupShare G * Ideal.exp (E (first G) (second (E (first G))) - E (first G) (first (E (first G)))))
    (1 + Ideal.exp (E (first G) (second (E (first G))) - E (first G) (first (E (first G)))))

/-- Six values in the first six lanes, and zero in the others. -/
def six (n1 n2 r1 r2 w1 w2 : EReal) (l : ℕ) : EReal :=
  if l = 0 then n1 else if l = 1 then n2 else if l = 2 then r1 else if l = 3 then r2 else if l = 4 then w1 else if l = 5 then w2 else 0

/-! ## Words -/

theorem select_ofBool {α : Type} (p : Prop) [Decidable p] (x y : α) : Scalar.select (BitVec.ofBool (decide p)) x y = if p then x else y := by
  by_cases h : p <;> simp [Scalar.select, h]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [IntOp.andi, h, h']

theorem ori_ofBool (p q : Prop) [Decidable p] [Decidable q] :
    IntOp.ori (BitVec.ofBool (decide p)) (BitVec.ofBool (decide q)) = BitVec.ofBool (decide (p ∨ q)) := by
  by_cases h : p <;> by_cases h' : q <;> simp [IntOp.ori, h, h']

theorem lane_toInt (l : ℕ) (h : l < 16384) : (BitVec.ofNat 32 l).toInt = (l : ℤ) := by
  rw [BitVec.toInt_eq_toNat_of_lt] <;> rw [BitVec.toNat_ofNat] <;> omega

/-- A lane's number as a float. -/
theorem lane_float (l : ℕ) (h : l < 16384) : (FloatOps.sitofp (F := Ideal) .f32 (BitVec.ofNat 32 l) : EReal) = ((l : ℝ) : EReal) := by
  show (((BitVec.ofNat 32 l).toInt : ℝ) : EReal) = _
  rw [lane_toInt l h, Int.cast_natCast]

theorem nat_inj (a b : ℕ) : (((a : ℝ) : EReal) = ((b : ℝ) : EReal)) ↔ a = b := by
  rw [EReal.coe_eq_coe_iff, Nat.cast_inj]

theorem word_sgt (x y : ℕ) (hx : x < 16384) (hy : y < 16384) :
    IntOp.cmpi .sgt (BitVec.ofNat 32 x) (BitVec.ofNat 32 y) = BitVec.ofBool (decide (y < x)) := by
  show BitVec.ofBool (BitVec.slt (BitVec.ofNat 32 y) (BitVec.ofNat 32 x)) = _
  rw [BitVec.slt_eq_decide, lane_toInt x hx, lane_toInt y hy]
  simp only [Nat.cast_lt]

theorem word_slt (x y : ℕ) (hx : x < 16384) (hy : y < 16384) :
    IntOp.cmpi .slt (BitVec.ofNat 32 x) (BitVec.ofNat 32 y) = BitVec.ofBool (decide (x < y)) :=
  word_sgt y x hy hx

theorem bit_float (p : Prop) [Decidable p] : (FloatOps.uitofp (F := Ideal) .f32 (BitVec.ofBool (decide p)) : EReal) = if p then 1 else 0 := by
  show (((BitVec.ofBool (decide p)).toNat : ℝ) : EReal) = _
  by_cases h : p <;> simp [h]

open Classical in
/-- One where a score is ahead of another, as a word. -/
theorem ahead_word {n : ℕ} (hn : n ≤ 16384) (s : Fin n → EReal) (i j : Fin n) :
    (FloatOps.uitofp (F := Ideal) .f32 (IntOp.ori (BitVec.ofBool (decide (s i < s j)))
      (IntOp.andi (BitVec.ofBool (decide (s j = s i))) (IntOp.cmpi .slt (BitVec.ofNat 32 j.val) (BitVec.ofNat 32 i.val)))) : EReal)
      = if Better s j i then 1 else 0 := by
  rw [word_slt _ _ (by omega) (by omega), andi_ofBool, ori_ofBool, bit_float]
  exact if_congr Iff.rfl rfl rfl

end Cert.Routing

end
-- ==== Proof.RouterBody.lean ====
/- The routing kernel's body at one row of a block. -/
module

public import proofs.«01_k».proof.Proof.Gen.RouterIdeal.Value
public import proofs.«01_k».proof.Proof.RouterMath
public import Idealize.ShloMosaic.Lib.Pipeline.ValueKit
public import Idealize.ShloMosaic.Lib.Pointwise
public import Idealize.ShloMosaic.Lib.ValueIdx
public import Idealize.ShloMosaic.Lib.WordCmp

@[expose] public section

noncomputable section

namespace Cert.RouterIdeal.Own

open Cert.RouterIdeal Cert.RouterIdeal.Gen
open Idealize.ShloMosaic Idealize.ShloMosaic.TcCoe Idealize.ShloMosaic.Tactic Idealize.SL.Sem
open Idealize.ShloMosaic.Pipeline (Dat)
open Cert.Attention Cert.Routing

/-! ## Words -/

theorem lane_slt4 : ∀ l : Fin 128, IntOp.cmpi .slt (BitVec.ofNat 32 l.val) 4#32 = BitVec.ofBool (decide (l.val < 4)) := by decide +kernel
theorem lane_sge4 : ∀ l : Fin 128, IntOp.cmpi .sge (BitVec.ofNat 32 l.val) 4#32 = BitVec.ofBool (decide (4 ≤ l.val)) := by decide +kernel
theorem lane_slt36 : ∀ l : Fin 128, IntOp.cmpi .slt (BitVec.ofNat 32 l.val) 36#32 = BitVec.ofBool (decide (l.val < 36)) := by decide +kernel

theorem four : Ideal.ofBits .f32 0x40800000#32 = ((4 : ℝ) : EReal) := by
  simp [Ideal.ofBits, Ideal.ieee, -EReal.coe_mul]; norm_num

theorem far : Ideal.ofBits .f32 0x4E6E6B28#32 = ((1000000000 : ℝ) : EReal) := by
  simp [Ideal.ofBits, Ideal.ieee, -EReal.coe_mul]; norm_num

theorem nat_le_far (a : ℕ) (h : a < 128) : ((a : ℝ) : EReal) ≤ ((1000000000 : ℝ) : EReal) := by
  rw [EReal.coe_le_coe_iff]
  have : (a : ℝ) < 128 := by exact_mod_cast h
  linarith

/-! ## The choice of a group -/

variable (a : FVec Ideal S512x128 .f32) (b : Vec Ideal S1x128 .f32)

/-- The scores of one row. -/
abbrev lanes (p : Fin 512) (l : Fin 128) : EReal := k0_pay5 a b (ValueIdx.ix2 p l)

theorem pay8_apply (p : Fin 512) (l : Fin 128) : k0_pay8 a b (ValueIdx.ix2 p l) = groupLanes (lanes a b p) l := by
  unfold lanes
  pointwise [k0_pay8, k0_pay7]
  rw [lane_slt4, select_ofBool, negInf]
  rfl

variable {a b} {p : Fin 512} {G : Fin 4 → EReal} {E : Fin 4 → Fin 8 → EReal} (h : Row (lanes a b p) G E)
include h

theorem pay9_apply : k0_pay9 a b (ValueIdx.ix2 p 0) = G (first G) := by
  pointwise [k0_pay9]
  rw [negInf, ← h.groupLanes_at (first G), ← fold_max _ _ h.group_le]
  exact congrArg (Finset.univ.fold max ⊥) (funext fun l => pay8_apply a b p l)

theorem pay10_apply : k0_pay10 a b (ValueIdx.ix2 p 0) = (((first G).val : ℝ) : EReal) := by
  pointwise [k0_pay10, k0_pay6]
  rw [posInf, far, ← fold_min _ ⟨(first G).val, by omega⟩ _ (nat_le_far _ (by dsimp only; omega)) h.group_ne]
  refine congrArg (Finset.univ.fold min ⊤) (funext fun l => ?_)
  show (if k0_pay8 a b (ValueIdx.ix2 p l) = k0_pay9 a b (ValueIdx.ix2 p 0) then _ else _) = _
  rw [pay8_apply, pay9_apply h, ← h.groupLanes_at, lane_float _ (by omega)]

theorem pay11_apply : k0_pay11 a b (ValueIdx.ix2 p 0) = groupShare G := by
  pointwise [k0_pay11, k0_pay7]
  show Ideal.div 1 (∑ l : Fin 128, Scalar.select (IntOp.cmpi .slt (BitVec.ofNat 32 l.val) 4#32)
    (Ideal.exp (lanes a b p l - k0_pay9 a b (ValueIdx.ix2 p 0))) 0) = _
  simp only [lane_slt4, select_ofBool, pay9_apply h]
  rw [sum_groups fun l => Ideal.exp (lanes a b p l - G (first G))]
  simp only [h.group]
  rfl

omit h

/-! ## The choice of two experts -/

/-- A word less four, divided by eight and rounded down. -/
def eighth (w : BitVec 32) : BitVec 32 :=
  Scalar.select (IntOp.andi (IntOp.cmpi .ne (IntOp.subi (BitVec.setWidth 32 (IntOp.cmpi .sgt (IntOp.subi w 4#32) 0#32))
      (BitVec.setWidth 32 (IntOp.cmpi .slt (IntOp.subi w 4#32) 0#32))) (Scalar.subi (Scalar.extui (Scalar.cmpi .sgt 8#32 0#32)) (Scalar.extui (Scalar.cmpi .slt 8#32 0#32))))
      (IntOp.cmpi .ne (IntOp.remsi .vector (IntOp.subi w 4#32) 8#32) 0#32))
    (IntOp.subi (IntOp.divsi .vector (IntOp.subi w 4#32) 8#32) 1#32) (IntOp.divsi .vector (IntOp.subi w 4#32) 8#32)

/-- A lane's group. -/
theorem lane_group : ∀ l : Fin 128, 4 ≤ l.val → (eighth (BitVec.ofNat 32 l.val)).toInt = (((l.val - 4) / 8 : ℕ) : ℤ) := by
  decide +kernel

variable (a b)

/-- The chosen group's scores, the choice's two values and two lanes. -/
abbrev chosen : FVec Ideal S512x128 .f32 := k0_pay16 (k0_pay5 a b) (iota .tc S512x128 32 [1] iota_S512x128_d1_w32) (k0_pay10 a b) k0_pay13 k0_pay14 k0_pay15
abbrev top1 : FVec Ideal S512x1 .f32 := k0_pay17 (k0_pay5 a b) (iota .tc S512x128 32 [1] iota_S512x128_d1_w32) (k0_pay10 a b) k0_pay13 k0_pay14 k0_pay15
abbrev at1 : FVec Ideal S512x1 .f32 := k0_pay18 (k0_pay5 a b) (iota .tc S512x128 32 [1] iota_S512x128_d1_w32) k0_pay6 (k0_pay10 a b) k0_pay13 k0_pay14 k0_pay15
abbrev others : FVec Ideal S512x128 .f32 := k0_pay19 (k0_pay5 a b) (iota .tc S512x128 32 [1] iota_S512x128_d1_w32) k0_pay6 (k0_pay10 a b) k0_pay13 k0_pay14 k0_pay15
abbrev top2 : FVec Ideal S512x1 .f32 := k0_pay20 (k0_pay5 a b) (iota .tc S512x128 32 [1] iota_S512x128_d1_w32) k0_pay6 (k0_pay10 a b) k0_pay13 k0_pay14 k0_pay15
abbrev at2 : FVec Ideal S512x1 .f32 := k0_pay21 (k0_pay5 a b) (iota .tc S512x128 32 [1] iota_S512x128_d1_w32) k0_pay6 (k0_pay10 a b) k0_pay13 k0_pay14 k0_pay15
abbrev share1 : FVec Ideal S512x1 .f32 := k0_pay23 (k0_pay5 a b) (iota .tc S512x128 32 [1] iota_S512x128_d1_w32) k0_pay6 (k0_pay10 a b) (k0_pay11 a b) k0_pay13 k0_pay14 k0_pay15
abbrev share2 : FVec Ideal S512x1 .f32 := k0_pay24 (k0_pay5 a b) (iota .tc S512x128 32 [1] iota_S512x128_d1_w32) k0_pay6 (k0_pay10 a b) (k0_pay11 a b) k0_pay13 k0_pay14 k0_pay15

theorem pay6_apply (p : Fin 512) (l : Fin 128) : k0_pay6 (F := Ideal) (ValueIdx.ix2 p l) = ((l.val : ℝ) : EReal) := by
  pointwise [k0_pay6]
  exact lane_float l.val (by omega)

theorem less_four (n : ℕ) : (((4 + n : ℕ) : ℝ) : EReal) - ((4 : ℝ) : EReal) = ((n : ℝ) : EReal) := by
  rw [← EReal.coe_sub, Nat.cast_add, Nat.cast_ofNat, add_sub_cancel_left]

variable {a b}
include h

theorem chosen_apply (l : Fin 128) : chosen a b (ValueIdx.ix2 p l) = expertLanes (lanes a b p) (first G) l := by
  unfold chosen
  pointwise [k0_pay16, k0_pay15, k0_pay14, k0_pay13, k0_pay12]
  show Scalar.select (IntOp.andi (IntOp.andi (IntOp.cmpi .sge (BitVec.ofNat 32 l.val) 4#32) (IntOp.cmpi .slt (BitVec.ofNat 32 l.val) 36#32))
    (BitVec.ofBool (decide ((((eighth (BitVec.ofNat 32 l.val)).toInt : ℝ) : EReal) = k0_pay10 a b (ValueIdx.ix2 p 0))))) (lanes a b p l) (Ideal.ofBits .f32 0xFF800000#32) = _
  rw [lane_sge4, lane_slt36, andi_ofBool, andi_ofBool, select_ofBool, negInf, pay10_apply h]
  unfold expertLanes
  refine if_congr (and_congr_right fun hl => ?_) rfl rfl
  rw [lane_group l hl.1, Int.cast_natCast, nat_inj]

theorem top1_apply : top1 a b (ValueIdx.ix2 p 0) = E (first G) (first (E (first G))) := by
  unfold top1
  pointwise [k0_pay17]
  rw [negInf, ← h.expertLanes_at (first G), ← fold_max _ _ (h.expert_le _)]
  exact congrArg (Finset.univ.fold max ⊥) (funext fun l => chosen_apply h l)

theorem at1_apply : at1 a b (ValueIdx.ix2 p 0) = (((4 + 8 * (first G).val + (first (E (first G))).val : ℕ) : ℝ) : EReal) := by
  unfold at1
  pointwise [k0_pay18]
  rw [posInf, far, ← fold_min _ ⟨4 + 8 * (first G).val + (first (E (first G))).val, by omega⟩ _ (nat_le_far _ (by dsimp only; omega)) (h.expert_ne _)]
  refine congrArg (Finset.univ.fold min ⊤) (funext fun l => ?_)
  show (if chosen a b (ValueIdx.ix2 p l) = top1 a b (ValueIdx.ix2 p 0) then k0_pay6 (ValueIdx.ix2 p l) else _) = _
  rw [chosen_apply h, top1_apply h, ← h.expertLanes_at, pay6_apply]

theorem others_apply (l : Fin 128) : others a b (ValueIdx.ix2 p l) = restLanes (lanes a b p) (first G) (first (E (first G))) l := by
  unfold others
  pointwise [k0_pay19]
  show (if k0_pay6 (ValueIdx.ix2 p l) = at1 a b (ValueIdx.ix2 p 0) then Ideal.ofBits .f32 0xFF800000#32 else chosen a b (ValueIdx.ix2 p l)) = _
  rw [chosen_apply h, at1_apply h, pay6_apply, negInf]
  exact if_congr (nat_inj _ _) rfl rfl

theorem top2_apply : top2 a b (ValueIdx.ix2 p 0) = E (first G) (second (E (first G))) := by
  unfold top2
  pointwise [k0_pay20]
  rw [negInf, ← h.restLanes_at (first G) _ _ (second_ne _), ← fold_max _ _ (h.rest_le _)]
  exact congrArg (Finset.univ.fold max ⊥) (funext fun l => others_apply h l)

theorem at2_apply : at2 a b (ValueIdx.ix2 p 0) = (((4 + 8 * (first G).val + (second (E (first G))).val : ℕ) : ℝ) : EReal) := by
  unfold at2
  pointwise [k0_pay21]
  rw [posInf, far, ← fold_min _ ⟨4 + 8 * (first G).val + (second (E (first G))).val, by omega⟩ _ (nat_le_far _ (by dsimp only; omega)) (h.rest_ne _)]
  refine congrArg (Finset.univ.fold min ⊤) (funext fun l => ?_)
  show (if others a b (ValueIdx.ix2 p l) = top2 a b (ValueIdx.ix2 p 0) then k0_pay6 (ValueIdx.ix2 p l) else _) = _
  rw [others_apply h, top2_apply h, ← h.restLanes_at _ _ _ (second_ne _), pay6_apply]

theorem share1_apply : share1 a b (ValueIdx.ix2 p 0) = weight1 G E := by
  unfold share1
  pointwise [k0_pay23, k0_pay22]
  show Ideal.div (k0_pay11 a b (ValueIdx.ix2 p 0)) (1 + Ideal.exp (top2 a b (ValueIdx.ix2 p 0) - top1 a b (ValueIdx.ix2 p 0))) = _
  rw [pay11_apply h, top2_apply h, top1_apply h]
  rfl

theorem share2_apply : share2 a b (ValueIdx.ix2 p 0) = weight2 G E := by
  unfold share2
  pointwise [k0_pay24, k0_pay22]
  show Ideal.div (k0_pay11 a b (ValueIdx.ix2 p 0) * Ideal.exp (top2 a b (ValueIdx.ix2 p 0) - top1 a b (ValueIdx.ix2 p 0)))
    (1 + Ideal.exp (top2 a b (ValueIdx.ix2 p 0) - top1 a b (ValueIdx.ix2 p 0))) = _
  rw [pay11_apply h, top2_apply h, top1_apply h]
  rfl

theorem pay25_apply : k0_pay25 (at1 a b) (ValueIdx.ix2 p 0) = ((number1 G E : ℝ) : EReal) := by
  pointwise [k0_pay25]
  show at1 a b (ValueIdx.ix2 p 0) - Ideal.ofBits .f32 0x40800000#32 = _
  rw [at1_apply h, four, add_assoc, less_four]
  rfl

theorem pay26_apply : k0_pay26 (at2 a b) (ValueIdx.ix2 p 0) = ((number2 G E : ℝ) : EReal) := by
  pointwise [k0_pay26]
  show at2 a b (ValueIdx.ix2 p 0) - Ideal.ofBits .f32 0x40800000#32 = _
  rw [at2_apply h, four, add_assoc, less_four]
  rfl

theorem pay29_apply (l : Fin 128) : k0_pay29 k0_pay6 (at1 a b) (at2 a b) (ValueIdx.ix2 p l) = sent G E l.val := by
  pointwise [k0_pay29, k0_pay27, k0_pay28]
  show Scalar.select (IntOp.ori (BitVec.ofBool (decide (k0_pay6 (ValueIdx.ix2 p l) = k0_pay25 (at1 a b) (ValueIdx.ix2 p 0))))
    (BitVec.ofBool (decide (k0_pay6 (ValueIdx.ix2 p l) = k0_pay26 (at2 a b) (ValueIdx.ix2 p 0))))) (1 : EReal) 0 = _
  rw [ori_ofBool, select_ofBool, pay25_apply h, pay26_apply h, pay6_apply]
  exact if_congr (or_congr (nat_inj _ _) (nat_inj _ _)) rfl rfl

/-- A row's sum over the lanes that name its first expert. -/
theorem pay31_apply (s : FVec Ideal S1x128 .f32) :
    k0_pay31 k0_pay6 (at1 a b) (at2 a b) s (ValueIdx.ix2 p 0) = k0_pay30 k0_pay6 (at1 a b) (at2 a b) s (ValueIdx.ix2 p ⟨number1 G E, by have := number1_lt G E; omega⟩) := by
  pointwise [k0_pay31, k0_pay27]
  show (∑ x : Fin 128, if k0_pay6 (ValueIdx.ix2 p x) = k0_pay25 (at1 a b) (ValueIdx.ix2 p 0) then k0_pay30 k0_pay6 (at1 a b) (at2 a b) s (ValueIdx.ix2 p x) else 0) = _
  rw [Finset.sum_eq_single ⟨number1 G E, by have := number1_lt G E; omega⟩]
  · rw [pay6_apply, pay25_apply h, if_pos rfl]
  · intro x _ hx
    rw [pay6_apply, pay25_apply h, if_neg]
    rw [nat_inj]; exact fun e => hx (Fin.ext e)
  · exact fun hx => absurd (Finset.mem_univ _) hx

theorem pay32_apply (s : FVec Ideal S1x128 .f32) :
    k0_pay32 k0_pay6 (at1 a b) (at2 a b) s (ValueIdx.ix2 p 0) = k0_pay30 k0_pay6 (at1 a b) (at2 a b) s (ValueIdx.ix2 p ⟨number2 G E, by have := number2_lt G E; omega⟩) := by
  pointwise [k0_pay32, k0_pay28]
  show (∑ x : Fin 128, if k0_pay6 (ValueIdx.ix2 p x) = k0_pay26 (at2 a b) (ValueIdx.ix2 p 0) then k0_pay30 k0_pay6 (at1 a b) (at2 a b) s (ValueIdx.ix2 p x) else 0) = _
  rw [Finset.sum_eq_single ⟨number2 G E, by have := number2_lt G E; omega⟩]
  · rw [pay6_apply, pay26_apply h, if_pos rfl]
  · intro x _ hx
    rw [pay6_apply, pay26_apply h, if_neg]
    rw [nat_inj]; exact fun e => hx (Fin.ext e)
  · exact fun hx => absurd (Finset.mem_univ _) hx

omit h

/-! ## The queues -/

/-- The tokens of the block before a row, sent to a lane's expert, over what the blocks before sent. -/
theorem pay30_apply (u v : FVec Ideal S512x1 .f32) (s : FVec Ideal S1x128 .f32) (l : Fin 128) :
    k0_pay30 k0_pay6 u v s (ValueIdx.ix2 p l)
      = (∑ q : Fin 512, if q.val < p.val then k0_pay29 k0_pay6 u v (ValueIdx.ix2 q l) else 0) + s (ValueIdx.ix2 0 l) := by
  pointwise [k0_pay30]
  show (∑ x : Fin 512, Scalar.select (IntOp.cmpi .sgt (BitVec.ofNat 32 p.val) (BitVec.ofNat 32 x.val)) (k0_pay29 k0_pay6 u v (ValueIdx.ix2 x l)) 0) + s (ValueIdx.ix2 0 l) = _
  refine congrArg (· + s (ValueIdx.ix2 0 l)) (Finset.sum_congr rfl fun x _ => ?_)
  rw [word_sgt _ _ (by omega) (by omega), select_ofBool]

/-- What the blocks up to this one sent to a lane's expert. -/
theorem pay33_apply (u v : FVec Ideal S512x1 .f32) (s : FVec Ideal S1x128 .f32) (l : Fin 128) :
    k0_pay33 k0_pay6 u v s (ValueIdx.ix2 0 l) = s (ValueIdx.ix2 0 l) + ∑ q : Fin 512, k0_pay29 k0_pay6 u v (ValueIdx.ix2 q l) := by
  pointwise [k0_pay33]
  rfl

theorem lane_eq : ∀ l : Fin 128, IntOp.cmpi .eq (BitVec.ofNat 32 l.val) 0#32 = BitVec.ofBool (decide (l.val = 0))
    ∧ IntOp.cmpi .eq (BitVec.ofNat 32 l.val) 1#32 = BitVec.ofBool (decide (l.val = 1))
    ∧ IntOp.cmpi .eq (BitVec.ofNat 32 l.val) 2#32 = BitVec.ofBool (decide (l.val = 2))
    ∧ IntOp.cmpi .eq (BitVec.ofNat 32 l.val) 3#32 = BitVec.ofBool (decide (l.val = 3))
    ∧ IntOp.cmpi .eq (BitVec.ofNat 32 l.val) 4#32 = BitVec.ofBool (decide (l.val = 4))
    ∧ IntOp.cmpi .eq (BitVec.ofNat 32 l.val) 5#32 = BitVec.ofBool (decide (l.val = 5)) := by decide +kernel

/-- The six lanes a token's choice is written to. -/
theorem pay1_apply (w1 w2 n1 n2 r1 r2 : FVec Ideal S512x1 .f32) (l : Fin 128) :
    k0_pay1 (iota .tc S512x128 32 [1] iota_S512x128_d1_w32) w1 w2 n1 n2 r1 r2 (ValueIdx.ix2 p l)
      = six (n1 (ValueIdx.ix2 p 0)) (n2 (ValueIdx.ix2 p 0)) (r1 (ValueIdx.ix2 p 0)) (r2 (ValueIdx.ix2 p 0)) (w1 (ValueIdx.ix2 p 0)) (w2 (ValueIdx.ix2 p 0)) l.val := by
  obtain ⟨e0, e1, e2, e3, e4, e5⟩ := lane_eq l
  pointwise [k0_pay1]
  show Scalar.select (IntOp.cmpi .eq (BitVec.ofNat 32 l.val) 0#32) _ (Scalar.select (IntOp.cmpi .eq (BitVec.ofNat 32 l.val) 1#32) _
    (Scalar.select (IntOp.cmpi .eq (BitVec.ofNat 32 l.val) 2#32) _ (Scalar.select (IntOp.cmpi .eq (BitVec.ofNat 32 l.val) 3#32) _
    (Scalar.select (IntOp.cmpi .eq (BitVec.ofNat 32 l.val) 4#32) _ (Scalar.select (IntOp.cmpi .eq (BitVec.ofNat 32 l.val) 5#32) _ _))))) = _
  rw [e0, e1, e2, e3, e4, e5]
  simp only [select_ofBool]
  rfl

end Cert.RouterIdeal.Own

end
-- ==== Proof.RouterRefValue.lean ====
/- The routing reference, stage by stage, at an index. -/
module

public import proofs.«01_k».proof.Proof.Gen.RouterRefIdeal.Run
public import proofs.«01_k».proof.Proof.RouterMath
public import Idealize.ShloMosaic.Lib.Pointwise
public import Idealize.ShloMosaic.Lib.ValueIdx
public import Idealize.ShloMosaic.Lib.WordCmp

@[expose] public section

set_option maxRecDepth 16384

noncomputable section

namespace Cert.RouterRefIdeal.Own

open Cert.RouterRefIdeal Cert.RouterRefIdeal.Gen Cert.RouterRefIdeal.Value
open Idealize.ShloMosaic Idealize.ShloMosaic.TcCoe Idealize.ShloMosaic.Tactic Idealize.SL.Sem
open Idealize.ShloMosaic.StableHlo (launchContents)
open Cert.Attention Cert.Routing

/-! ## The stages, of the groups' and the experts' scores -/

/-- Which group is chosen. -/
def group (G : FVec Ideal S16384x4 .f32) : IVec S16384x4 1 :=
  cmpf .oeq (Host.reduceAdd (uitofp .f32 (ori (cmpf .ogt (broadcastInDim S16384x4x4 ![0, 1, 2] bcast_S16384x1x4_S16384x4x4_0_1_2 (broadcastInDim S16384x1x4 ![0, 2] bcast_S16384x4_S16384x1x4_0_2 G)) (broadcastInDim S16384x4x4 ![0, 1, 2] bcast_S16384x4x1_S16384x4x4_0_1_2 (broadcastInDim S16384x4x1 ![0, 1] bcast_S16384x4_S16384x4x1_0_1 G))) (andi (cmpf .oeq (broadcastInDim S16384x4x4 ![0, 1, 2] bcast_S16384x1x4_S16384x4x4_0_1_2 (broadcastInDim S16384x1x4 ![0, 2] bcast_S16384x4_S16384x1x4_0_2 G)) (broadcastInDim S16384x4x4 ![0, 1, 2] bcast_S16384x4x1_S16384x4x4_0_1_2 (broadcastInDim S16384x4x1 ![0, 1] bcast_S16384x4_S16384x4x1_0_1 G))) (broadcastInDim S16384x4x4 ![0, 1, 2] bcast_S1x4x4_S16384x4x4_0_1_2 (broadcastInDim S1x4x4 ![1, 2] bcast_S4x4_S1x4x4_1_2 (cmpi .slt (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0))))))))) (constant (F := Ideal) S_ .f32 0x00000000#32) reducesTo_S16384x4x4_S16384x4_d2 h_S_) (broadcastInDim S16384x4 ![] bcast_S_S16384x4 (constant (F := Ideal) S_ .f32 0x00000000#32))

/-- How many experts of its group are ahead of each. -/
def places (E : FVec Ideal S16384x4x8 .f32) : FVec Ideal S16384x4x8 .f32 :=
  Host.reduceAdd (uitofp .f32 (ori (cmpf .ogt (broadcastInDim S16384x4x8x8 ![0, 1, 2, 3] bcast_S16384x4x1x8_S16384x4x8x8_0_1_2_3 (broadcastInDim S16384x4x1x8 ![0, 1, 3] bcast_S16384x4x8_S16384x4x1x8_0_1_3 E)) (broadcastInDim S16384x4x8x8 ![0, 1, 2, 3] bcast_S16384x4x8x1_S16384x4x8x8_0_1_2_3 (broadcastInDim S16384x4x8x1 ![0, 1, 2] bcast_S16384x4x8_S16384x4x8x1_0_1_2 E))) (andi (cmpf .oeq (broadcastInDim S16384x4x8x8 ![0, 1, 2, 3] bcast_S16384x4x1x8_S16384x4x8x8_0_1_2_3 (broadcastInDim S16384x4x1x8 ![0, 1, 3] bcast_S16384x4x8_S16384x4x1x8_0_1_3 E)) (broadcastInDim S16384x4x8x8 ![0, 1, 2, 3] bcast_S16384x4x8x1_S16384x4x8x8_0_1_2_3 (broadcastInDim S16384x4x8x1 ![0, 1, 2] bcast_S16384x4x8_S16384x4x8x1_0_1_2 E))) (broadcastInDim S16384x4x8x8 ![0, 1, 2, 3] bcast_S1x1x8x8_S16384x4x8x8_0_1_2_3 (broadcastInDim S1x1x8x8 ![2, 3] bcast_S8x8_S1x1x8x8_2_3 (cmpi .slt (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0))))))))) (constant (F := Ideal) S_ .f32 0x00000000#32) reducesTo_S16384x4x8x8_S16384x4x8_d3 h_S_

/-- The groups' exponentials. -/
def groupExps (G : FVec Ideal S16384x4 .f32) : FVec Ideal S16384x4 .f32 :=
  Host.exp (subf G (broadcastInDim S16384x4 ![0, 1] bcast_S16384x1_S16384x4_0_1 (broadcastInDim S16384x1 ![0] bcast_S16384_S16384x1_0 (maximumf (broadcastInDim S16384 ![] bcast_S_S16384 (constant (F := Ideal) S_ .f32 0xFF800000#32)) (Host.reduce FloatOps.maximumf G (constant (F := Ideal) S_ .f32 0xFF800000#32) reducesTo_S16384x4_S16384_d1 h_S_)))))

/-- One at the first expert. -/
def chosen1 (G : FVec Ideal S16384x4 .f32) (E : FVec Ideal S16384x4x8 .f32) : FVec Ideal S16384x32 .f32 :=
  shapeCast _ (select (andi (broadcastInDim S16384x4x8 ![0, 1, 2] bcast_S16384x4x1_S16384x4x8_0_1_2 (broadcastInDim S16384x4x1 ![0, 1] bcast_S16384x4_S16384x4x1_0_1 (group G))) (cmpf .oeq (places E) (broadcastInDim S16384x4x8 ![] bcast_S_S16384x4x8 (constant (F := Ideal) S_ .f32 0x00000000#32)))) (broadcastInDim S16384x4x8 ![] bcast_S_S16384x4x8 (constant (F := Ideal) S_ .f32 0x3F800000#32)) (broadcastInDim S16384x4x8 ![] bcast_S_S16384x4x8 (constant (F := Ideal) S_ .f32 0x00000000#32))) shapeCasts_S16384x4x8_S16384x32

/-- One at the second expert. -/
def chosen2 (G : FVec Ideal S16384x4 .f32) (E : FVec Ideal S16384x4x8 .f32) : FVec Ideal S16384x32 .f32 :=
  shapeCast _ (select (andi (broadcastInDim S16384x4x8 ![0, 1, 2] bcast_S16384x4x1_S16384x4x8_0_1_2 (broadcastInDim S16384x4x1 ![0, 1] bcast_S16384x4_S16384x4x1_0_1 (group G))) (cmpf .oeq (places E) (broadcastInDim S16384x4x8 ![] bcast_S_S16384x4x8 (constant (F := Ideal) S_ .f32 0x3F800000#32)))) (broadcastInDim S16384x4x8 ![] bcast_S_S16384x4x8 (constant (F := Ideal) S_ .f32 0x3F800000#32)) (broadcastInDim S16384x4x8 ![] bcast_S_S16384x4x8 (constant (F := Ideal) S_ .f32 0x00000000#32))) shapeCasts_S16384x4x8_S16384x32

/-- The experts' scores side by side. -/
def scores (E : FVec Ideal S16384x4x8 .f32) : FVec Ideal S16384x32 .f32 :=
  shapeCast _ E shapeCasts_S16384x4x8_S16384x32

/-- The two experts' scores. -/
def pair (G : FVec Ideal S16384x4 .f32) (E : FVec Ideal S16384x4x8 .f32) : FVec Ideal S16384x2 .f32 :=
  concatenate S16384x2 1 [⟨S16384x1, (broadcastInDim S16384x1 ![0] bcast_S16384_S16384x1_0 (Host.reduceAdd (mulf (id (chosen1 G E)) (scores E)) (constant (F := Ideal) S_ .f32 0x00000000#32) reducesTo_S16384x32_S16384_d1 h_S_))⟩, ⟨S16384x1, (broadcastInDim S16384x1 ![0] bcast_S16384_S16384x1_0 (Host.reduceAdd (mulf (id (chosen2 G E)) (scores E)) (constant (F := Ideal) S_ .f32 0x00000000#32) reducesTo_S16384x32_S16384_d1 h_S_))⟩] concatenates_S16384x1_S16384x1_S16384x2_d1

/-- Their exponentials. -/
def pairExps (G : FVec Ideal S16384x4 .f32) (E : FVec Ideal S16384x4x8 .f32) : FVec Ideal S16384x2 .f32 :=
  Host.exp (subf (pair G E) (broadcastInDim S16384x2 ![0, 1] bcast_S16384x1_S16384x2_0_1 (broadcastInDim S16384x1 ![0] bcast_S16384_S16384x1_0 (maximumf (broadcastInDim S16384 ![] bcast_S_S16384 (constant (F := Ideal) S_ .f32 0xFF800000#32)) (Host.reduce FloatOps.maximumf (pair G E) (constant (F := Ideal) S_ .f32 0xFF800000#32) reducesTo_S16384x2_S16384_d1 h_S_)))))

/-- One at both experts. -/
def loads (G : FVec Ideal S16384x4 .f32) (E : FVec Ideal S16384x4x8 .f32) : FVec Ideal S16384x32 .f32 :=
  addf (chosen1 G E) (chosen2 G E)

/-- How many tokens before each are sent to each expert. -/
def queue (G : FVec Ideal S16384x4 .f32) (E : FVec Ideal S16384x4x8 .f32) : FVec Ideal S16384x32 .f32 :=
  Host.dotGeneral dot_S16384x16384_S16384x32_S16384x32_1_0_0_1_n_n none (uitofp .f32 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (loads G E)

/-- The choices. -/
def choices (G : FVec Ideal S16384x4 .f32) (E : FVec Ideal S16384x4x8 .f32) : FVec Ideal S16384x128 .f32 :=
  (concatenate S16384x128 1 [⟨S16384x1, ((broadcastInDim S16384x1 ![0] bcast_S16384_S16384x1_0 (Host.reduceAdd (mulf (id (chosen1 G E)) (broadcastInDim S16384x32 ![0, 1] bcast_S1x32_S16384x32_0_1 (broadcastInDim S1x32 ![1] bcast_S32_S1x32_1 (sitofp .f32 (iotaInDim S32 32 0))))) (constant (F := Ideal) S_ .f32 0x00000000#32) reducesTo_S16384x32_S16384_d1 h_S_)))⟩, ⟨S16384x1, ((broadcastInDim S16384x1 ![0] bcast_S16384_S16384x1_0 (Host.reduceAdd (mulf (id (chosen2 G E)) (broadcastInDim S16384x32 ![0, 1] bcast_S1x32_S16384x32_0_1 (broadcastInDim S1x32 ![1] bcast_S32_S1x32_1 (sitofp .f32 (iotaInDim S32 32 0))))) (constant (F := Ideal) S_ .f32 0x00000000#32) reducesTo_S16384x32_S16384_d1 h_S_)))⟩, ⟨S16384x1, ((broadcastInDim S16384x1 ![0] bcast_S16384_S16384x1_0 (Host.reduceAdd (mulf (id (chosen1 G E)) (queue G E)) (constant (F := Ideal) S_ .f32 0x00000000#32) reducesTo_S16384x32_S16384_d1 h_S_)))⟩, ⟨S16384x1, ((broadcastInDim S16384x1 ![0] bcast_S16384_S16384x1_0 (Host.reduceAdd (mulf (id (chosen2 G E)) (queue G E)) (constant (F := Ideal) S_ .f32 0x00000000#32) reducesTo_S16384x32_S16384_d1 h_S_)))⟩, ⟨S16384x2, ((mulf (Host.divf (pairExps G E) (broadcastInDim S16384x2 ![0, 1] bcast_S16384x1_S16384x2_0_1 (broadcastInDim S16384x1 ![0] bcast_S16384_S16384x1_0 (Host.reduceAdd (pairExps G E) (constant (F := Ideal) S_ .f32 0x00000000#32) reducesTo_S16384x2_S16384_d1 h_S_)))) (broadcastInDim S16384x2 ![0, 1] bcast_S16384x1_S16384x2_0_1 (broadcastInDim S16384x1 ![0] bcast_S16384_S16384x1_0 (Host.reduceAdd (select (group G) (Host.divf (groupExps G) (broadcastInDim S16384x4 ![0, 1] bcast_S16384x1_S16384x4_0_1 (broadcastInDim S16384x1 ![0] bcast_S16384_S16384x1_0 (Host.reduceAdd (groupExps G) (constant (F := Ideal) S_ .f32 0x00000000#32) reducesTo_S16384x4_S16384_d1 h_S_)))) (broadcastInDim S16384x4 ![] bcast_S_S16384x4 (id (constant (F := Ideal) S_ .f32 0x00000000#32)))) (constant (F := Ideal) S_ .f32 0x00000000#32) reducesTo_S16384x4_S16384_d1 h_S_)))))⟩, ⟨S16384x122, ((broadcastInDim S16384x122 ![] bcast_S_S16384x122 (constant (F := Ideal) S_ .f32 0x00000000#32)))⟩] concatenates_S16384x1_S16384x1_S16384x1_S16384x1_S16384x2_S16384x122_S16384x128_d1)

/-- The experts' totals. -/
def totals (G : FVec Ideal S16384x4 .f32) (E : FVec Ideal S16384x4x8 .f32) : FVec Ideal S1x128 .f32 :=
  concatenate S1x128 1 [⟨S1x32, (broadcastInDim S1x32 ![1] bcast_S32_S1x32_1 (Host.reduceAdd (id (loads G E)) (constant (F := Ideal) S_ .f32 0x00000000#32) reducesTo_S16384x32_S32_d0 h_S_))⟩, ⟨S1x96, (broadcastInDim S1x96 ![] bcast_S_S1x96 (constant (F := Ideal) S_ .f32 0x00000000#32))⟩] concatenates_S1x32_S1x96_S1x128_d1

theorem choices_eq (V0 : Valuation τ sig (Elt Ideal)) : (concatenate S16384x128 1 [⟨S16384x1, ((broadcastInDim S16384x1 ![0] bcast_S16384_S16384x1_0 (Host.reduceAdd (mulf (id (res_main_v85 V0)) (broadcastInDim S16384x32 ![0, 1] bcast_S1x32_S16384x32_0_1 (res_main_v127 V0))) (constant (F := Ideal) S_ .f32 0x00000000#32) reducesTo_S16384x32_S16384_d1 h_S_)))⟩, ⟨S16384x1, ((broadcastInDim S16384x1 ![0] bcast_S16384_S16384x1_0 (Host.reduceAdd (mulf (id (res_main_v92 V0)) (broadcastInDim S16384x32 ![0, 1] bcast_S1x32_S16384x32_0_1 (res_main_v127 V0))) (constant (F := Ideal) S_ .f32 0x00000000#32) reducesTo_S16384x32_S16384_d1 h_S_)))⟩, ⟨S16384x1, ((broadcastInDim S16384x1 ![0] bcast_S16384_S16384x1_0 (Host.reduceAdd (mulf (id (res_main_v85 V0)) (res_main_v124 V0)) (constant (F := Ideal) S_ .f32 0x00000000#32) reducesTo_S16384x32_S16384_d1 h_S_)))⟩, ⟨S16384x1, ((broadcastInDim S16384x1 ![0] bcast_S16384_S16384x1_0 (Host.reduceAdd (mulf (id (res_main_v92 V0)) (res_main_v124 V0)) (constant (F := Ideal) S_ .f32 0x00000000#32) reducesTo_S16384x32_S16384_d1 h_S_)))⟩, ⟨S16384x2, ((mulf (Host.divf (res_main_v109 V0) (broadcastInDim S16384x2 ![0, 1] bcast_S16384x1_S16384x2_0_1 (broadcastInDim S16384x1 ![0] bcast_S16384_S16384x1_0 (Host.reduceAdd (res_main_v109 V0) (constant (F := Ideal) S_ .f32 0x00000000#32) reducesTo_S16384x2_S16384_d1 h_S_)))) (broadcastInDim S16384x2 ![0, 1] bcast_S16384x1_S16384x2_0_1 (broadcastInDim S16384x1 ![0] bcast_S16384_S16384x1_0 (Host.reduceAdd (select (res_main_v43 V0) (Host.divf (res_main_v71 V0) (broadcastInDim S16384x4 ![0, 1] bcast_S16384x1_S16384x4_0_1 (broadcastInDim S16384x1 ![0] bcast_S16384_S16384x1_0 (Host.reduceAdd (res_main_v71 V0) (constant (F := Ideal) S_ .f32 0x00000000#32) reducesTo_S16384x4_S16384_d1 h_S_)))) (broadcastInDim S16384x4 ![] bcast_S_S16384x4 (id (constant (F := Ideal) S_ .f32 0x00000000#32)))) (constant (F := Ideal) S_ .f32 0x00000000#32) reducesTo_S16384x4_S16384_d1 h_S_)))))⟩, ⟨S16384x122, ((broadcastInDim S16384x122 ![] bcast_S_S16384x122 (constant (F := Ideal) S_ .f32 0x00000000#32)))⟩] concatenates_S16384x1_S16384x1_S16384x1_S16384x1_S16384x2_S16384x122_S16384x128_d1) = choices (res_main_v16 V0) (res_main_v20 V0) := rfl

theorem totals_eq (V0 : Valuation τ sig (Elt Ideal)) : concatenate S1x128 1 [⟨S1x32, (broadcastInDim S1x32 ![1] bcast_S32_S1x32_1 (Host.reduceAdd (id (res_main_v116 V0)) (constant (F := Ideal) S_ .f32 0x00000000#32) reducesTo_S16384x32_S32_d0 h_S_))⟩, ⟨S1x96, (broadcastInDim S1x96 ![] bcast_S_S1x96 (constant (F := Ideal) S_ .f32 0x00000000#32))⟩] concatenates_S1x32_S1x96_S1x128_d1 = totals (res_main_v16 V0) (res_main_v20 V0) := rfl

/-! ## The stages at an index -/

theorem zero_bits : Ideal.ofBits .f32 0x00000000#32 = 0 := by simp [Ideal.ofBits, Ideal.ieee]

variable (G : FVec Ideal S16384x4 .f32) (E : FVec Ideal S16384x4x8 .f32)

/-- A token's scores. -/
abbrev Gt (t : Fin 16384) (g : Fin 4) : EReal := G (ValueIdx.ix2 t g)
abbrev Et (t : Fin 16384) (g : Fin 4) (e : Fin 8) : EReal := E (ValueIdx.ix3 t g e)

theorem group_apply (t : Fin 16384) (g : Fin 4) : group G (ValueIdx.ix2 t g) = BitVec.ofBool (decide (g = first (Gt G t))) := by
  pointwise [group]
  refine congrArg BitVec.ofBool (decide_eq_decide.mpr (Iff.trans (Eq.congr ?_ rfl) (ahead_zero (Gt G t) g)))
  exact Finset.sum_congr rfl fun x _ => ahead_word (by omega) (Gt G t) g x

theorem places_apply (t : Fin 16384) (g : Fin 4) (e : Fin 8) : places E (ValueIdx.ix3 t g e) = ahead (Et E t g) e := by
  pointwise [places]
  exact Finset.sum_congr rfl fun x _ => ahead_word (by omega) (Et E t g) e x

theorem groupExps_apply (t : Fin 16384) (g : Fin 4) :
    groupExps G (ValueIdx.ix2 t g) = Ideal.exp (Gt G t g - Gt G t (first (Gt G t))) := by
  pointwise [groupExps]
  show Ideal.exp (Gt G t g - max (Ideal.ofBits .f32 0xFF800000#32) (Finset.univ.fold max (Ideal.ofBits .f32 0xFF800000#32) (Gt G t))) = _
  rw [negInf, max_eq_right bot_le, fold_max _ _ (first_le (Gt G t))]

theorem chosen1_apply (t : Fin 16384) (n : Fin 32) :
    chosen1 G E (ValueIdx.ix2 t n) = if n.val = number1 (Gt G t) (Et E t) then 1 else 0 := by
  pointwise [chosen1]
  show Scalar.select (IntOp.andi (group G (ValueIdx.ix2 t ⟨n.val / 8, by omega⟩)) (BitVec.ofBool (decide (places E (ValueIdx.ix3 t ⟨n.val / 8, by omega⟩ ⟨n.val % 8, by omega⟩) = 0)))) (1 : EReal) 0 = _
  rw [group_apply, places_apply, andi_ofBool, select_ofBool]
  refine if_congr ?_ rfl rfl
  rw [ahead_zero]
  unfold number1
  constructor
  · rintro ⟨h1, h2⟩
    rw [← h1, ← h2]; dsimp only; omega
  · intro h
    have h1 : (⟨n.val / 8, by omega⟩ : Fin 4) = first (Gt G t) := Fin.ext (by dsimp only; omega)
    refine ⟨h1, ?_⟩
    rw [h1]
    exact Fin.ext (by dsimp only; omega)

theorem chosen2_apply (t : Fin 16384) (n : Fin 32) :
    chosen2 G E (ValueIdx.ix2 t n) = if n.val = number2 (Gt G t) (Et E t) then 1 else 0 := by
  pointwise [chosen2]
  show Scalar.select (IntOp.andi (group G (ValueIdx.ix2 t ⟨n.val / 8, by omega⟩)) (BitVec.ofBool (decide (places E (ValueIdx.ix3 t ⟨n.val / 8, by omega⟩ ⟨n.val % 8, by omega⟩) = 1)))) (1 : EReal) 0 = _
  rw [group_apply, places_apply, andi_ofBool, select_ofBool]
  refine if_congr ?_ rfl rfl
  rw [ahead_one]
  unfold number2
  constructor
  · rintro ⟨h1, h2⟩
    rw [← h1, ← h2]; dsimp only; omega
  · intro h
    have h1 : (⟨n.val / 8, by omega⟩ : Fin 4) = first (Gt G t) := Fin.ext (by dsimp only; omega)
    refine ⟨h1, ?_⟩
    rw [h1]
    exact Fin.ext (by dsimp only; omega)

theorem scores_apply (t : Fin 16384) (n : Fin 32) : scores E (ValueIdx.ix2 t n) = Et E t ⟨n.val / 8, by omega⟩ ⟨n.val % 8, by omega⟩ := by
  pointwise [scores]
  rfl

/-- A sum against a mask of one place. -/
theorem pick (k : ℕ) (hk : k < 32) (f : Fin 32 → EReal) : (∑ x : Fin 32, (if x.val = k then (1 : EReal) else 0) * f x) = f ⟨k, hk⟩ := by
  rw [Finset.sum_eq_single ⟨k, hk⟩]
  · rw [if_pos rfl, one_mul]
  · intro x _ hx
    rw [if_neg fun e => hx (Fin.ext e), zero_mul]
  · exact fun hx => absurd (Finset.mem_univ _) hx

theorem pair_apply (t : Fin 16384) (n : Fin 2) : pair G E (ValueIdx.ix2 t n)
    = if n.val < 1 then Et E t (first (Gt G t)) (first (Et E t (first (Gt G t)))) else Et E t (first (Gt G t)) (second (Et E t (first (Gt G t)))) := by
  pointwise [pair]
  show (if n.val < 1 then ∑ x : Fin 32, chosen1 G E (ValueIdx.ix2 t x) * scores E (ValueIdx.ix2 t x) else ∑ x : Fin 32, chosen2 G E (ValueIdx.ix2 t x) * scores E (ValueIdx.ix2 t x)) = _
  simp only [chosen1_apply, chosen2_apply, scores_apply]
  rw [pick _ (number1_lt _ _) fun x : Fin 32 => Et E t ⟨x.val / 8, by omega⟩ ⟨x.val % 8, by omega⟩,
    pick _ (number2_lt _ _) fun x : Fin 32 => Et E t ⟨x.val / 8, by omega⟩ ⟨x.val % 8, by omega⟩]
  refine if_congr Iff.rfl ?_ ?_
  · exact congrArg₂ (Et E t) (Fin.ext (by unfold number1; dsimp only; omega)) (Fin.ext (by unfold number1; dsimp only; omega))
  · exact congrArg₂ (Et E t) (Fin.ext (by unfold number2; dsimp only; omega)) (Fin.ext (by unfold number2; dsimp only; omega))

theorem pairExps_apply (t : Fin 16384) (n : Fin 2) : pairExps G E (ValueIdx.ix2 t n)
    = Ideal.exp (pair G E (ValueIdx.ix2 t n) - Et E t (first (Gt G t)) (first (Et E t (first (Gt G t))))) := by
  pointwise [pairExps]
  show Ideal.exp (pair G E (ValueIdx.ix2 t n) - max (Ideal.ofBits .f32 0xFF800000#32)
    (Finset.univ.fold max (Ideal.ofBits .f32 0xFF800000#32) fun x : Fin 2 => pair G E (ValueIdx.ix2 t x))) = _
  have h0 : pair G E (ValueIdx.ix2 t 0) = Et E t (first (Gt G t)) (first (Et E t (first (Gt G t)))) := (pair_apply G E t 0).trans (if_pos (by decide))
  rw [negInf, max_eq_right bot_le, fold_max _ 0 fun j => ?_, h0]
  rw [h0, pair_apply]
  split_ifs
  · exact le_rfl
  · exact first_le (Et E t (first (Gt G t))) _

theorem loads_apply (t : Fin 16384) (n : Fin 32) : loads G E (ValueIdx.ix2 t n) = sent (Gt G t) (Et E t) n.val := by
  pointwise [loads]
  rw [chosen1_apply, chosen2_apply]
  unfold sent
  have hne := number_ne (Gt G t) (Et E t)
  by_cases h1 : n.val = number1 (Gt G t) (Et E t)
  · rw [if_pos h1, if_neg (h1 ▸ hne), if_pos (Or.inl h1), add_zero]
  · rw [if_neg h1, zero_add]
    exact if_congr ⟨Or.inr, fun h => h.resolve_left h1⟩ rfl rfl

theorem queue_apply (t : Fin 16384) (n : Fin 32) :
    queue G E (ValueIdx.ix2 t n) = ∑ x : Fin 16384, if x.val < t.val then sent (Gt G x) (Et E x) n.val else 0 := by
  pointwise [queue]
  refine Finset.sum_congr rfl fun x _ => ?_
  show FloatOps.uitofp (F := Ideal) .f32 (IntOp.cmpi .slt (BitVec.ofNat 32 x.val) (BitVec.ofNat 32 t.val)) * loads G E (ValueIdx.ix2 x n) = _
  rw [word_slt _ _ (by omega) (by omega), bit_float, loads_apply]
  split_ifs
  · exact one_mul _
  · exact zero_mul _

theorem totals_apply (n : Fin 128) :
    totals G E (ValueIdx.ix2 0 n) = if n.val < 32 then ∑ x : Fin 16384, sent (Gt G x) (Et E x) n.val else 0 := by
  pointwise [totals]
  by_cases h : n.val < 32
  · rw [dif_pos (show (ValueIdx.ix2 0 n 1).val < 32 from h), if_pos h]
    exact Finset.sum_congr rfl fun x _ => loads_apply G E x ⟨n.val, h⟩
  · rw [dif_neg (show ¬(ValueIdx.ix2 0 n 1).val < 32 from h), if_neg h]

/-- The choices' lanes, each from its stage. -/
theorem choices_read (t : Fin 16384) (n : Fin 128) : choices G E (ValueIdx.ix2 t n)
    = six (∑ x : Fin 32, chosen1 G E (ValueIdx.ix2 t x) * (FloatOps.sitofp (F := Ideal) .f32 (BitVec.ofNat 32 x.val) : EReal))
        (∑ x : Fin 32, chosen2 G E (ValueIdx.ix2 t x) * (FloatOps.sitofp (F := Ideal) .f32 (BitVec.ofNat 32 x.val) : EReal))
        (∑ x : Fin 32, chosen1 G E (ValueIdx.ix2 t x) * queue G E (ValueIdx.ix2 t x))
        (∑ x : Fin 32, chosen2 G E (ValueIdx.ix2 t x) * queue G E (ValueIdx.ix2 t x))
        (Ideal.div (pairExps G E (ValueIdx.ix2 t 0)) (∑ x : Fin 2, pairExps G E (ValueIdx.ix2 t x))
          * ∑ x : Fin 4, Scalar.select (group G (ValueIdx.ix2 t x)) (Ideal.div (groupExps G (ValueIdx.ix2 t x)) (∑ y : Fin 4, groupExps G (ValueIdx.ix2 t y))) (0 : EReal))
        (Ideal.div (pairExps G E (ValueIdx.ix2 t 1)) (∑ x : Fin 2, pairExps G E (ValueIdx.ix2 t x))
          * ∑ x : Fin 4, Scalar.select (group G (ValueIdx.ix2 t x)) (Ideal.div (groupExps G (ValueIdx.ix2 t x)) (∑ y : Fin 4, groupExps G (ValueIdx.ix2 t y))) (0 : EReal))
        n.val := by
  obtain ⟨n, hn⟩ := n
  unfold choices
  generalize hA : chosen1 G E = A
  generalize hB : chosen2 G E = B
  generalize hC : queue G E = C
  generalize hD : pairExps G E = D
  generalize hF : groupExps G = F
  generalize hH : group G = H
  pointwise
  have hz : (id (constant (F := Ideal) S_ .f32 0x00000000#32) ValueIdx.ix0 : EReal) = 0 := zero_bits
  have e1 : (ValueIdx.ix2 t (⟨n, hn⟩ : Fin 128) 1).val = n := rfl
  unfold six
  dsimp only at e1 ⊢
  by_cases h0 : n = 0
  · rw [dif_pos (by omega), if_pos h0]; rfl
  rw [dif_neg (by omega), if_neg h0]
  by_cases h1 : n = 1
  · rw [dif_pos (by omega), if_pos h1]; rfl
  rw [dif_neg (by omega), if_neg h1]
  by_cases h2 : n = 2
  · rw [dif_pos (by omega), if_pos h2]; rfl
  rw [dif_neg (by omega), if_neg h2]
  by_cases h3 : n = 3
  · rw [dif_pos (by omega), if_pos h3]; rfl
  rw [dif_neg (by omega), if_neg h3]
  by_cases h4 : n = 4
  · rw [dif_pos (by omega), if_pos h4]
    obtain rfl : n = 4 := h4
    exact congrArg (fun z : EReal => Ideal.div (D (ValueIdx.ix2 t 0)) (∑ x : Fin 2, D (ValueIdx.ix2 t x))
      * ∑ x : Fin 4, Scalar.select (H (ValueIdx.ix2 t x)) (Ideal.div (F (ValueIdx.ix2 t x)) (∑ y : Fin 4, F (ValueIdx.ix2 t y))) z) hz
  rw [if_neg h4]
  by_cases h5 : n = 5
  · rw [dif_pos (by omega), if_pos h5]
    obtain rfl : n = 5 := h5
    exact congrArg (fun z : EReal => Ideal.div (D (ValueIdx.ix2 t 1)) (∑ x : Fin 2, D (ValueIdx.ix2 t x))
      * ∑ x : Fin 4, Scalar.select (H (ValueIdx.ix2 t x)) (Ideal.div (F (ValueIdx.ix2 t x)) (∑ y : Fin 4, F (ValueIdx.ix2 t y))) z) hz
  rw [dif_neg (by omega), if_neg h5]

variable {G E} {t : Fin 16384} (hG : ∀ g, IsReal (Gt G t g)) (hE : ∀ g e, IsReal (Et E t g e))

include hG in
theorem exp_self (g : Fin 4) : Ideal.exp (Gt G t g - Gt G t g) = 1 := by
  obtain ⟨r, hr⟩ := hG g
  rw [hr, exp_sub, sub_self, Real.exp_zero, EReal.coe_one]

include hG in
theorem share_apply : (∑ x : Fin 4, Scalar.select (group G (ValueIdx.ix2 t x)) (Ideal.div (groupExps G (ValueIdx.ix2 t x)) (∑ y : Fin 4, groupExps G (ValueIdx.ix2 t y))) (0 : EReal))
    = groupShare (Gt G t) := by
  simp only [group_apply, groupExps_apply, select_ofBool]
  rw [Finset.sum_ite_eq' Finset.univ (first (Gt G t)), if_pos (Finset.mem_univ _), exp_self hG]
  rfl

include hG hE in
/-- A token's choice: its two experts, their places in the experts' queues, and their weights. -/
theorem choices_apply (n : Fin 128) : choices G E (ValueIdx.ix2 t n)
    = six ((number1 (Gt G t) (Et E t) : ℝ) : EReal) ((number2 (Gt G t) (Et E t) : ℝ) : EReal)
        (∑ x : Fin 16384, if x.val < t.val then sent (Gt G x) (Et E x) (number1 (Gt G t) (Et E t)) else 0)
        (∑ x : Fin 16384, if x.val < t.val then sent (Gt G x) (Et E x) (number2 (Gt G t) (Et E t)) else 0)
        (weight1 (Gt G t) (Et E t)) (weight2 (Gt G t) (Et E t)) n.val := by
  obtain ⟨r, hr, hs⟩ := sum_exp (Gt G t) hG (hG (first (Gt G t)))
  have hS : groupShare (Gt G t) = Ideal.div 1 (r : EReal) := congrArg (Ideal.div 1) hs
  have p0 : pair G E (ValueIdx.ix2 t 0) = Et E t (first (Gt G t)) (first (Et E t (first (Gt G t)))) := (pair_apply G E t 0).trans (if_pos (by decide))
  have p1 : pair G E (ValueIdx.ix2 t 1) = Et E t (first (Gt G t)) (second (Et E t (first (Gt G t)))) := (pair_apply G E t 1).trans (if_neg (by decide))
  have q0 := pairExps_apply G E t 0
  have q1 := pairExps_apply G E t 1
  rw [p0] at q0
  rw [p1] at q1
  have a1 : (∑ x : Fin 32, chosen1 G E (ValueIdx.ix2 t x) * (FloatOps.sitofp (F := Ideal) .f32 (BitVec.ofNat 32 x.val) : EReal)) = ((number1 (Gt G t) (Et E t) : ℝ) : EReal) := by
    simp only [chosen1_apply]
    rw [pick _ (number1_lt _ _) fun x : Fin 32 => (FloatOps.sitofp (F := Ideal) .f32 (BitVec.ofNat 32 x.val) : EReal)]
    exact lane_float _ (by have := number1_lt (Gt G t) (Et E t); omega)
  have a2 : (∑ x : Fin 32, chosen2 G E (ValueIdx.ix2 t x) * (FloatOps.sitofp (F := Ideal) .f32 (BitVec.ofNat 32 x.val) : EReal)) = ((number2 (Gt G t) (Et E t) : ℝ) : EReal) := by
    simp only [chosen2_apply]
    rw [pick _ (number2_lt _ _) fun x : Fin 32 => (FloatOps.sitofp (F := Ideal) .f32 (BitVec.ofNat 32 x.val) : EReal)]
    exact lane_float _ (by have := number2_lt (Gt G t) (Et E t); omega)
  have a3 : (∑ x : Fin 32, chosen1 G E (ValueIdx.ix2 t x) * queue G E (ValueIdx.ix2 t x)) = ∑ x : Fin 16384, if x.val < t.val then sent (Gt G x) (Et E x) (number1 (Gt G t) (Et E t)) else 0 := by
    simp only [chosen1_apply]
    rw [pick _ (number1_lt _ _) fun x : Fin 32 => queue G E (ValueIdx.ix2 t x), queue_apply]
  have a4 : (∑ x : Fin 32, chosen2 G E (ValueIdx.ix2 t x) * queue G E (ValueIdx.ix2 t x)) = ∑ x : Fin 16384, if x.val < t.val then sent (Gt G x) (Et E x) (number2 (Gt G t) (Et E t)) else 0 := by
    simp only [chosen2_apply]
    rw [pick _ (number2_lt _ _) fun x : Fin 32 => queue G E (ValueIdx.ix2 t x), queue_apply]
  have a5 : Ideal.div (pairExps G E (ValueIdx.ix2 t 0)) (∑ x : Fin 2, pairExps G E (ValueIdx.ix2 t x)) * groupShare (Gt G t) = weight1 (Gt G t) (Et E t) := by
    rw [Fin.sum_univ_two, q0, q1]
    unfold weight1
    rw [hS]
    exact (share_one (hE _ _) (hE _ _) hr).symm
  have a6 : Ideal.div (pairExps G E (ValueIdx.ix2 t 1)) (∑ x : Fin 2, pairExps G E (ValueIdx.ix2 t x)) * groupShare (Gt G t) = weight2 (Gt G t) (Et E t) := by
    rw [Fin.sum_univ_two, q0, q1]
    unfold weight2
    rw [hS]
    exact (share_two (hE _ _) (hE _ _) hr).symm
  exact (choices_read G E t n).trans (by rw [a1, a2, a3, a4, share_apply hG, a5, a6])

/-! ## The groups' and the experts' scores -/

/-- The normalised rows. -/
def normed (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The groups' scores. -/
def groups (x : FVec Ideal S16384x2048 .f32) (g : FVec Ideal S2048 .f32) (wg : FVec Ideal S2048x4 .f32) (bg : FVec Ideal S4 .f32) : FVec Ideal S16384x4 .f32 :=
  addf (Host.dotGeneral dot_S16384x2048_S2048x4_S16384x4_1_0_0_1_n_n none (normed x g) wg) (broadcastInDim S16384x4 ![0, 1] bcast_S1x4_S16384x4_0_1 (broadcastInDim S1x4 ![1] bcast_S4_S1x4_1 bg))

/-- The experts' scores. -/
def experts (x : FVec Ideal S16384x2048 .f32) (g : FVec Ideal S2048 .f32) (wr : FVec Ideal S4x2048x8 .f32) (br : FVec Ideal S4x8 .f32) : FVec Ideal S16384x4x8 .f32 :=
  addf (Host.dotGeneral dot_S16384x2048_S4x2048x8_S16384x4x8_1_1_0_02_n_n none (normed x g) wr) (broadcastInDim S16384x4x8 ![0, 1, 2] bcast_S1x4x8_S16384x4x8_0_1_2 (broadcastInDim S1x4x8 ![1, 2] bcast_S4x8_S1x4x8_1_2 br))

variable (m : (ℓ : Loc nD τ sig) → Buf (Elt Ideal) ℓ) (c : Dev nD)

theorem normed_eq : res_main_v12 (launchContents m c) = normed (m ((c.tc : Thread nD τ).loc main_arg0)) (m ((c.tc : Thread nD τ).loc main_arg1)) := rfl

theorem groups_eq : res_main_v16 (launchContents m c)
    = groups (m ((c.tc : Thread nD τ).loc main_arg0)) (m ((c.tc : Thread nD τ).loc main_arg1)) (m ((c.tc : Thread nD τ).loc main_arg2)) (m ((c.tc : Thread nD τ).loc main_arg3)) := rfl

theorem experts_eq : res_main_v20 (launchContents m c)
    = experts (m ((c.tc : Thread nD τ).loc main_arg0)) (m ((c.tc : Thread nD τ).loc main_arg1)) (m ((c.tc : Thread nD τ).loc main_arg4)) (m ((c.tc : Thread nD τ).loc main_arg5)) := rfl

section
variable (x : FVec Ideal S16384x2048 .f32) (g : FVec Ideal S2048 .f32) (wg : FVec Ideal S2048x4 .f32) (bg : FVec Ideal S4 .f32) (wr : FVec Ideal S4x2048x8 .f32) (br : FVec Ideal S4x8 .f32)

theorem normed_apply (t : Fin 16384) (d : Fin 2048) : normed x g (ValueIdx.ix2 t d)
    = x (ValueIdx.ix2 t d) * Ideal.rsqrt (Ideal.div (∑ k : Fin 2048, x (ValueIdx.ix2 t k) * x (ValueIdx.ix2 t k)) (Ideal.ofBits .f32 0x45000000#32)
        + Ideal.ofBits .f32 0x358637BD#32) * g (ValueIdx.ix1 d) := by
  pointwise [normed]
  rfl

theorem groups_apply (t : Fin 16384) (k : Fin 4) : groups x g wg bg (ValueIdx.ix2 t k)
    = (∑ d : Fin 2048, normed x g (ValueIdx.ix2 t d) * wg (ValueIdx.ix2 d k)) + bg (ValueIdx.ix1 k) := by
  pointwise [groups]
  rfl

theorem experts_apply (t : Fin 16384) (k : Fin 4) (e : Fin 8) : experts x g wr br (ValueIdx.ix3 t k e)
    = (∑ d : Fin 2048, normed x g (ValueIdx.ix2 t d) * wr (ValueIdx.ix3 k d e)) + br (ValueIdx.ix2 k e) := by
  pointwise [experts]
  rfl

variable (hx : ∀ j, IsReal (x j)) (hg : ∀ j, IsReal (g j)) (hwg : ∀ j, IsReal (wg j)) (hbg : ∀ j, IsReal (bg j))
  (hwr : ∀ j, IsReal (wr j)) (hbr : ∀ j, IsReal (br j))

include hx hg in
theorem isReal_normed (t : Fin 16384) (d : Fin 2048) : IsReal (normed x g (ValueIdx.ix2 t d)) := by
  rw [normed_apply, width, raise]
  exact ((hx _).mul (isReal_rsqrt _ (fun d => hx _) (by norm_num) (by norm_num))).mul (hg _)

include hx hg hwg hbg in
theorem isReal_groups (t : Fin 16384) (k : Fin 4) : IsReal (groups x g wg bg (ValueIdx.ix2 t k)) := by
  rw [groups_apply]
  exact (IsReal.sum _ _ fun d => (isReal_normed x g hx hg t d).mul (hwg _)).add (hbg _)

include hx hg hwr hbr in
theorem isReal_experts (t : Fin 16384) (k : Fin 4) (e : Fin 8) : IsReal (experts x g wr br (ValueIdx.ix3 t k e)) := by
  rw [experts_apply]
  exact (IsReal.sum _ _ fun d => (isReal_normed x g hx hg t d).mul (hwr _)).add (hbr _)

end

end Cert.RouterRefIdeal.Own

end
-- ==== Proof.RouterValue.lean ====
/- The router's kernel against its reference: the normalised rows, each token's two experts with their places and weights, and how often each
   expert was chosen, the places carried from block to block. -/
module

public import proofs.«01_k».proof.Proof.RouterBody
public import proofs.«01_k».proof.Proof.RouterRefValue
public import Idealize.ShloMosaic.Lib.Pipeline.ReadBack

@[expose] public section

set_option maxRecDepth 16384

noncomputable section

namespace Cert.RouterIdeal.Own

open Cert.RouterIdeal Cert.RouterIdeal.Gen Cert.Routing
open Cert.RouterRefIdeal.Own (normed groups experts Gt Et choices totals)
open Cert.Attention (IsReal)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![0, 0] :=
  (by decide +kernel : ∀ t : Fin grid0.N, _)

theorem point_lt {n : ℕ} (h : n < cfg0.N) : n < 32 := lt_of_lt_of_eq h (show cfg0.N = 32 from N_0)

/-- The token of a point's row. -/
def token {n : ℕ} (h : n < cfg0.N) (p : Fin 512) : Fin 16384 := ⟨n * 512 + p.val, by have := point_lt h; omega⟩

/-- The reference's normalised rows. -/
abbrev hn (c : Dev nD) : FVec Ideal S16384x2048 .f32 := normed (m ((c : Thread nD τ).loc main_arg0)) (m ((c : Thread nD τ).loc main_arg1))

theorem gain_apply (c : Dev nD) (t : Fin cfg0.N) (d : Fin 2048) :
    iblk m c 1 t (ValueIdx.ix2 0 d) = (m ((c : Thread nD τ).loc main_arg1) : FVec Ideal S2048 .f32) (ValueIdx.ix1 d) := by
  have b (Z : FVec Ideal S1x2048 .f32) : (((cfg0.win 1).blk t).view.read (Elt Ideal) Z : FVec Ideal S1x2048 .f32) (ValueIdx.ix2 0 d) = Z (ValueIdx.ix2 0 d) := by
    show Z (((cfg0.win 1).blk t).view.emb (ValueIdx.ix2 0 d)) = _
    blk_point [idx t]
  have e : (V m c main_v12 : FVec Ideal S1x2048 .f32) = broadcastInDim S1x2048 ![1] bcast_S2048_S1x2048_1 (m ((c : Thread nD τ).loc main_arg1)) := by
    unfold V
    after_results <;> rfl
  refine (b (V m c main_v12)).trans ?_
  rw [e]
  pointwise
  rfl

/-- The kernel's row of the input. -/
theorem row_apply (c : Dev nD) (t : Fin cfg0.N) (p : Fin 512) (d : Fin 2048) :
    iblk m c 0 t (ValueIdx.ix2 p d) = (m ((c : Thread nD τ).loc main_arg0) : FVec Ideal S16384x2048 .f32) (ValueIdx.ix2 (token t.isLt p) d) := by
  blk_point [iblk, V, idx t]
  rfl

/-- The kernel's normalised rows are the reference's. -/
theorem pay3_apply (c : Dev nD) (t : Fin cfg0.N) (p : Fin 512) (d : Fin 2048) :
    k0_pay3 (iblk m c 0 t) (iblk m c 1 t) (ValueIdx.ix2 p d) = hn m c (ValueIdx.ix2 (token t.isLt p) d) := by
  have e := gain_apply m c t d
  have r := row_apply m c t p
  unfold hn
  rw [Cert.RouterRefIdeal.Own.normed_apply]
  generalize iblk m c 1 t = g at e
  generalize iblk m c 0 t = x at r
  pointwise [k0_pay3]
  exact congrArg₂ (fun a b : EReal => a * b) (congrArg₂ (fun a b : EReal => a * b) (r d)
    (congrArg (fun s : EReal => Ideal.rsqrt (Ideal.div s (Ideal.ofBits .f32 0x45000000#32) + Ideal.ofBits .f32 0x358637BD#32))
      (Finset.sum_congr rfl fun k _ => congrArg₂ (fun a b : EReal => a * b) (r k) (r k)))) e

/-- The groups' and the experts' weights side by side, filled up with zeros. -/
abbrev weights (wg : FVec Ideal S2048x4 .f32) (wr : FVec Ideal S4x2048x8 .f32) : FVec Ideal S2048x128 .f32 :=
  concatenate S2048x128 1 [⟨S2048x4, wg⟩, ⟨S2048x32, shapeCast S2048x32 (transpose S2048x4x8 [1, 0, 2] wr transposes_S4x2048x8_S2048x4x8_1_0_2) shapeCasts_S2048x4x8_S2048x32⟩,
    ⟨S2048x92, broadcastInDim S2048x92 ![] bcast_S_S2048x92 (constant (F := Ideal) S_ .f32 0x00000000#32)⟩] concatenates_S2048x4_S2048x32_S2048x92_S2048x128_d1

abbrev biases (bg : FVec Ideal S4 .f32) (br : FVec Ideal S4x8 .f32) : FVec Ideal S128 .f32 :=
  concatenate S128 0 [⟨S4, bg⟩, ⟨S32, shapeCast S32 br shapeCasts_S4x8_S32⟩,
    ⟨S92, broadcastInDim S92 ![] bcast_S_S92 (constant (F := Ideal) S_ .f32 0x00000000#32)⟩] concatenates_S4_S32_S92_S128_d0

theorem weights_group (wg : FVec Ideal S2048x4 .f32) (wr : FVec Ideal S4x2048x8 .f32) (k : Fin 2048) (g : Fin 4) :
    weights wg wr (ValueIdx.ix2 k ⟨g.val, by omega⟩) = wg (ValueIdx.ix2 k g) := by
  pointwise [weights]
  rfl

theorem weights_expert (wg : FVec Ideal S2048x4 .f32) (wr : FVec Ideal S4x2048x8 .f32) (k : Fin 2048) (g : Fin 4) (e : Fin 8) :
    weights wg wr (ValueIdx.ix2 k ⟨4 + 8 * g.val + e.val, by omega⟩) = wr (ValueIdx.ix3 g k e) := by
  pointwise [weights]
  have h1 : (4 + 8 * g.val + e.val - 4) / 8 = g.val := by omega
  have h2 : (4 + 8 * g.val + e.val - 4) % 8 = e.val := by omega
  rw [dif_neg (by omega), dif_pos (by omega)]
  simp only [h1, h2]
  rfl

theorem biases_group (bg : FVec Ideal S4 .f32) (br : FVec Ideal S4x8 .f32) (g : Fin 4) :
    biases bg br (ValueIdx.ix1 ⟨g.val, by omega⟩) = bg (ValueIdx.ix1 g) := by
  pointwise [biases]
  rfl

theorem biases_expert (bg : FVec Ideal S4 .f32) (br : FVec Ideal S4x8 .f32) (g : Fin 4) (e : Fin 8) :
    biases bg br (ValueIdx.ix1 ⟨4 + 8 * g.val + e.val, by omega⟩) = br (ValueIdx.ix2 g e) := by
  pointwise [biases]
  have h1 : (4 + 8 * g.val + e.val - 4) / 8 = g.val := by omega
  have h2 : (4 + 8 * g.val + e.val - 4) % 8 = e.val := by omega
  rw [dif_neg (by omega), dif_pos (by omega)]
  simp only [h1, h2]
  rfl

abbrev W (c : Dev nD) : FVec Ideal S2048x128 .f32 := weights (m ((c : Thread nD τ).loc main_arg2)) (m ((c : Thread nD τ).loc main_arg4))
abbrev B (c : Dev nD) : FVec Ideal S128 .f32 := biases (m ((c : Thread nD τ).loc main_arg3)) (m ((c : Thread nD τ).loc main_arg5))

theorem high_apply (c : Dev nD) (t : Fin cfg0.N) (k : Fin 2048) (l : Fin 128) :
    (iblk m c 2 t (ValueIdx.ix2 k l) : EReal) = W m c (ValueIdx.ix2 k l) := by
  have b (Z : FVec Ideal S2048x128 .bf16) : (((cfg0.win 2).blk t).view.read (Elt Ideal) Z : FVec Ideal S2048x128 .bf16) (ValueIdx.ix2 k l) = Z (ValueIdx.ix2 k l) := by
    show Z (((cfg0.win 2).blk t).view.emb (ValueIdx.ix2 k l)) = _
    blk_point [idx t]
  have e : (V m c main_v8 : FVec Ideal S2048x128 .bf16) = truncf .bf16 (W m c) bitsLt_bf16_f32 := by
    unfold V
    after_results <;> rfl
  refine (b (V m c main_v8)).trans ?_
  rw [e]
  rfl

theorem low_apply (c : Dev nD) (t : Fin cfg0.N) (k : Fin 2048) (l : Fin 128) :
    (iblk m c 3 t (ValueIdx.ix2 k l) : EReal) = W m c (ValueIdx.ix2 k l) - W m c (ValueIdx.ix2 k l) := by
  have b (Z : FVec Ideal S2048x128 .bf16) : (((cfg0.win 3).blk t).view.read (Elt Ideal) Z : FVec Ideal S2048x128 .bf16) (ValueIdx.ix2 k l) = Z (ValueIdx.ix2 k l) := by
    show Z (((cfg0.win 3).blk t).view.emb (ValueIdx.ix2 k l)) = _
    blk_point [idx t]
  have e : (V m c main_v11 : FVec Ideal S2048x128 .bf16) = truncf .bf16 (subf (W m c) (extf .f32 (truncf .bf16 (W m c) bitsLt_bf16_f32) bitsLt_bf16_f32)) bitsLt_bf16_f32 := by
    unfold V
    after_results <;> rfl
  refine (b (V m c main_v11)).trans ?_
  rw [e]
  rfl

theorem bias_apply (c : Dev nD) (t : Fin cfg0.N) (l : Fin 128) :
    (iblk m c 4 t (ValueIdx.ix2 0 l) : EReal) = B m c (ValueIdx.ix1 l) := by
  have b (Z : FVec Ideal S1x128 .f32) : (((cfg0.win 4).blk t).view.read (Elt Ideal) Z : FVec Ideal S1x128 .f32) (ValueIdx.ix2 0 l) = Z (ValueIdx.ix2 0 l) := by
    show Z (((cfg0.win 4).blk t).view.emb (ValueIdx.ix2 0 l)) = _
    blk_point [idx t]
  have e : (V m c main_v7 : FVec Ideal S1x128 .f32) = broadcastInDim S1x128 ![1] bcast_S128_S1x128_1 (B m c) := by
    unfold V
    after_results <;> rfl
  refine (b (V m c main_v7)).trans ?_
  rw [e]
  generalize B m c = Z
  pointwise
  rfl

/-- A lane of the scores: with finite rows and weights what the splitting leaves over is zero. -/
theorem lanes_apply (x : FVec Ideal S512x2048 .f32) (g : FVec Ideal S1x2048 .f32) (w w' : FVec Ideal S2048x128 .bf16) (b : FVec Ideal S1x128 .f32) (p : Fin 512)
    (l : Fin 128) (X u : Fin 2048 → EReal) (v : EReal) (hX : ∀ k, k0_pay3 (F := Ideal) x g (ValueIdx.ix2 p k) = X k) (hu : ∀ k, w (ValueIdx.ix2 k l) = u k)
    (hw : ∀ k, w' (ValueIdx.ix2 k l) = u k - u k) (hb : b (ValueIdx.ix2 0 l) = v) (rX : ∀ k, IsReal (X k)) (ru : ∀ k, IsReal (u k)) :
    lanes (k0_pay4 (F := Ideal) x g w w w') b p l = (∑ k : Fin 2048, X k * u k) + v := by
  unfold lanes
  pointwise [k0_pay5, k0_pay4]
  have z (y : EReal) : IsReal y → y - y = 0 := by
    rintro ⟨r, rfl⟩
    rw [← EReal.coe_sub, sub_self, EReal.coe_zero]
  have e1 : (∑ k : Fin 2048, k0_pay3 (F := Ideal) x g (ValueIdx.ix2 p k) * w (ValueIdx.ix2 k l) : EReal) = ∑ k : Fin 2048, X k * u k :=
    Finset.sum_congr rfl fun k _ => congrArg₂ (fun a b : EReal => a * b) (hX k) (hu k)
  have e2 : (∑ k : Fin 2048, (k0_pay3 (F := Ideal) x g (ValueIdx.ix2 p k) - k0_pay3 (F := Ideal) x g (ValueIdx.ix2 p k)) * w (ValueIdx.ix2 k l) : EReal) = 0 :=
    Finset.sum_eq_zero fun k _ => by rw [hX k, z _ (rX k), zero_mul]
  have e3 : (∑ k : Fin 2048, k0_pay3 (F := Ideal) x g (ValueIdx.ix2 p k) * w' (ValueIdx.ix2 k l) : EReal) = 0 :=
    Finset.sum_eq_zero fun k _ => by rw [hw k, z _ (ru k), mul_zero]
  refine (congrArg₂ (fun a b : EReal => a + b) (congrArg₂ (fun a b : EReal => a + b) (congrArg₂ (fun a b : EReal => a + b) e1 e2) e3) hb).trans ?_
  simp only [add_zero]

/-- All the arrays' entries are finite. -/
structure Finite (c : Dev nD) : Prop where
  x : ∀ j, IsReal ((m ((c : Thread nD τ).loc main_arg0) : FVec Ideal S16384x2048 .f32) j)
  g : ∀ j, IsReal ((m ((c : Thread nD τ).loc main_arg1) : FVec Ideal S2048 .f32) j)
  wg : ∀ j, IsReal ((m ((c : Thread nD τ).loc main_arg2) : FVec Ideal S2048x4 .f32) j)
  bg : ∀ j, IsReal ((m ((c : Thread nD τ).loc main_arg3) : FVec Ideal S4 .f32) j)
  wr : ∀ j, IsReal ((m ((c : Thread nD τ).loc main_arg4) : FVec Ideal S4x2048x8 .f32) j)
  br : ∀ j, IsReal ((m ((c : Thread nD τ).loc main_arg5) : FVec Ideal S4x8 .f32) j)

/-- The reference's scores of the groups and of the experts. -/
abbrev Gs (c : Dev nD) : FVec Ideal Cert.RouterRefIdeal.S16384x4 .f32 :=
  groups (m ((c : Thread nD τ).loc main_arg0)) (m ((c : Thread nD τ).loc main_arg1)) (m ((c : Thread nD τ).loc main_arg2)) (m ((c : Thread nD τ).loc main_arg3))
abbrev Es (c : Dev nD) : FVec Ideal Cert.RouterRefIdeal.S16384x4x8 .f32 :=
  experts (m ((c : Thread nD τ).loc main_arg0)) (m ((c : Thread nD τ).loc main_arg1)) (m ((c : Thread nD τ).loc main_arg4)) (m ((c : Thread nD τ).loc main_arg5))

/-- The products of a block's rows with the weights. -/
abbrev A (c : Dev nD) (t : Fin cfg0.N) : FVec Ideal S512x128 .f32 := k0_pay4 (iblk m c 0 t) (iblk m c 1 t) (iblk m c 2 t) (iblk m c 2 t) (iblk m c 3 t)

theorem real_group (c : Dev nD) (h : Finite m c) (x : Fin 16384) (g : Fin 4) : IsReal (Gt (Gs m c) x g) :=
  Cert.RouterRefIdeal.Own.isReal_groups _ _ _ _ h.x h.g h.wg h.bg x g

theorem real_expert (c : Dev nD) (h : Finite m c) (x : Fin 16384) (g : Fin 4) (e : Fin 8) : IsReal (Et (Es m c) x g e) :=
  Cert.RouterRefIdeal.Own.isReal_experts _ _ _ _ h.x h.g h.wr h.br x g e

/-- A row of a block holds its token's scores. -/
theorem row (c : Dev nD) (h : Finite m c) (t : Fin cfg0.N) (p : Fin 512) :
    Row (lanes (A m c t) (iblk m c 4 t) p) (Gt (Gs m c) (token t.isLt p)) (Et (Es m c) (token t.isLt p)) where
  group g := by
    have rw := Cert.RouterRefIdeal.Own.isReal_normed _ _ h.x h.g (token t.isLt p)
    refine (lanes_apply _ _ _ _ _ p _ _ (fun k => (m ((c : Thread nD τ).loc main_arg2) : FVec Ideal S2048x4 .f32) (ValueIdx.ix2 k g)) _ (pay3_apply m c t p)
      (fun k => (high_apply m c t k _).trans (weights_group _ _ k g)) (fun k => (low_apply m c t k _).trans (congrArg₂ (fun a b : EReal => a - b) (weights_group _ _ k g) (weights_group _ _ k g)))
      ((bias_apply m c t _).trans (biases_group _ _ g)) rw (fun k => h.wg _)).trans ?_
    exact (Cert.RouterRefIdeal.Own.groups_apply _ _ _ _ _ g).symm
  expert g e := by
    have rw := Cert.RouterRefIdeal.Own.isReal_normed _ _ h.x h.g (token t.isLt p)
    refine (lanes_apply _ _ _ _ _ p _ _ (fun k => (m ((c : Thread nD τ).loc main_arg4) : FVec Ideal S4x2048x8 .f32) (ValueIdx.ix3 g k e)) _ (pay3_apply m c t p)
      (fun k => (high_apply m c t k _).trans (weights_expert _ _ k g e)) (fun k => (low_apply m c t k _).trans (congrArg₂ (fun a b : EReal => a - b) (weights_expert _ _ k g e) (weights_expert _ _ k g e)))
      ((bias_apply m c t _).trans (biases_expert _ _ g e)) rw (fun k => h.wr _)).trans ?_
    exact (Cert.RouterRefIdeal.Own.experts_apply _ _ _ _ _ g e).symm
  realG := real_group m c h _
  realE := real_expert m c h _

/-! ## The places carried between blocks -/

theorem range_sum (M N : ℕ) (hN : N ≤ M) (F : ℕ → EReal) : (∑ x : Fin M, if x.val < N then F x.val else 0) = ∑ i ∈ Finset.range N, F i := by
  rw [Fin.sum_univ_eq_sum_range (fun i => if i < N then F i else 0) M, ← Finset.sum_filter]
  refine Finset.sum_congr ?_ fun _ _ => rfl
  ext i
  simp only [Finset.mem_filter, Finset.mem_range]
  omega

/-- A sum over the tokens before one is the sum over the blocks before and over the rows before within the block. -/
theorem block_sum (f : Fin 16384 → EReal) (n : ℕ) (hn : n < cfg0.N) (k : ℕ) (hk : k ≤ 512) :
    (∑ x : Fin 16384, if x.val < n * 512 + k then f x else 0)
      = (∑ x : Fin 16384, if x.val < n * 512 then f x else 0) + ∑ q : Fin 512, if q.val < k then f (token hn q) else 0 := by
  have hl := point_lt hn
  let F : ℕ → EReal := fun i => if h : i < 16384 then f ⟨i, h⟩ else 0
  have e1 (x : Fin 16384) : f x = F x.val := by simp only [F, x.isLt, dif_pos]
  have e2 (q : Fin 512) : f (token hn q) = (fun i => F (n * 512 + i)) q.val := e1 _
  simp only [e1]
  rw [range_sum _ _ (by omega) F, range_sum _ _ (by omega) F, Finset.sum_range_add]
  refine congrArg _ (Eq.symm ?_)
  exact range_sum 512 k hk fun i => F (n * 512 + i)

/-- How many of the tokens before block `n` go to an expert. -/
def carried (c : Dev nD) (n l : ℕ) : EReal := ∑ x : Fin 16384, if x.val < n * 512 then sent (Gt (Gs m c) x) (Et (Es m c) x) l else 0

variable (c : Dev nD) (h : Finite m c) (t : Fin cfg0.N) (s : FVec Ideal S1x128 .f32) (hs : ∀ l : Fin 128, s (ValueIdx.ix2 0 l) = carried m c t.val l.val)
include h hs

theorem next_apply (l : Fin 128) : k0_pay33 k0_pay6 (at1 (A m c t) (iblk m c 4 t)) (at2 (A m c t) (iblk m c 4 t)) s (ValueIdx.ix2 0 l) = carried m c (t.val + 1) l.val := by
  rw [pay33_apply, hs]
  unfold carried
  rw [show (t.val + 1) * 512 = t.val * 512 + 512 by omega, block_sum _ _ t.isLt _ le_rfl]
  refine congrArg _ (Finset.sum_congr rfl fun q _ => ?_)
  rw [if_pos q.isLt, pay29_apply (row m c h t q)]

theorem place_apply (p : Fin 512) (l : Fin 128) : k0_pay30 k0_pay6 (at1 (A m c t) (iblk m c 4 t)) (at2 (A m c t) (iblk m c 4 t)) s (ValueIdx.ix2 p l)
    = ∑ x : Fin 16384, if x.val < (token t.isLt p).val then sent (Gt (Gs m c) x) (Et (Es m c) x) l.val else 0 := by
  rw [pay30_apply, hs, add_comm]
  unfold carried token
  dsimp only
  rw [block_sum _ _ t.isLt _ p.isLt.le]
  refine congrArg _ (Finset.sum_congr rfl fun q _ => ?_)
  rw [pay29_apply (row m c h t q)]

theorem choice_apply (p : Fin 512) (l : Fin 128) :
    k0_pay1 (iota .tc S512x128 32 [1] iota_S512x128_d1_w32) (share1 (A m c t) (iblk m c 4 t)) (share2 (A m c t) (iblk m c 4 t))
        (k0_pay25 (at1 (A m c t) (iblk m c 4 t))) (k0_pay26 (at2 (A m c t) (iblk m c 4 t)))
        (k0_pay31 k0_pay6 (at1 (A m c t) (iblk m c 4 t)) (at2 (A m c t) (iblk m c 4 t)) s)
        (k0_pay32 k0_pay6 (at1 (A m c t) (iblk m c 4 t)) (at2 (A m c t) (iblk m c 4 t)) s) (ValueIdx.ix2 p l)
      = choices (Gs m c) (Es m c) (ValueIdx.ix2 (token t.isLt p) l) := by
  have r := row m c h t p
  rw [pay1_apply, pay25_apply r, pay26_apply r, pay31_apply r, pay32_apply r, share1_apply r, share2_apply r, place_apply m c h t s hs, place_apply m c h t s hs]
  exact (Cert.RouterRefIdeal.Own.choices_apply (real_group m c h _) (real_expert m c h _) l).symm

omit h hs

/-- At first nothing is counted. -/
theorem start_apply (l : Fin 128) : k0_pay2 (F := Ideal) (ValueIdx.ix2 0 l) = carried m c 0 l.val := by
  unfold carried
  rw [Finset.sum_eq_zero fun x _ => if_neg (by omega)]
  pointwise [k0_pay2]

include h

/-- The counts kept after point `n`. -/
theorem scratch : ∀ (n : ℕ) (hn : n < cfg0.N) (l : Fin 128), (outsAt0 m c n hn).2.2.2 (ValueIdx.ix2 0 l) = carried m c (n + 1) l.val := by
  intro n
  induction n with
  | zero =>
    intro hn l
    rw [outsAt0_A m c ⟨0, hn⟩ rfl]
    frame_out
    exact next_apply m c h ⟨0, hn⟩ _ (start_apply m c) l
  | succ n ih =>
    intro hn l
    have hlt := point_lt hn
    rw [outsAt0_B m c ⟨n + 1, hn⟩ (by dsimp only; omega)]
    frame_out
    refine next_apply m c h ⟨n + 1, hn⟩ _ (fun l => ?_) l
    exact (congrFun (Idealize.ShloMosaic.read_unread_whole cc0_scratch0 _ _) _).trans (ih (Nat.lt_of_succ_lt hn) l)

/-- What a point reads back of the counts of the point before. -/
theorem before_apply (hn : t.val - 1 < cfg0.N) (ht : ¬t.val % 32 = 0) (l : Fin 128) :
    (outsAt0 m c (t.val - 1) hn).2.2.2 (ValueIdx.ix2 0 l) = carried m c t.val l.val := by
  rw [scratch m c h, show t.val - 1 + 1 = t.val by omega]

omit h
theorem final5 : (dats m 0 c).arrAt 5 (cfgs 0).N = hn m c := by
  refine (dats m 0 c).arrAt_eq_of_covers 5 _ (by decide +kernel) fun t _ y => ?_
  blk_simp
  rw [after0_5]
  obtain ⟨p, d, rfl⟩ : ∃ p d, y = ValueIdx.ix2 p d := ⟨y 0, y 1, by funext a; fin_cases a <;> rfl⟩
  have e : ((cfg0.win 5).blk t).view.emb (ValueIdx.ix2 p d) = ValueIdx.ix2 (token t.isLt p) d := by
    blk_ext [idx t]
    rfl
  by_cases ht : t.val % 32 = 0
  · rw [outsAt0_A m c t ht]
    frame_out
    exact (pay3_apply m c t p d).trans (congrArg (hn m c) e.symm)
  · rw [outsAt0_B m c t ht]
    frame_out
    exact (pay3_apply m c t p d).trans (congrArg (hn m c) e.symm)

include h
theorem final6 : (dats m 0 c).arrAt 6 (cfgs 0).N = choices (Gs m c) (Es m c) := by
  refine (dats m 0 c).arrAt_eq_of_covers 6 _ (by decide +kernel) fun t _ y => ?_
  blk_simp
  rw [after0_6]
  obtain ⟨p, l, rfl⟩ : ∃ p l, y = ValueIdx.ix2 p l := ⟨y 0, y 1, by funext a; fin_cases a <;> rfl⟩
  have e : ((cfg0.win 6).blk t).view.emb (ValueIdx.ix2 p l) = ValueIdx.ix2 (token t.isLt p) l := by
    blk_ext [idx t]
    rfl
  by_cases ht : t.val % 32 = 0
  · have t0 : t.val = 0 := by have := point_lt t.isLt; omega
    rw [outsAt0_A m c t ht]
    frame_out
    exact (choice_apply m c h t _ (fun l => (start_apply m c l).trans (by rw [t0])) p l).trans (congrArg (choices (Gs m c) (Es m c)) e.symm)
  · rw [outsAt0_B m c t ht]
    frame_out
    exact (choice_apply m c h t _ (fun l => (congrFun (Idealize.ShloMosaic.read_unread_whole cc0_scratch0 _ _) _).trans (before_apply m c h t _ ht l)) p l).trans
      (congrArg (choices (Gs m c) (Es m c)) e.symm)

theorem totals_carried (l : Fin 128) : carried m c 32 l.val = totals (Gs m c) (Es m c) (ValueIdx.ix2 0 l) := by
  rw [Cert.RouterRefIdeal.Own.totals_apply]
  unfold carried
  split_ifs with hl
  · exact Finset.sum_congr rfl fun x _ => if_pos (by omega)
  · refine Finset.sum_eq_zero fun x _ => ?_
    have h1 := number1_lt (Gt (Gs m c) x) (Et (Es m c) x)
    have h2 := number2_lt (Gt (Gs m c) x) (Et (Es m c) x)
    unfold sent
    rw [if_neg (c := _ ∨ _) (by omega), ite_self]

theorem final7 : (dats m 0 c).arrAt 7 (cfgs 0).N = totals (Gs m c) (Es m c) := by
  refine (dats m 0 c).arrAt_eq_of_covers 7 _ (by decide +kernel) fun t hf y => ?_
  have t31 : t.val = 31 := (by decide +kernel : ∀ t : Fin grid0.N, win0_7.flush t = true → t.val = 31) t hf
  blk_simp
  rw [after0_7]
  obtain ⟨p, l, rfl⟩ : ∃ p l, y = ValueIdx.ix2 p l := ⟨y 0, y 1, by funext a; fin_cases a <;> rfl⟩
  obtain rfl : p = 0 := Subsingleton.elim (α := Fin 1) p 0
  have e : ((cfg0.win 7).blk t).view.emb (ValueIdx.ix2 0 l) = ValueIdx.ix2 0 l := by
    blk_ext [idx t]
  have ht : ¬t.val % 32 = 0 := by omega
  rw [outsAt0_B m c t ht]
  frame_out
  refine (next_apply m c h t _ (fun l => (congrFun (Idealize.ShloMosaic.read_unread_whole cc0_scratch0 _ _) _).trans (before_apply m c h t _ ht l)) l).trans ?_
  rw [t31]
  exact (totals_carried m c h l).trans (congrArg (totals (Gs m c) (Es m c)) e.symm)

end Cert.RouterIdeal.Own

end
-- ==== Proof.RouterClaims.lean ====
/- The claims about the router: the reference's frame and the equality of results. -/
module

public import proofs.«01_k».proof.Defs
public import proofs.«01_k».proof.Proof.Gen.Router
public import proofs.«01_k».proof.Proof.Gen.Router.Frame
public import proofs.«01_k».proof.Proof.Gen.RouterIdeal
public import proofs.«01_k».proof.Proof.Gen.RouterRefIdeal
public import proofs.«01_k».proof.Proof.RouterValue
public import proofs.«01_k».proof.Proof.CrossClaims
public import proofs.«01_k».proof.Proof.Gen.Pre_router_finite
public import Idealize.ShloMosaic.Adequacy
public import Idealize.ShloMosaic.Init
public import Idealize.ShloMosaic.Lib.Quiescent

@[expose] public section

noncomputable section

namespace Cert.Routers

open Idealize.ShloMosaic Idealize.SL.Sem
open Cert.Attention (IsReal)
open Cert.Crosses (isReal_of_less)

theorem frame_reference : Cert.quiescent_RouterRefIdeal := fun m ρ _ =>
  (θ_run _ _ _).mono (fun r h => ⟨fun c => (h c).2.2.2, sem_eq_zero_of_no_sems (by decide) r.2⟩) (Cert.RouterRefIdeal.Value.run (F := Ideal) m ρ)

/-- What the precondition says of the six arrays. -/
theorem finite (m : (ℓ : Loc Cert.RouterIdeal.nD Cert.RouterIdeal.τ Cert.RouterIdeal.sig) → Buf (Elt Ideal) ℓ) (hp : Cert.Pre_RouterIdeal_router_finite m) :
    Cert.RouterIdeal.Own.Finite m 0 := by
  obtain ⟨h0, h1, h2, h3, h4, h5⟩ := hp 0
  exact ⟨fun j => isReal_of_less _ (congrFun h0 j), fun j => isReal_of_less _ (congrFun h1 j), fun j => isReal_of_less _ (congrFun h2 j),
    fun j => isReal_of_less _ (congrFun h3 j), fun j => isReal_of_less _ (congrFun h4 j), fun j => isReal_of_less _ (congrFun h5 j)⟩

theorem equal : Cert.algebraic_RouterIdeal_RouterRefIdeal_pre_router_finite := fun m g m' g' hp hargs => by
  refine ⟨fun c => (Cert.RouterIdeal.Gen.dats m 0 c).arrAt 5 Cert.RouterIdeal.cfg0.N, fun c => (Cert.RouterIdeal.Gen.dats m 0 c).arrAt 6 Cert.RouterIdeal.cfg0.N,
    fun c => (Cert.RouterIdeal.Gen.dats m 0 c).arrAt 7 Cert.RouterIdeal.cfg0.N, ?_, ?_⟩
  · exact Cert.RouterIdeal.Value.run_blocks m g
  · have hf := finite m hp
    refine (θ_run _ _ _).mono (fun _ hr c => ⟨((hr c).1).trans ?_, ((hr c).2.1).trans ?_, ((hr c).2.2.1).trans ?_, (hr c).2.2.2⟩) (Cert.RouterRefIdeal.Value.run m' g')
    all_goals
      obtain rfl : c = 0 := Subsingleton.elim _ _
      obtain ⟨h0, h1, h2, h3, h4, h5⟩ := hargs 0
    · rw [Cert.RouterRefIdeal.Own.normed_eq, h0, h1]
      exact (Cert.RouterIdeal.Own.final5 m 0).symm
    · rw [Cert.RouterRefIdeal.Own.choices_eq, Cert.RouterRefIdeal.Own.groups_eq, Cert.RouterRefIdeal.Own.experts_eq,
        h0, h1, h2, h3, h4, h5]
      exact (Cert.RouterIdeal.Own.final6 m 0 hf).symm
    · rw [Cert.RouterRefIdeal.Own.totals_eq, Cert.RouterRefIdeal.Own.groups_eq, Cert.RouterRefIdeal.Own.experts_eq,
        h0, h1, h2, h3, h4, h5]
      exact (Cert.RouterIdeal.Own.final7 m 0 hf).symm

end Cert.Routers

end
-- ==== Proof.PositionsValue.lean ====
/- The rows' positions, one block of 512 tokens, against their reference. -/
module

public import proofs.«01_k».proof.Proof.Gen.PositionsIdeal.Value
public import proofs.«01_k».proof.Proof.Gen.PositionsRefIdeal.Run
public import proofs.«01_k».proof.Proof.RouterMath
public import Idealize.ShloMosaic.Lib.Pipeline.ValueKit
public import Idealize.ShloMosaic.Lib.Pipeline.ReadBack
public import Idealize.ShloMosaic.Lib.Pointwise
public import Idealize.ShloMosaic.Lib.ValueIdx

@[expose] public section

set_option maxRecDepth 16384

noncomputable section

namespace Cert.PositionsIdeal.Own

open Cert.PositionsIdeal Cert.PositionsIdeal.Gen Cert.Routing
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem point_lt {n : ℕ} (h : n < cfg0.N) : n < 32 := lt_of_lt_of_eq h (show cfg0.N = 32 from N_0)

/-- The reference's term. -/
def result (x : FVec Ideal Cert.PositionsRefIdeal.S16384x128 .f32) (o : FVec Ideal Cert.PositionsRefIdeal.S1x128 .f32) : FVec Ideal Cert.PositionsRefIdeal.S16384x128 .f32 :=
  open Cert.PositionsRefIdeal Cert.PositionsRefIdeal.Gen in
  concatenate S16384x128 1 [⟨S16384x2, (addf (Host.dotGeneral dot_S16384x2x128_S128_S16384x2_2_0_01_n_n_n none (uitofp .f32 (cmpf .oeq (broadcastInDim S16384x2x128 ![0, 1, 2] bcast_S16384x2x1_S16384x2x128_0_1_2 (broadcastInDim S16384x2x1 ![0, 1] bcast_S16384x2_S16384x2x1_0_1 (extractStridedSlice S16384x2 ![0, 0] x slices_S16384x128_S16384x2_0_0))) (broadcastInDim S16384x2x128 ![0, 1, 2] bcast_S1x1x128_S16384x2x128_0_1_2 (broadcastInDim S1x1x128 ![2] bcast_S128_S1x1x128_2 (sitofp .f32 (iotaInDim S128 32 0)))))) (shapeCast _ o shapeCasts_S1x128_S128)) (extractStridedSlice S16384x2 ![0, 2] x slices_S16384x128_S16384x2_0_2))⟩, ⟨S16384x126, (broadcastInDim S16384x126 ![] bcast_S_S16384x126 (constant (F := Ideal) S_ .f32 0x00000000#32))⟩] concatenates_S16384x2_S16384x126_S16384x128_d1

/-- Where an expert's rows start, read off by its number. -/
def start (o : Fin 128 → EReal) (n : EReal) : EReal := ∑ x : Fin 128, if FloatOps.sitofp (F := Ideal) .f32 (BitVec.ofNat 32 x.val) = n then o x else 0

/-- The first two lanes hold the two positions, the others zero. -/
def two (p1 p2 : EReal) (l : ℕ) : EReal := if l = 0 then p1 else if l = 1 then p2 else 0

theorem lane_eq : ∀ l : Fin 128, IntOp.cmpi .eq (BitVec.ofNat 32 l.val) 0#32 = BitVec.ofBool (decide (l.val = 0))
    ∧ IntOp.cmpi .eq (BitVec.ofNat 32 l.val) 1#32 = BitVec.ofBool (decide (l.val = 1)) := by decide +kernel

theorem result_apply (x : FVec Ideal Cert.PositionsRefIdeal.S16384x128 .f32) (o : FVec Ideal Cert.PositionsRefIdeal.S1x128 .f32) (t : Fin 16384) (l : Fin 128) :
    result x o (ValueIdx.ix2 t l) = two (start (fun k => o (ValueIdx.ix2 0 k)) (x (ValueIdx.ix2 t 0)) + x (ValueIdx.ix2 t 2))
      (start (fun k => o (ValueIdx.ix2 0 k)) (x (ValueIdx.ix2 t 1)) + x (ValueIdx.ix2 t 3)) l.val := by
  have e (n : EReal) : (∑ k : Fin 128, FloatOps.uitofp (F := Ideal) .f32 (BitVec.ofBool (decide (n = FloatOps.sitofp (F := Ideal) .f32 (BitVec.ofNat 32 k.val)))) * o (ValueIdx.ix2 0 k) : EReal)
      = start (fun k => o (ValueIdx.ix2 0 k)) n := by
    refine Finset.sum_congr rfl fun k _ => ?_
    rw [bit_float]
    by_cases hn : n = FloatOps.sitofp (F := Ideal) .f32 (BitVec.ofNat 32 k.val)
    · rw [if_pos hn, if_pos hn.symm, one_mul]
    · rw [if_neg hn, if_neg (Ne.symm hn), zero_mul]
  obtain ⟨l, hl⟩ := l
  pointwise [result]
  have e1 : (ValueIdx.ix2 t (⟨l, hl⟩ : Fin 128) 1).val = l := rfl
  unfold two
  dsimp only at e1 ⊢
  by_cases h0 : l = 0
  · rw [dif_pos (by omega), if_pos h0]
    obtain rfl : l = 0 := h0
    exact congrArg (fun s : EReal => s + x (ValueIdx.ix2 t 2)) (e (x (ValueIdx.ix2 t 0)))
  rw [if_neg h0]
  by_cases h1 : l = 1
  · rw [dif_pos (by omega), if_pos h1]
    obtain rfl : l = 1 := h1
    exact congrArg (fun s : EReal => s + x (ValueIdx.ix2 t 3)) (e (x (ValueIdx.ix2 t 1)))
  rw [dif_neg (by omega), if_neg h1]

theorem body_apply (x : FVec Ideal S512x128 .f32) (o : FVec Ideal S1x128 .f32) (p : Fin 512) (l : Fin 128) :
    (k0_pay1 (F := Ideal) x o (ValueIdx.ix2 p l) : EReal) = two (start (fun k => o (ValueIdx.ix2 0 k)) (x (ValueIdx.ix2 p 0)) + x (ValueIdx.ix2 p 2))
      (start (fun k => o (ValueIdx.ix2 0 k)) (x (ValueIdx.ix2 p 1)) + x (ValueIdx.ix2 p 3)) l.val := by
  pointwise [k0_pay1]
  show Scalar.select (IntOp.cmpi .eq (BitVec.ofNat 32 l.val) 0#32) _ (Scalar.select (IntOp.cmpi .eq (BitVec.ofNat 32 l.val) 1#32) _ _) = _
  rw [(lane_eq l).1, (lane_eq l).2, select_ofBool, select_ofBool]
  rfl

theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  obtain ⟨p, l, rfl⟩ : ∃ p l, y = ValueIdx.ix2 p l := ⟨y 0, y 1, by funext a; fin_cases a <;> rfl⟩
  have tok : t.val * 512 + p.val < 16384 := by have := point_lt t.isLt; omega
  have e : ((cfg0.win 2).blk t).view.emb (ValueIdx.ix2 p l) = ValueIdx.ix2 ⟨t.val * 512 + p.val, tok⟩ l := by
    blk_ext [idx t]
  have r (l : Fin 128) : iblk m c 0 t (ValueIdx.ix2 p l) = (m ((c : Thread nD τ).loc main_arg0) : FVec Ideal S16384x128 .f32) (ValueIdx.ix2 ⟨t.val * 512 + p.val, tok⟩ l) := by
    blk_point [iblk, V, idx t]
  have o (l : Fin 128) : iblk m c 1 t (ValueIdx.ix2 0 l) = (m ((c : Thread nD τ).loc main_arg1) : FVec Ideal S1x128 .f32) (ValueIdx.ix2 0 l) := by
    blk_point [iblk, V, idx t]
  frame_out
  refine (body_apply _ _ p l).trans (Eq.trans ?_ ((result_apply _ _ ⟨t.val * 512 + p.val, tok⟩ l).symm.trans (congrArg (result _ _) e.symm)))
  rw [funext o]
  simp only [r]

end Cert.PositionsIdeal.Own

end
-- ==== Proof.PositionsClaims.lean ====
/- The claims about the rows' positions: the reference's frame and the equality of results. -/
module

public import proofs.«01_k».proof.Defs
public import proofs.«01_k».proof.Proof.Gen.PositionsIdeal
public import proofs.«01_k».proof.Proof.Gen.PositionsRefIdeal
public import proofs.«01_k».proof.Proof.PositionsValue
public import Idealize.ShloMosaic.Adequacy
public import Idealize.ShloMosaic.Init
public import Idealize.ShloMosaic.Lib.Quiescent

@[expose] public section

noncomputable section

namespace Cert.PositionsClaims

open Idealize.ShloMosaic Idealize.SL.Sem

theorem frame_reference : Cert.quiescent_PositionsRefIdeal := fun m ρ _ =>
  (θ_run _ _ _).mono (fun r h => ⟨fun c => (h c).2, sem_eq_zero_of_no_sems (by decide) r.2⟩) (Cert.PositionsRefIdeal.Value.run (F := Ideal) m ρ)

theorem equal : Cert.algebraic_PositionsIdeal_PositionsRefIdeal := fun m g m' g' _ hargs => by
  refine ⟨fun c => (Cert.PositionsIdeal.Gen.dats m 0 c).arrAt 2 Cert.PositionsIdeal.cfg0.N, ?_, ?_⟩
  · exact Cert.PositionsIdeal.Value.run_blocks m g
  · refine (θ_run _ _ _).mono (fun _ hr c => ⟨((hr c).1).trans ?_, (hr c).2⟩) (Cert.PositionsRefIdeal.Value.run m' g')
    obtain rfl : c = 0 := Subsingleton.elim _ _
    obtain ⟨h0, h1⟩ := hargs 0
    rw [h0, h1]
    exact (Cert.PositionsIdeal.Own.final m 0).symm

end Cert.PositionsClaims

end
-- ==== Proof.DilatedMath.lean ====
/- Facts about an attention whose row of scores is split into parts: each part is weighed against its own greatest score, and the
   parts are put together afterwards. -/
module

public import proofs.«01_k».proof.Proof.CrossMath

@[expose] public section

noncomputable section

namespace Cert.Attention

open Idealize.ShloMosaic

/-- A score is real where its key is seen, and the least value elsewhere. -/
def IsScore (x : EReal) : Prop := x = ⊥ ∨ IsReal x

theorem isReal_of_some {n : ℕ} (s : Fin n → EReal) (h : ∀ j, IsScore (s j)) (i : Fin n) (hi : IsReal (s i)) :
    IsReal (Finset.univ.fold max (⊥ : EReal) s) := by
  haveI : Nonempty (Fin n) := ⟨i⟩
  obtain ⟨k, _, e⟩ := Finset.exists_mem_eq_sup (Finset.univ : Finset (Fin n)) Finset.univ_nonempty s
  have e : Finset.univ.fold max (⊥ : EReal) s = s k := e
  rcases h k with hk | hk
  · have hle : s i ≤ Finset.univ.sup s := Finset.le_sup (Finset.mem_univ i)
    have hle : s i ≤ Finset.univ.fold max (⊥ : EReal) s := hle
    rw [e, hk, le_bot_iff] at hle
    obtain ⟨r, hr⟩ := hi
    rw [hr] at hle
    exact absurd hle (EReal.coe_ne_bot r)
  · rw [e]; exact hk

/-- The power of two of a score less a real. -/
theorem exp2_sub {x : EReal} (h : IsScore x) (M : ℝ) :
    Ideal.exp2 (x - (M : EReal)) = Ideal.exp2 x * ((Real.rpow 2 (-M) : ℝ) : EReal) := by
  rcases h with rfl | ⟨r, rfl⟩
  · rw [EReal.bot_sub, Ideal.exp2_bot, zero_mul]
  · rw [← EReal.coe_sub, Ideal.exp2_coe, Ideal.exp2_coe, ← EReal.coe_mul, sub_eq_add_neg]
    exact congrArg _ (Real.rpow_add two_pos r (-M))

theorem exp2_real {x : EReal} (h : IsScore x) : ∃ r : ℝ, 0 ≤ r ∧ Ideal.exp2 x = (r : EReal) := by
  rcases h with rfl | ⟨r, rfl⟩
  · exact ⟨0, le_rfl, Ideal.exp2_bot⟩
  · exact ⟨_, (Real.rpow_pos_of_pos two_pos r).le, Ideal.exp2_coe r⟩

theorem coe_sum {n : ℕ} (f : Fin n → ℝ) : (∑ j, ((f j : ℝ) : EReal)) = ((∑ j, f j : ℝ) : EReal) := by
  induction (Finset.univ : Finset (Fin n)) using Finset.induction_on with
  | empty => simp
  | insert i s hi ih => rw [Finset.sum_insert hi, Finset.sum_insert hi, EReal.coe_add, ih]

/-- One part's weighted sum, brought to the common greatest score. -/
theorem part_scaled {n : ℕ} (s v : Fin n → EReal) (h : ∀ j, IsScore (s j)) (M m : ℝ) :
    Ideal.exp2 ((M : EReal) - (m : EReal)) * (∑ j, Ideal.exp2 (s j - (M : EReal)) * v j)
      = (∑ j, Ideal.exp2 (s j) * v j) * ((Real.rpow 2 (-m) : ℝ) : EReal) := by
  have h1 : (∑ j, Ideal.exp2 (s j - (M : EReal)) * v j) = (∑ j, Ideal.exp2 (s j) * v j) * ((Real.rpow 2 (-M) : ℝ) : EReal) := by
    refine Eq.trans (Finset.sum_congr rfl fun j _ => by rw [exp2_sub (h j)]) (sum_scaled _ _ (Real.rpow_pos_of_pos two_pos (-M)).le)
  rw [h1, ← EReal.coe_sub, Ideal.exp2_coe, mul_comm, mul_assoc, ← EReal.coe_mul]
  refine congrArg (fun r : ℝ => (∑ j, Ideal.exp2 (s j) * v j) * (r : EReal)) ?_
  refine (Real.rpow_add two_pos (-M) (M - m)).symm.trans (congrArg _ ?_)
  ring

theorem part_scaled_one {n : ℕ} (s : Fin n → EReal) (h : ∀ j, IsScore (s j)) (M m : ℝ) :
    Ideal.exp2 ((M : EReal) - (m : EReal)) * (∑ j, Ideal.exp2 (s j - (M : EReal)))
      = (∑ j, Ideal.exp2 (s j)) * ((Real.rpow 2 (-m) : ℝ) : EReal) := by
  have := part_scaled s (fun _ => 1) h M m
  simpa only [mul_one] using this

theorem real_mul_cancel (N : EReal) {D c : ℝ} (hD : 0 < D) (hc : 0 < c) :
    Ideal.div (N * (c : EReal)) ((D : EReal) * (c : EReal)) = Ideal.div N (D : EReal) := by
  rw [← EReal.coe_mul, Ideal.div_coe (mul_pos hD hc).ne', Ideal.div_coe hD.ne', mul_assoc, ← EReal.coe_mul]
  refine congrArg (fun r : ℝ => N * (r : EReal)) ?_
  field_simp

/-- Three parts put together are the one attention over all of them. -/
theorem merged {n : ℕ} (s0 s1 s2 v0 v1 v2 : Fin n → EReal) (h0 : ∀ j, IsScore (s0 j)) (h1 : ∀ j, IsScore (s1 j)) (h2 : ∀ j, IsScore (s2 j))
    (i0 i1 i2 : Fin n) (r0 : IsReal (s0 i0)) (r1 : IsReal (s1 i1)) (r2 : IsReal (s2 i2)) {M0 M1 M2 : EReal}
    (e0 : M0 = Finset.univ.fold max (⊥ : EReal) s0) (e1 : M1 = Finset.univ.fold max (⊥ : EReal) s1) (e2 : M2 = Finset.univ.fold max (⊥ : EReal) s2) :
    Ideal.div
        (Ideal.exp2 (M0 - max (max M0 M1) M2) * (∑ j, Ideal.exp2 (s0 j - M0) * v0 j)
          + Ideal.exp2 (M1 - max (max M0 M1) M2) * (∑ j, Ideal.exp2 (s1 j - M1) * v1 j)
          + Ideal.exp2 (M2 - max (max M0 M1) M2) * (∑ j, Ideal.exp2 (s2 j - M2) * v2 j))
        (Ideal.exp2 (M0 - max (max M0 M1) M2) * (∑ j, Ideal.exp2 (s0 j - M0))
          + Ideal.exp2 (M1 - max (max M0 M1) M2) * (∑ j, Ideal.exp2 (s1 j - M1))
          + Ideal.exp2 (M2 - max (max M0 M1) M2) * (∑ j, Ideal.exp2 (s2 j - M2)))
      = Ideal.div ((∑ j, Ideal.exp2 (s0 j) * v0 j) + (∑ j, Ideal.exp2 (s1 j) * v1 j) + (∑ j, Ideal.exp2 (s2 j) * v2 j))
          ((∑ j, Ideal.exp2 (s0 j)) + (∑ j, Ideal.exp2 (s1 j)) + (∑ j, Ideal.exp2 (s2 j))) := by
  obtain ⟨M0', hM0⟩ := e0 ▸ isReal_of_some s0 h0 i0 r0
  obtain ⟨M1', hM1⟩ := e1 ▸ isReal_of_some s1 h1 i1 r1
  obtain ⟨M2', hM2⟩ := e2 ▸ isReal_of_some s2 h2 i2 r2
  clear e0 e1 e2
  subst hM0 hM1 hM2
  have hm : max (max (M0' : EReal) M1') M2' = ((max (max M0' M1') M2' : ℝ) : EReal) := by
    rw [EReal.coe_strictMono.monotone.map_max, EReal.coe_strictMono.monotone.map_max]
  rw [hm]
  generalize max (max M0' M1') M2' = m
  simp only [part_scaled _ _ h0, part_scaled _ _ h1, part_scaled _ _ h2, part_scaled_one _ h0, part_scaled_one _ h1, part_scaled_one _ h2]
  have hc : 0 < Real.rpow 2 (-m) := Real.rpow_pos_of_pos two_pos _
  generalize Real.rpow 2 (-m) = c at hc ⊢
  choose f0 g0 q0 using fun j => exp2_real (h0 j)
  choose f1 g1 q1 using fun j => exp2_real (h1 j)
  choose f2 g2 q2 using fun j => exp2_real (h2 j)
  have hD : 0 < ∑ j, f0 j := by
    refine Finset.sum_pos' (fun j _ => g0 j) ⟨i0, Finset.mem_univ _, ?_⟩
    obtain ⟨r, hr⟩ := r0
    have := q0 i0
    rw [hr, Ideal.exp2_coe] at this
    rw [← EReal.coe_injective this]
    exact Real.rpow_pos_of_pos two_pos r
  have hD' : 0 < (∑ j, f0 j) + (∑ j, f1 j) + (∑ j, f2 j) :=
    add_pos_of_pos_of_nonneg (add_pos_of_pos_of_nonneg hD (Finset.sum_nonneg fun j _ => g1 j)) (Finset.sum_nonneg fun j _ => g2 j)
  have dist (a b d : EReal) : a * (c : EReal) + b * (c : EReal) + d * (c : EReal) = (a + b + d) * (c : EReal) := by
    rw [EReal.right_distrib_of_nonneg_of_ne_top (EReal.coe_nonneg.mpr hc.le) (EReal.coe_ne_top c),
      EReal.right_distrib_of_nonneg_of_ne_top (EReal.coe_nonneg.mpr hc.le) (EReal.coe_ne_top c)]
  rw [dist, dist]
  simp only [q0, q1, q2, coe_sum]
  rw [← EReal.coe_add, ← EReal.coe_add]
  exact real_mul_cancel _ hD' hc

/-- The keys a row sees at one stride: of the row's class, not after it, and at most 128 strides before it. -/
abbrev Seen (D : ℕ) (t j : ℕ) : Prop := (t % D = j % D ∧ j ≤ t) ∧ t ≤ j + 128 * D

/-- The places of a block that stand for a key its row sees. -/
abbrev Held (D t i k : ℕ) : Prop := k ≤ i + 128 ∧ i ≤ k ∧ (i + 128 - k) * D ≤ t

/-- Summing over the places of a block is summing over the keys the row sees. -/
theorem sum_held {D : ℕ} (hD : 0 < D) (t : Fin 8192) (i : ℕ) (hi : i < 128) (f : Fin 8192 → EReal) (J : Fin 256 → Fin 8192)
    (hJ : ∀ k : Fin 256, Held D t i k → (J k).val + (i + 128 - k.val) * D = t.val) :
    (∑ k : Fin 256, if Held D t i k then f (J k) else 0) = ∑ j : Fin 8192, if Seen D t j then f j else 0 := by
  rw [← Finset.sum_filter, ← Finset.sum_filter]
  refine Finset.sum_nbij' J (fun j => ⟨(i + 128 - (t.val - j.val) / D) % 256, Nat.mod_lt _ (by decide)⟩) ?_ ?_ ?_ ?_ ?_
  · intro k hk
    simp only [Finset.mem_filter, Finset.mem_univ, true_and] at hk ⊢
    have e := hJ k hk
    refine ⟨⟨?_, ?_⟩, ?_⟩
    · rw [← e, Nat.add_mul_mod_self_right]
    · omega
    · have : (i + 128 - k.val) * D ≤ 128 * D := Nat.mul_le_mul_right _ (by have := hk.2.1; omega)
      omega
  · intro j hj
    simp only [Finset.mem_filter, Finset.mem_univ, true_and] at hj ⊢
    obtain ⟨⟨h1, h2⟩, h3⟩ := hj
    have hdvd : D ∣ t.val - j.val := (Nat.modEq_iff_dvd' h2).mp h1.symm
    obtain ⟨q, hq⟩ := hdvd
    have hq' : (t.val - j.val) / D = q := by rw [hq, Nat.mul_div_cancel_left _ hD]
    have hq2 : q ≤ 128 := by
      by_contra hn
      have : D * 129 ≤ D * q := Nat.mul_le_mul_left _ (by omega)
      have e1 : 128 * D = D * 128 := Nat.mul_comm _ _
      have e2 : D * 129 = D * 128 + D := by ring
      omega
    have hm : (i + 128 - q) % 256 = i + 128 - q := Nat.mod_eq_of_lt (by omega)
    rw [hq']
    show Held D t i ((i + 128 - q) % 256)
    rw [hm]
    refine ⟨by omega, by omega, ?_⟩
    have e3 : i + 128 - (i + 128 - q) = q := by omega
    rw [e3, Nat.mul_comm, ← hq]
    omega
  · intro k hk
    simp only [Finset.mem_filter, Finset.mem_univ, true_and] at hk
    have e := hJ k hk
    refine Fin.ext ?_
    show (i + 128 - (t.val - (J k).val) / D) % 256 = k.val
    have e1 : t.val - (J k).val = (i + 128 - k.val) * D := by omega
    rw [e1, Nat.mul_div_cancel _ hD]
    have := hk.1
    have := k.isLt
    rw [show i + 128 - (i + 128 - k.val) = k.val by omega, Nat.mod_eq_of_lt k.isLt]
  · intro j hj
    simp only [Finset.mem_filter, Finset.mem_univ, true_and] at hj
    obtain ⟨⟨h1, h2⟩, h3⟩ := hj
    have hdvd : D ∣ t.val - j.val := (Nat.modEq_iff_dvd' h2).mp h1.symm
    obtain ⟨q, hq⟩ := hdvd
    have hq' : (t.val - j.val) / D = q := by rw [hq, Nat.mul_div_cancel_left _ hD]
    have hq2 : q ≤ 128 := by
      by_contra hn
      have : D * 129 ≤ D * q := Nat.mul_le_mul_left _ (by omega)
      have e1 : 128 * D = D * 128 := Nat.mul_comm _ _
      have e2 : D * 129 = D * 128 + D := by ring
      omega
    have hm : (i + 128 - q) % 256 = i + 128 - q := Nat.mod_eq_of_lt (by omega)
    have e3 : i + 128 - (i + 128 - q) = q := by omega
    have hh : Held D t i ((i + 128 - q) % 256) := by
      rw [hm]
      refine ⟨by omega, by omega, ?_⟩
      rw [e3, Nat.mul_comm, ← hq]
      omega
    have e := hJ ⟨(i + 128 - q) % 256, Nat.mod_lt _ (by decide)⟩ hh
    refine Fin.ext ?_
    simp only [hq']
    have e' : (J ⟨(i + 128 - q) % 256, Nat.mod_lt _ (by decide)⟩).val + (i + 128 - (i + 128 - q) % 256) * D = t.val := e
    have e4 : (i + 128 - (i + 128 - q) % 256) * D = t.val - j.val := by rw [hm, e3, Nat.mul_comm q D, ← hq]
    rw [e4] at e'
    omega
  · intro k hk; rfl

end Cert.Attention

end
-- ==== Proof.DilatedWords.lean ====
/- The words by which the dilated attention tells which places of a block are seen. -/
module

public import proofs.«01_k».proof.Proof.Gen.DilatedIdeal.Value
public import Idealize.ShloMosaic.Lib.Pipeline.ValueKit
public import Idealize.ShloMosaic.Lib.Pointwise

@[expose] public section

set_option maxRecDepth 16384

noncomputable section

namespace Cert.DilatedIdeal.Own

open Cert.DilatedIdeal Cert.DilatedIdeal.Gen
open Idealize.ShloMosaic Idealize.ShloMosaic.TcCoe Idealize.ShloMosaic.Tactic Idealize.SL.Sem

/-- How many strides a key's place lies before its row's, as a word. -/
abbrev stepsWord (i : Fin 128) (k : Fin 256) : BitVec 32 := IntOp.subi (IntOp.addi (BitVec.ofNat 32 i.val) 128#32) (BitVec.ofNat 32 k.val)

theorem steps_word (i : Fin 128) (k : Fin 256) : k0_pay3 (ValueIdx.ix2 i k) = stepsWord i k := by
  pointwise [k0_pay3]

theorem steps_int : ∀ (i : Fin 128) (k : Fin 256), (stepsWord i k).toInt = (i.val : ℤ) + 128 - k.val := by decide +kernel

theorem valid_int : ∀ (i : Fin 128) (k : Fin 256), IntOp.andi (IntOp.cmpi .sge (stepsWord i k) 0#32) (IntOp.cmpi .sle (stepsWord i k) 128#32)
    = BitVec.ofBool (decide (k.val ≤ i.val + 128 ∧ i.val ≤ k.val)) := by decide +kernel

theorem valid_word (i : Fin 128) (k : Fin 256) : k0_pay4 (ValueIdx.ix2 i k) = BitVec.ofBool (decide (k.val ≤ i.val + 128 ∧ i.val ≤ k.val)) := by
  rw [← valid_int, ← steps_word]
  rfl

theorem first_int : ∀ (u : Fin 4) (k : Fin 256), IntOp.ori (IntOp.cmpi .sge (BitVec.ofNat 32 k.val) 128#32) (Scalar.cmpi .sgt (BitVec.ofNat 32 u.val) 0#32)
    = BitVec.ofBool (decide (128 ≤ k.val ∨ 0 < u.val)) := by decide +kernel

theorem first_word (i : grid0.Coords) (x : Fin 128) (k : Fin 256) :
    k0_pay6 i (ValueIdx.ix2 x k) = BitVec.ofBool (decide (128 ≤ k.val ∨ 0 < (i 2).val)) := by
  refine Eq.trans ?_ (first_int (i 2) k)
  pointwise [k0_pay6]

end Cert.DilatedIdeal.Own

end
-- ==== Proof.DilatedBlocks.lean ====
/- The dilated attention: one block of 128 rows of the kernel, at whichever stride, read at an index. -/
module

public import proofs.«01_k».proof.Proof.Gen.DilatedIdeal.Value
public import proofs.«01_k».proof.Proof.DilatedMath
public import proofs.«01_k».proof.Proof.RouterMath
public import proofs.«01_k».proof.Proof.DilatedWords
public import Idealize.ShloMosaic.Lib.Pipeline.ValueKit
public import Idealize.ShloMosaic.Lib.Pointwise

@[expose] public section

set_option maxRecDepth 16384

noncomputable section

namespace Cert.DilatedIdeal.Own

open Cert.DilatedIdeal Cert.DilatedIdeal.Gen
open Idealize.ShloMosaic Idealize.ShloMosaic.TcCoe Idealize.ShloMosaic.Tactic Idealize.SL.Sem
open Idealize.ShloMosaic.Pipeline (Dat)
open Cert.Attention

/-! ## One block -/

/-- What the distance of a key takes from its score, at the stride whose bits are given. -/
def penOf (d : BitVec 32) (sl : Ideal .f32) : FVec Ideal S128x256 .f32 :=
  select k0_pay4 (mulf (broadcast S128x256 (Scalar.mulf (Scalar.subf (Scalar.ofBits .f32 0x00000000#32) (k0_pay2 sl)) (Scalar.ofBits .f32 d))) (k0_pay5 (F := Ideal)))
    (broadcast S128x256 (Named.named κ "mask" 0xF1800000#32))

/-- The scores of a block whose keys lie in its own unit. -/
def scoreLater (d : BitVec 32) (sl : Ideal .f32) (q : FVec Ideal S1x128x128 .f32) (k : FVec Ideal S1x256x128 .f32) : FVec Ideal S128x256 .f32 :=
  addf (matmul dot_S128x128_S256x128_S128x256_1_1_0_0_n_n none (truncf .bf16 (shapeCast S128x128 q shapeCasts_S1x128x128_S128x128) bitsLt_bf16_f32)
    (truncf .bf16 (shapeCast S256x128 k shapeCasts_S1x256x128_S256x128) bitsLt_bf16_f32) (constant S128x256 .f32 0x00000000#32)) (penOf d sl)

/-- Two halves of a block's keys or values, one under the other. -/
def halves (a b : FVec Ideal S1x128x128 .f32) : FVec Ideal S256x128 .f32 :=
  concatenate S256x128 0 [⟨S128x128, shapeCast S128x128 a shapeCasts_S1x128x128_S128x128⟩, ⟨S128x128, shapeCast S128x128 b shapeCasts_S1x128x128_S128x128⟩]
    concatenates_S128x128_S128x128_S256x128_d0

/-- The scores of a block the first half of whose keys lies in the unit before. -/
def scoreFirst (i : grid0.Coords) (d : BitVec 32) (sl : Ideal .f32) (q a b : FVec Ideal S1x128x128 .f32) : FVec Ideal S128x256 .f32 :=
  select (k0_pay6 i) (addf (matmul dot_S128x128_S256x128_S128x256_1_1_0_0_n_n none (truncf .bf16 (shapeCast S128x128 q shapeCasts_S1x128x128_S128x128) bitsLt_bf16_f32)
    (truncf .bf16 (halves a b) bitsLt_bf16_f32) (constant S128x256 .f32 0x00000000#32)) (penOf d sl)) (broadcast S128x256 (Named.named κ "mask" 0xF1800000#32))

/-- The greatest score of every row, along the row. -/
def mTile (s : FVec Ideal S128x256 .f32) : FVec Ideal S128x128 .f32 :=
  shapeCast S128x128 (broadcastTo S128x128 (shapeCast S128x1 (k0_pay29 s) shapeCasts_S128x1_S128x1) broadcasts_S128x1_S128x128) shapeCasts_S128x128_S128x128

/-- The sum of every row's powers, along the row. -/
def lTile (s : FVec Ideal S128x256 .f32) : FVec Ideal S128x128 .f32 :=
  shapeCast S128x128 (broadcastTo S128x128 (shapeCast S128x1 (k0_pay31 s) shapeCasts_S128x1_S128x1) broadcasts_S128x1_S128x128) shapeCasts_S128x128_S128x128

/-- The values weighted by the powers. -/
def aTile (s : FVec Ideal S128x256 .f32) (v : FVec Ideal S256x128 .f32) : FVec Ideal S128x128 .f32 :=
  shapeCast S128x128 (matmul dot_S128x256_S256x128_S128x128_1_0_0_1_n_n none (truncf .bf16 (k0_pay30 s) bitsLt_bf16_f32) (truncf .bf16 v bitsLt_bf16_f32)
    (constant S128x128 .f32 0x00000000#32)) shapeCasts_S128x128_S128x128

/-- The greatest score of a row. -/
abbrev top (s : Fin 256 → EReal) : EReal := Finset.univ.fold max (⊥ : EReal) s

theorem mTile_apply (s : FVec Ideal S128x256 .f32) (i l : Fin 128) :
    mTile s (ValueIdx.ix2 i l) = top fun k => s (ValueIdx.ix2 i k) := by
  unfold top
  rw [← negInf]
  pointwise [mTile, k0_pay29]
  rfl

theorem powers_apply (s : FVec Ideal S128x256 .f32) (i : Fin 128) (k : Fin 256) :
    k0_pay30 s (ValueIdx.ix2 i k) = Ideal.exp2 (s (ValueIdx.ix2 i k) - top fun k => s (ValueIdx.ix2 i k)) := by
  unfold top
  rw [← negInf]
  pointwise [k0_pay30, k0_pay29]
  rfl

theorem lTile_apply (s : FVec Ideal S128x256 .f32) (i l : Fin 128) :
    lTile s (ValueIdx.ix2 i l) = ∑ k : Fin 256, Ideal.exp2 (s (ValueIdx.ix2 i k) - top fun k => s (ValueIdx.ix2 i k)) := by
  refine Eq.trans ?_ (Finset.sum_congr rfl fun k _ => powers_apply s i k)
  pointwise [lTile, k0_pay31]
  rfl

theorem aTile_apply (s : FVec Ideal S128x256 .f32) (v : FVec Ideal S256x128 .f32) (i l : Fin 128) :
    aTile s v (ValueIdx.ix2 i l) = ∑ k : Fin 256, Ideal.exp2 (s (ValueIdx.ix2 i k) - top fun k => s (ValueIdx.ix2 i k)) * v (ValueIdx.ix2 k l) := by
  refine Eq.trans ?_ (Finset.sum_congr rfl fun k _ => congrArg (fun a : EReal => a * v (ValueIdx.ix2 k l)) (powers_apply s i k))
  pointwise [aTile]
  rfl

theorem mask_eq : (Named.named κ "mask" 0xF1800000#32 : Ideal .f32) = (⊥ : EReal) := rfl
theorem log2e_eq : (Named.named κ "log2e" 0x3FB8AA3B#32 : Ideal .f32) = (((Real.log 2)⁻¹ : ℝ) : EReal) := rfl

/-- What a key's distance takes from its score, in strides. -/
abbrev pen (d : BitVec 32) (sl : EReal) (i k : ℕ) : EReal :=
  ((Ideal.ofBits .f32 0x00000000#32 - sl * (((Real.log 2)⁻¹ : ℝ) : EReal)) * Ideal.ofBits .f32 d) * ((((i : ℤ) + 128 - k : ℤ) : ℝ) : EReal)

theorem penOf_apply (d : BitVec 32) (sl : Ideal .f32) (i : Fin 128) (k : Fin 256) :
    penOf d sl (ValueIdx.ix2 i k) = if k.val ≤ i.val + 128 ∧ i.val ≤ k.val then pen d sl i k else ⊥ := by
  have e : penOf d sl (ValueIdx.ix2 i k) = Scalar.select (k0_pay4 (ValueIdx.ix2 i k))
      (((Ideal.ofBits .f32 0x00000000#32 - sl * (((Real.log 2)⁻¹ : ℝ) : EReal)) * Ideal.ofBits .f32 d) * (((k0_pay3 (ValueIdx.ix2 i k)).toInt : ℝ) : EReal)) (⊥ : EReal) := rfl
  rw [e, valid_word, steps_word, steps_int, Cert.Routing.select_ofBool]

theorem scoreLater_apply (d : BitVec 32) (sl : Ideal .f32) (q : FVec Ideal S1x128x128 .f32) (k : FVec Ideal S1x256x128 .f32) (i : Fin 128) (j : Fin 256) :
    scoreLater d sl q k (ValueIdx.ix2 i j) = if j.val ≤ i.val + 128 ∧ i.val ≤ j.val
      then (∑ e : Fin 128, q (ValueIdx.ix3 0 i e) * k (ValueIdx.ix3 0 j e)) + pen d sl i j else ⊥ := by
  have e : scoreLater d sl q k (ValueIdx.ix2 i j) = (∑ e : Fin 128, q (ValueIdx.ix3 0 i e) * k (ValueIdx.ix3 0 j e)) + penOf d sl (ValueIdx.ix2 i j) := by
    unfold scoreLater
    generalize penOf d sl = P
    pointwise
    rfl
  rw [e, penOf_apply]
  split
  · rfl
  · exact EReal.add_bot _

theorem halves_apply (a b : FVec Ideal S1x128x128 .f32) (j : Fin 256) (e : Fin 128) :
    halves a b (ValueIdx.ix2 j e) = if h : j.val < 128 then a (ValueIdx.ix3 0 ⟨j.val, h⟩ e) else b (ValueIdx.ix3 0 ⟨j.val - 128, by omega⟩ e) := by
  unfold halves
  pointwise
  rfl

theorem scoreFirst_apply (g : grid0.Coords) (d : BitVec 32) (sl : Ideal .f32) (q a b : FVec Ideal S1x128x128 .f32) (i : Fin 128) (j : Fin 256) :
    scoreFirst g d sl q a b (ValueIdx.ix2 i j) = if (j.val ≤ i.val + 128 ∧ i.val ≤ j.val) ∧ (128 ≤ j.val ∨ 0 < (g 2).val)
      then (∑ e : Fin 128, q (ValueIdx.ix3 0 i e) * halves a b (ValueIdx.ix2 j e)) + pen d sl i j else ⊥ := by
  have e : scoreFirst g d sl q a b (ValueIdx.ix2 i j) = Scalar.select (k0_pay6 g (ValueIdx.ix2 i j))
      ((∑ e : Fin 128, q (ValueIdx.ix3 0 i e) * halves a b (ValueIdx.ix2 j e)) + penOf d sl (ValueIdx.ix2 i j)) (⊥ : EReal) := by
    unfold scoreFirst
    generalize penOf d sl = P
    generalize halves a b = H
    generalize k0_pay6 g = W
    rw [mask_eq]
    pointwise
    rfl
  rw [e, penOf_apply, first_word, Cert.Routing.select_ofBool]
  by_cases h1 : 128 ≤ j.val ∨ 0 < (g 2).val <;> by_cases h2 : j.val ≤ i.val + 128 ∧ i.val ≤ j.val
  · rw [if_pos h1, if_pos h2, if_pos ⟨h2, h1⟩]
  · rw [if_pos h1, if_neg h2, if_neg fun h => h2 h.1]; exact EReal.add_bot _
  · rw [if_neg h1, if_neg fun h => h1 h.2]
  · rw [if_neg h1, if_neg fun h => h1 h.2]

/-! ## The blocks of a point -/

variable (m : (ℓ : Loc nD τ sig) → Buf (Elt Ideal) ℓ)

theorem idx : ∀ t : Fin cfg0.N, win0_0.index t = ![0] ∧ win0_1.index t = ![t.val / 16, t.val % 4, t.val / 4 % 4]
    ∧ win0_2.index t = ![t.val / 16, t.val % 4, 4 + t.val / 4 % 4] ∧ win0_3.index t = ![t.val / 16, t.val % 4 - 1, 4 + t.val / 4 % 4]
    ∧ win0_4.index t = ![t.val / 16, t.val % 4, 8 + t.val / 4 % 4] ∧ win0_5.index t = ![t.val / 16, t.val % 4 - 1, 8 + t.val / 4 % 4]
    ∧ win0_6.index t = ![t.val / 16, t.val % 4, t.val / 4 % 4] :=
  (by decide +kernel : ∀ t : Fin grid0.N, _)

theorem lt32 (t : Fin cfg0.N) : t.val < 32 := lt_of_lt_of_eq t.isLt (show cfg0.N = 32 from N_0)

abbrev X (c : Dev nD) : FVec Ideal S2x8192x2048 .f32 := m ((c : Thread nD τ).loc main_arg0)
abbrev SL (c : Dev nD) : FVec Ideal S4 .f32 := m ((c : Thread nD τ).loc main_arg1)

/-- A point's batch, head and unit. -/
abbrev batch (t : Fin cfg0.N) : Fin 2 := ⟨t.val / 16, by have := lt32 t; omega⟩
abbrev head (t : Fin cfg0.N) : Fin 4 := ⟨t.val / 4 % 4, by omega⟩

/-- A column of a head: `0` among the queries, `1` among the keys, `2` among the values. -/
abbrev col (n : Fin 3) (h : Fin 4) (e : Fin 128) : Fin 2048 := ⟨n.val * 512 + h.val * 128 + e.val, by have := n.isLt; have := h.isLt; omega⟩

theorem at_head : ∀ t : Fin cfg0.N, k0_off1 (grid0.coords t) = ![t.val / 4 % 4] ∧ (grid0.coords t 2).val = t.val % 4 :=
  (by decide +kernel : ∀ t : Fin grid0.N, _)

theorem slope_eq (c : Dev nD) (t : Fin cfg0.N) (h) (z) :
    View.ld (iblk m c 0 t) (Rect.unit (s := S4) (k0_off1 (grid0.coords t)) ![1] h) z = SL m c (ValueIdx.ix1 (head t)) := by
  have key : ∀ (o : Fin 1 → ℕ) (ho : o = ![t.val / 4 % 4]) (h : ∀ a, o a + (![1] : Fin 1 → ℕ) a ≤ S4.size a) (z),
      View.ld (iblk m c 0 t) (Rect.unit (s := S4) o ![1] h) z = SL m c (ValueIdx.ix1 (head t)) := by
    intro o ho h z
    subst ho
    have hz : (z 0).val = 0 := by have h : (z 0).val < 1 := (z 0).isLt; omega
    blk_point [iblk, V, idx t]
  exact key _ (at_head t).1 h z

theorem q_apply (c : Dev nD) (t : Fin cfg0.N) (r : Fin 2048) (e : Fin 128) :
    iblk m c 1 t (ValueIdx.ix3 0 r e) = X m c (ValueIdx.ix3 (batch t) ⟨t.val % 4 * 2048 + r.val, by omega⟩ (col 0 (head t) e)) := by
  blk_point [iblk, V, idx t]
  show t.val / 4 % 4 * 128 + e.val = 0 * 512 + t.val / 4 % 4 * 128 + e.val
  omega

theorem k_apply (c : Dev nD) (t : Fin cfg0.N) (r : Fin 2048) (e : Fin 128) :
    iblk m c 2 t (ValueIdx.ix3 0 r e) = X m c (ValueIdx.ix3 (batch t) ⟨t.val % 4 * 2048 + r.val, by omega⟩ (col 1 (head t) e)) := by
  blk_point [iblk, V, idx t]
  show (4 + t.val / 4 % 4) * 128 + e.val = 1 * 512 + t.val / 4 % 4 * 128 + e.val
  omega

theorem kp_apply (c : Dev nD) (t : Fin cfg0.N) (r : Fin 2048) (e : Fin 128) :
    iblk m c 3 t (ValueIdx.ix3 0 r e) = X m c (ValueIdx.ix3 (batch t) ⟨(t.val % 4 - 1) * 2048 + r.val, by omega⟩ (col 1 (head t) e)) := by
  blk_point [iblk, V, idx t]
  show (4 + t.val / 4 % 4) * 128 + e.val = 1 * 512 + t.val / 4 % 4 * 128 + e.val
  omega

theorem v_apply (c : Dev nD) (t : Fin cfg0.N) (r : Fin 2048) (e : Fin 128) :
    iblk m c 4 t (ValueIdx.ix3 0 r e) = X m c (ValueIdx.ix3 (batch t) ⟨t.val % 4 * 2048 + r.val, by omega⟩ (col 2 (head t) e)) := by
  blk_point [iblk, V, idx t]
  show (8 + t.val / 4 % 4) * 128 + e.val = 2 * 512 + t.val / 4 % 4 * 128 + e.val
  omega

theorem vp_apply (c : Dev nD) (t : Fin cfg0.N) (r : Fin 2048) (e : Fin 128) :
    iblk m c 5 t (ValueIdx.ix3 0 r e) = X m c (ValueIdx.ix3 (batch t) ⟨(t.val % 4 - 1) * 2048 + r.val, by omega⟩ (col 2 (head t) e)) := by
  blk_point [iblk, V, idx t]
  show (8 + t.val / 4 % 4) * 128 + e.val = 2 * 512 + t.val / 4 % 4 * 128 + e.val
  omega

end Cert.DilatedIdeal.Own

end
-- ==== Proof.DilatedTiles.lean ====
/- The dilated attention: what the kernel's blocks of one unit leave, row by row, at each of the three strides. -/
module

public import proofs.«01_k».proof.Proof.DilatedBlocks
public import Idealize.ShloMosaic.Lib.WholeRead

@[expose] public section

set_option maxRecDepth 16384

noncomputable section

namespace Cert.DilatedIdeal.Own

open Cert.DilatedIdeal Cert.DilatedIdeal.Gen
open Idealize.ShloMosaic Idealize.ShloMosaic.TcCoe Idealize.ShloMosaic.Tactic Idealize.SL.Sem
open Idealize.ShloMosaic.Pipeline (Dat)
open Cert.Attention

/-! ## Tiles -/

/-- The three strides, and their bits. -/
abbrev stride : Fin 3 → ℕ := ![1, 4, 16]
abbrev bits : Fin 3 → BitVec 32 := ![0x3F800000#32, 0x40800000#32, 0x41800000#32]

theorem stride_pos' (g : Fin 3) : 0 < stride g := (by decide : ∀ g : Fin 3, 0 < stride g) g

/-- A store that leaves `G` on the rows of one stride's block: every `stride g`-th one from `start` on. -/
structure IsTile {e : EltTy} (G : S3x2048x128.Idx → Elt Ideal e) (p : View.Piece (Elt Ideal) S3x2048x128 e) (g : Fin 3) (start : ℕ) : Prop where
  pay : ∀ x, p.2 x = G (p.1.emb x)
  mem : ∀ (r : Fin 2048) (l : Fin 128), (∃ i < 128, r.val = start + stride g * i) → ValueIdx.ix3 g r l ∈ p.1.set

theorem isTile {e : EltTy} (G : S3x2048x128.Idx → Elt Ideal e) (g : Fin 3) (start : ℕ) (hst : start + stride g * 127 < 2048)
    {off0 : Fin 3 → ℕ} {inb0 : ∀ a, off0 a + (![1, 2048, 128] : Fin 3 → ℕ) a ≤ S3x2048x128.size a} (ho0 : off0 0 = g.val ∧ off0 1 = 0 ∧ off0 2 = 0)
    {off st : Fin 2 → ℕ} {inb : ∀ a, (![128, 128] : Fin 2 → ℕ) a = 0 ∨ off a + st a * ((![128, 128] : Fin 2 → ℕ) a - 1) < (![2048, 128] : Fin 2 → ℕ) a}
    {pos : ∀ a, 0 < st a} (ho : off 0 = start ∧ off 1 = 0 ∧ st 0 = stride g ∧ st 1 = 1)
    {h0 : (![1, 2048, 128] : Fin 3 → ℕ) 0 = 1} {hs : ∀ i, (![1, 2048, 128] : Fin 3 → ℕ) (Fin.succ i) = (![2048, 128] : Fin 2 → ℕ) i}
    {h1 : ∀ a, (Rect.unit (s := S3x2048x128) off0 ![1, 2048, 128] inb0).stride a = 1}
    {hR : (Rect.consLift (n := 2) (d := ![2048, 128]) { off := off, size := ![128, 128], stride := st, inb := inb, stride_pos := pos } ![1, 2048, 128] h0 hs).shape.numel
      = (Rect.mk (s := ⟨2, ![2048, 128]⟩) { off := off, size := ![128, 128], stride := st, inb := inb } pos).shape.numel}
    {w : S128x128.Idx → Elt Ideal e} (hw : ∀ i l : Fin 128, w (ValueIdx.ix2 i l) = G (ValueIdx.ix3 g ⟨start + stride g * i.val, by
      have := Nat.mul_le_mul_left (stride g) (show i.val ≤ 127 by omega); omega⟩ l)) :
    IsTile G ⟨(Rect.unit (s := S3x2048x128) off0 ![1, 2048, 128] inb0).within
        (Rect.consLift (n := 2) (d := ![2048, 128]) { off := off, size := ![128, 128], stride := st, inb := inb, stride_pos := pos } ![1, 2048, 128] h0 hs) h1,
      Rect.payAlong hR w⟩ g start := by
  obtain ⟨a0, a1, a2⟩ := ho0
  obtain ⟨b0, b1, b2, b3⟩ := ho
  have hemb : ∀ (x : (Rect.consLift (n := 2) (d := ![2048, 128]) { off := off, size := ![128, 128], stride := st, inb := inb, stride_pos := pos } ![1, 2048, 128] h0 hs).shape.Idx)
      (i l : Fin 128), (x 1).val = i.val → (x 2).val = l.val →
      ((Rect.unit (s := S3x2048x128) off0 ![1, 2048, 128] inb0).within
        (Rect.consLift (n := 2) (d := ![2048, 128]) { off := off, size := ![128, 128], stride := st, inb := inb, stride_pos := pos } ![1, 2048, 128] h0 hs) h1).emb x
        = ValueIdx.ix3 g ⟨start + stride g * i.val, by have := Nat.mul_le_mul_left (stride g) (show i.val ≤ 127 by omega); omega⟩ l := by
    intro x i l hi hl
    have hx : (x 0).val < 1 := (x 0).isLt
    funext a
    apply Fin.ext
    fin_cases a
    · show off0 0 + 0 + 1 * (x 0).val = g.val
      omega
    · show off0 1 + off 0 + st 0 * (x 1).val = start + stride g * i.val
      rw [a1, b0, b2, hi]; omega
    · show off0 2 + off 1 + st 1 * (x 2).val = l.val
      rw [a2, b1, b3, hl]; omega
  refine ⟨fun x => ?_, fun r l hr => ?_⟩
  · show Rect.payAlong hR w x = _
    rw [Rect.payAlong_consLift _ _ h0 hs w hR x (ValueIdx.ix2 (x 1) (x 2)) (fun i => by fin_cases i <;> rfl), hemb x (x 1) (x 2) rfl rfl]
    exact hw _ _
  · obtain ⟨i, hi, e⟩ := hr
    show ValueIdx.ix3 g r l ∈ LoadRect.set _
    rw [← Rect.map_emb_univ]
    refine Finset.mem_map.mpr ⟨ValueIdx.ix3 (n0 := 1) (n1 := 128) (n2 := 128) 0 ⟨i, hi⟩ l, Finset.mem_univ _, ?_⟩
    refine (hemb _ ⟨i, hi⟩ l rfl rfl).trans ?_
    exact congrArg (fun r => ValueIdx.ix3 g r l) (Fin.ext e.symm)

/-- A stride's block, by its stride and its first row, the last stored first. -/
def tiles : List (Fin 3 × ℕ) :=
  [(2, 15), (2, 14), (2, 13), (2, 12), (2, 11), (2, 10), (2, 9), (2, 8), (2, 7), (2, 6), (2, 5), (2, 4), (2, 3), (2, 2), (2, 1), (2, 0), (1, 1539), (1, 1027), (1, 515), (1, 3), (1, 1538), (1, 1026), (1, 514), (1, 2), (1, 1537), (1, 1025), (1, 513), (1, 1), (1, 1536), (1, 1024), (1, 512), (1, 0), (0, 1920), (0, 1792), (0, 1664), (0, 1536), (0, 1408), (0, 1280), (0, 1152), (0, 1024), (0, 896), (0, 768), (0, 640), (0, 512), (0, 384), (0, 256), (0, 128), (0, 0)]

def TileAt {e : EltTy} (G : S3x2048x128.Idx → Elt Ideal e) (p : View.Piece (Elt Ideal) S3x2048x128 e) (q : Fin 3 × ℕ) : Prop := IsTile G p q.1 q.2

theorem covered : ∀ (g : Fin 3) (r : Fin 2048), ∃ q ∈ tiles, q.1 = g ∧ ∃ i : Fin 128, r.val = q.2 + stride g * i.val := by
  have key : ∀ (g : Fin 3) (r : Fin 2048), ∃ q ∈ tiles, q.1 = g ∧ (r.val - q.2) / stride g < 128 ∧ r.val = q.2 + stride g * ((r.val - q.2) / stride g) := by
    decide +kernel
  intro g r
  obtain ⟨q, hq, h1, h2, h3⟩ := key g r
  exact ⟨q, hq, h1, ⟨_, h2⟩, h3⟩

theorem forall₂_left {α β : Type*} {R : α → β → Prop} {L : List α} {M : List β} (h : List.Forall₂ R L M) : ∀ p ∈ L, ∃ q ∈ M, R p q := by
  induction h with
  | nil => intro p hp; simp at hp
  | cons h1 _ ih =>
    intro p hp
    rcases List.mem_cons.mp hp with rfl | hp
    · exact ⟨_, List.mem_cons_self, h1⟩
    · obtain ⟨q, hq, hr⟩ := ih p hp
      exact ⟨q, List.mem_cons_of_mem _ hq, hr⟩

theorem forall₂_right {α β : Type*} {R : α → β → Prop} {L : List α} {M : List β} (h : List.Forall₂ R L M) : ∀ q ∈ M, ∃ p ∈ L, R p q := by
  induction h with
  | nil => intro p hp; simp at hp
  | cons h1 _ ih =>
    intro p hp
    rcases List.mem_cons.mp hp with rfl | hp
    · exact ⟨_, List.mem_cons_self, h1⟩
    · obtain ⟨q, hq, hr⟩ := ih p hp
      exact ⟨q, List.mem_cons_of_mem _ hq, hr⟩

/-- What is read back of one stride's rows, when every store is a tile of `G`. -/
theorem read_tiles {κ : Kind} {sp : Space} {e : EltTy} (v : View sig κ sp S3x2048x128 e) (G : S3x2048x128.Idx → Elt Ideal e)
    (L : List (View.Piece (Elt Ideal) S3x2048x128 e)) (hL : List.Forall₂ (TileAt G) L tiles)
    (g : Fin 3) (off0 : Fin 3 → ℕ) (inb0 : ∀ a, off0 a + (![1, 2048, 128] : Fin 3 → ℕ) a ≤ S3x2048x128.size a) (ho0 : off0 0 = g.val ∧ off0 1 = 0 ∧ off0 2 = 0)
    (z : Fin 1) (r : Fin 2048) (l : Fin 128) :
    v.readCov L (Rect.unit (s := S3x2048x128) off0 ![1, 2048, 128] inb0).toLoadRect (ValueIdx.ix3 z r l) = G (ValueIdx.ix3 g r l) := by
  obtain ⟨a0, a1, a2⟩ := ho0
  rw [View.readCov_eq_canon']
  have e : (Rect.unit (s := S3x2048x128) off0 ![1, 2048, 128] inb0).toLoadRect.idx (ValueIdx.ix3 z r l) = ValueIdx.ix3 g r l := by
    have hz := z.isLt
    funext a
    apply Fin.ext
    fin_cases a
    · show off0 0 + 1 * z.val = g.val
      omega
    · show off0 1 + 1 * r.val = r.val
      omega
    · show off0 2 + 1 * l.val = l.val
      omega
  show View.canon L _ = _
  rw [e]
  refine View.canon_apply_of_pieces G L (fun p hp x => ?_) _ ?_
  · obtain ⟨q, _, hq⟩ := forall₂_left hL p hp
    exact hq.pay x
  · obtain ⟨q, hq, rfl, i, hi⟩ := covered g r
    obtain ⟨p, hp, hpq⟩ := forall₂_right hL q hq
    exact ⟨p, hp, hpq.mem r l ⟨i.val, i.isLt, hi⟩⟩

/-! ## The rows of one head -/

variable (m : (ℓ : Loc nD τ sig) → Buf (Elt Ideal) ℓ)

/-- The row a place of a block stands for. -/
def keyAt (D T i k : ℕ) : Fin 8192 := ⟨(T - (i + 128 - k) * D) % 8192, Nat.mod_lt _ (by decide)⟩

/-- The score of a row against one place of its block. -/
def score (x : FVec Ideal S2x8192x2048 .f32) (sl : FVec Ideal S4 .f32) (b : Fin 2) (h : Fin 4) (g : Fin 3) (T : Fin 8192) (i : ℕ) (k : Fin 256) : EReal :=
  if Held (stride g) T.val i k.val then
    (∑ e : Fin 128, x (ValueIdx.ix3 b T (col 0 h e)) * x (ValueIdx.ix3 b (keyAt (stride g) T.val i k.val) (col 1 h e))) + pen (bits g) (sl (ValueIdx.ix1 h)) i k.val
  else ⊥

/-- A row's place in its block. -/
abbrev place (g : Fin 3) (r : ℕ) : ℕ := r / stride g % 128

/-- The row of the sequence that a point's row is. -/
abbrev rowOf (t : Fin cfg0.N) (r : Fin 2048) : Fin 8192 := ⟨t.val % 4 * 2048 + r.val, by omega⟩

/-- The scores of a point's row. -/
abbrev sc (c : Dev nD) (t : Fin cfg0.N) (g : Fin 3) (r : Fin 2048) (k : Fin 256) : EReal :=
  score (X m c) (SL m c) (batch t) (head t) g (rowOf t r) (place g r.val) k

/-- The values of a point's row. -/
abbrev val (c : Dev nD) (t : Fin cfg0.N) (g : Fin 3) (r : Fin 2048) (l : Fin 128) (k : Fin 256) : EReal :=
  X m c (ValueIdx.ix3 (batch t) (keyAt (stride g) (rowOf t r).val (place g r.val) k.val) (col 2 (head t) l))

def tops (c : Dev nD) (t : Fin cfg0.N) : S3x2048x128.Idx → EReal := fun y => top (sc m c t (y 0) (y 1))
def sums (c : Dev nD) (t : Fin cfg0.N) : S3x2048x128.Idx → EReal := fun y => ∑ k, Ideal.exp2 (sc m c t (y 0) (y 1) k - top (sc m c t (y 0) (y 1)))
def sumsV (c : Dev nD) (t : Fin cfg0.N) : S3x2048x128.Idx → EReal :=
  fun y => ∑ k, Ideal.exp2 (sc m c t (y 0) (y 1) k - top (sc m c t (y 0) (y 1))) * val m c t (y 0) (y 1) (y 2) k

/-- A block's row. -/
abbrev blockRow (g : Fin 3) (start : ℕ) (hst : start + stride g * 127 < 2048) (i : Fin 128) : Fin 2048 :=
  ⟨start + stride g * i.val, by have := Nat.mul_le_mul_left (stride g) (show i.val ≤ 127 by omega); omega⟩

theorem place_eq (g : Fin 3) (start : ℕ) (hst : start + stride g * 127 < 2048) (h128 : start / stride g % 128 = 0) (i : Fin 128) :
    place g (blockRow g start hst i).val = i.val := by
  show (start + stride g * i.val) / stride g % 128 = i.val
  rw [Nat.add_mul_div_left _ _ (stride_pos' g)]
  omega

/-- A strided load of a block. -/
theorem load_apply {a n st : ℕ} (f : Shape.Idx ⟨3, ![1, 2048, 128]⟩ → EReal) {off str : Fin 3 → ℕ}
    {inb : ∀ a, (![1, n, 128] : Fin 3 → ℕ) a = 0 ∨ off a + str a * ((![1, n, 128] : Fin 3 → ℕ) a - 1) < (![1, 2048, 128] : Fin 3 → ℕ) a}
    (ho : off 0 = 0 ∧ off 1 = a ∧ off 2 = 0 ∧ str 0 = 1 ∧ str 1 = st ∧ str 2 = 1) (i : Fin n) (e : Fin 128) (hi : a + st * i.val < 2048) :
    f ((LoadRect.mk (s := ⟨3, ![1, 2048, 128]⟩) off ![1, n, 128] str inb).idx (ValueIdx.ix3 0 i e)) = f (ValueIdx.ix3 0 ⟨a + st * i.val, hi⟩ e) := by
  obtain ⟨h1, h2, h3, h4, h5, h6⟩ := ho
  refine congrArg f ?_
  funext b
  apply Fin.ext
  fin_cases b
  · show off 0 + str 0 * 0 = 0
    omega
  · show off 1 + str 1 * i.val = a + st * i.val
    rw [h2, h5]
  · show off 2 + str 2 * e.val = e.val
    rw [h3, h6]; omega

/-- A block's scores are its rows'. -/
def AreScores (c : Dev nD) (t : Fin cfg0.N) (g : Fin 3) (start : ℕ) (hst : start + stride g * 127 < 2048) (S : FVec Ideal S128x256 .f32) : Prop :=
  ∀ i k, S (ValueIdx.ix2 i k) = sc m c t g (blockRow g start hst i) k

/-- A block's values are its rows', wherever its rows see them. -/
def AreValues (c : Dev nD) (t : Fin cfg0.N) (g : Fin 3) (start : ℕ) (hst : start + stride g * 127 < 2048) (V : FVec Ideal S256x128 .f32) : Prop :=
  ∀ i k l, Held (stride g) (rowOf t (blockRow g start hst i)).val i.val k.val → V (ValueIdx.ix2 k l) = val m c t g (blockRow g start hst i) l k

variable {m}

theorem AreScores.tops {c : Dev nD} {t : Fin cfg0.N} {g : Fin 3} {start : ℕ} {hst : start + stride g * 127 < 2048} {S : FVec Ideal S128x256 .f32}
    (h : AreScores m c t g start hst S) (i l : Fin 128) : mTile S (ValueIdx.ix2 i l) = tops m c t (ValueIdx.ix3 g (blockRow g start hst i) l) := by
  rw [mTile_apply]
  exact congrArg top (funext fun k => h i k)

theorem AreScores.sums {c : Dev nD} {t : Fin cfg0.N} {g : Fin 3} {start : ℕ} {hst : start + stride g * 127 < 2048} {S : FVec Ideal S128x256 .f32}
    (h : AreScores m c t g start hst S) (i l : Fin 128) : lTile S (ValueIdx.ix2 i l) = sums m c t (ValueIdx.ix3 g (blockRow g start hst i) l) := by
  have e : (fun k => S (ValueIdx.ix2 i k)) = sc m c t g (blockRow g start hst i) := funext fun k => h i k
  rw [lTile_apply]
  refine Finset.sum_congr rfl fun k _ => ?_
  rw [e, h i k]

theorem AreScores.sumsV {c : Dev nD} {t : Fin cfg0.N} {g : Fin 3} {start : ℕ} {hst : start + stride g * 127 < 2048} {S : FVec Ideal S128x256 .f32} {V : FVec Ideal S256x128 .f32}
    (h : AreScores m c t g start hst S) (hv : AreValues m c t g start hst V) (h128 : start / stride g % 128 = 0) (hM : ∀ i, IsReal (top (sc m c t g (blockRow g start hst i)))) (i l : Fin 128) :
    aTile S V (ValueIdx.ix2 i l) = sumsV m c t (ValueIdx.ix3 g (blockRow g start hst i) l) := by
  have e : (fun k => S (ValueIdx.ix2 i k)) = sc m c t g (blockRow g start hst i) := funext fun k => h i k
  rw [aTile_apply]
  refine Finset.sum_congr rfl fun k _ => ?_
  rw [e, h i k]
  by_cases hh : Held (stride g) (rowOf t (blockRow g start hst i)).val i.val k.val
  · rw [hv i k l hh]
  · have z : sc m c t g (blockRow g start hst i) k = ⊥ := if_neg (by rw [place_eq g start hst h128 i]; exact hh)
    obtain ⟨r, hr⟩ := hM i
    rw [z, hr, EReal.bot_sub, Ideal.exp2_bot, zero_mul]
    exact (zero_mul _).symm

variable (m)

/-- A block whose keys lie in its own unit. -/
theorem block_later (c : Dev nD) (t : Fin cfg0.N) (g : Fin 3) (start : ℕ) (hst : start + stride g * 127 < 2048) (h128 : start / stride g % 128 = 0)
    (hl : 128 * stride g ≤ start) (q : FVec Ideal S1x128x128 .f32) (k v : FVec Ideal S1x256x128 .f32)
    (hq : ∀ i e, q (ValueIdx.ix3 0 i e) = iblk m c 1 t (ValueIdx.ix3 0 (blockRow g start hst i) e))
    (hk : ∀ (j : Fin 256) (e : Fin 128) (hj : start - 128 * stride g + stride g * j.val < 2048), k (ValueIdx.ix3 0 j e) = iblk m c 2 t (ValueIdx.ix3 0 ⟨start - 128 * stride g + stride g * j.val, hj⟩ e))
    (hv : ∀ (j : Fin 256) (e : Fin 128) (hj : start - 128 * stride g + stride g * j.val < 2048), v (ValueIdx.ix3 0 j e) = iblk m c 4 t (ValueIdx.ix3 0 ⟨start - 128 * stride g + stride g * j.val, hj⟩ e)) :
    AreScores m c t g start hst (scoreLater (bits g) (SL m c (ValueIdx.ix1 (head t))) q k) ∧ AreValues m c t g start hst (shapeCast S256x128 v shapeCasts_S1x256x128_S256x128) := by
  have hj : ∀ j : Fin 256, start - 128 * stride g + stride g * j.val < 2048 := fun j => by
    have := Nat.mul_le_mul_left (stride g) (show j.val ≤ 255 by omega)
    omega
  have at_key : ∀ (i : Fin 128) (j : Fin 256), j.val ≤ i.val + 128 → i.val ≤ j.val →
      keyAt (stride g) (rowOf t (blockRow g start hst i)).val (place g (blockRow g start hst i).val) j.val = rowOf t ⟨start - 128 * stride g + stride g * j.val, hj j⟩
        ∧ Held (stride g) (rowOf t (blockRow g start hst i)).val i.val j.val := by
    intro i j h1 h2
    rw [place_eq g start hst h128 i]
    have e1 : (i.val + 128 - j.val) * stride g + stride g * j.val = stride g * i.val + 128 * stride g := by
      rw [Nat.mul_comm (stride g) j.val, ← Nat.add_mul, Nat.mul_comm (stride g) i.val, ← Nat.add_mul]
      congr 1
      omega
    have e2 : (i.val + 128 - j.val) * stride g ≤ 128 * stride g := Nat.mul_le_mul_right _ (by omega)
    refine ⟨Fin.ext ?_, h1, h2, ?_⟩
    · show (t.val % 4 * 2048 + (start + stride g * i.val) - (i.val + 128 - j.val) * stride g) % 8192 = t.val % 4 * 2048 + (start - 128 * stride g + stride g * j.val)
      have := hj j
      omega
    · show (i.val + 128 - j.val) * stride g ≤ t.val % 4 * 2048 + (start + stride g * i.val)
      omega
  refine ⟨fun i j => ?_, fun i j l hh => ?_⟩
  · rw [scoreLater_apply]
    show _ = score _ _ _ _ _ _ _ _
    unfold score
    by_cases hh : j.val ≤ i.val + 128 ∧ i.val ≤ j.val
    · obtain ⟨a1, a2⟩ := at_key i j hh.1 hh.2
      rw [if_pos hh, a1, place_eq g start hst h128 i, if_pos a2]
      refine congrArg (fun s : EReal => s + _) (Finset.sum_congr rfl fun e _ => ?_)
      rw [hq, hk j e (hj j), q_apply, k_apply]
    · rw [if_neg hh, place_eq g start hst h128 i, if_neg fun h => hh ⟨h.1, h.2.1⟩]
  · obtain ⟨a1, a2⟩ := at_key i j hh.1 hh.2.1
    show _ = X m c (ValueIdx.ix3 _ (keyAt _ _ _ _) _)
    rw [a1]
    refine Eq.trans ?_ ((hv j l (hj j)).trans (v_apply m c t _ l))
    pointwise
    rfl

/-- A block the first half of whose keys lies in the unit before. -/
theorem block_first (c : Dev nD) (t : Fin cfg0.N) (g : Fin 3) (start : ℕ) (hst : start + stride g * 127 < 2048) (h128 : start / stride g % 128 = 0)
    (hf : start < stride g) (q k0 k1 v0 v1 : FVec Ideal S1x128x128 .f32)
    (hq : ∀ i e, q (ValueIdx.ix3 0 i e) = iblk m c 1 t (ValueIdx.ix3 0 (blockRow g start hst i) e))
    (hk0 : ∀ (j : Fin 128) (e : Fin 128) (hj : 2048 - 128 * stride g + start + stride g * j.val < 2048), k0 (ValueIdx.ix3 0 j e) = iblk m c 3 t (ValueIdx.ix3 0 ⟨2048 - 128 * stride g + start + stride g * j.val, hj⟩ e))
    (hk1 : ∀ i e, k1 (ValueIdx.ix3 0 i e) = iblk m c 2 t (ValueIdx.ix3 0 (blockRow g start hst i) e))
    (hv0 : ∀ (j : Fin 128) (e : Fin 128) (hj : 2048 - 128 * stride g + start + stride g * j.val < 2048), v0 (ValueIdx.ix3 0 j e) = iblk m c 5 t (ValueIdx.ix3 0 ⟨2048 - 128 * stride g + start + stride g * j.val, hj⟩ e))
    (hv1 : ∀ i e, v1 (ValueIdx.ix3 0 i e) = iblk m c 4 t (ValueIdx.ix3 0 (blockRow g start hst i) e)) :
    AreScores m c t g start hst (scoreFirst (grid0.coords t) (bits g) (SL m c (ValueIdx.ix1 (head t))) q k0 k1) ∧ AreValues m c t g start hst (halves v0 v1) := by
  have hD : 128 * stride g ≤ 2048 := (by decide : ∀ g : Fin 3, 128 * stride g ≤ 2048) g
  have hj : ∀ j : Fin 128, 2048 - 128 * stride g + start + stride g * j.val < 2048 := fun j => by
    have := Nat.mul_le_mul_left (stride g) (show j.val ≤ 127 by omega)
    omega
  have e1 : ∀ (i : Fin 128) (j : Fin 256), j.val ≤ i.val + 128 → (i.val + 128 - j.val) * stride g + stride g * j.val = stride g * i.val + 128 * stride g := by
    intro i j h1
    rw [Nat.mul_comm (stride g) j.val, ← Nat.add_mul, Nat.mul_comm (stride g) i.val, ← Nat.add_mul]
    congr 1
    omega
  have at_low : ∀ (i : Fin 128) (j : Fin 256) (hlow : j.val < 128), j.val ≤ i.val + 128 → i.val ≤ j.val → 0 < t.val % 4 →
      keyAt (stride g) (rowOf t (blockRow g start hst i)).val (place g (blockRow g start hst i).val) j.val
          = ⟨(t.val % 4 - 1) * 2048 + (2048 - 128 * stride g + start + stride g * j.val), by have := hj ⟨j.val, hlow⟩; dsimp only at this; omega⟩
        ∧ Held (stride g) (rowOf t (blockRow g start hst i)).val i.val j.val := by
    intro i j hlow h1 h2 hu
    rw [place_eq g start hst h128 i]
    have e1 := e1 i j h1
    have e2 : (i.val + 128 - j.val) * stride g ≤ 128 * stride g := Nat.mul_le_mul_right _ (by omega)
    refine ⟨Fin.ext ?_, h1, h2, ?_⟩
    · show (t.val % 4 * 2048 + (start + stride g * i.val) - (i.val + 128 - j.val) * stride g) % 8192 = (t.val % 4 - 1) * 2048 + (2048 - 128 * stride g + start + stride g * j.val)
      have := hj ⟨j.val, hlow⟩
      dsimp only at this
      omega
    · show (i.val + 128 - j.val) * stride g ≤ t.val % 4 * 2048 + (start + stride g * i.val)
      omega
  have at_high : ∀ (i : Fin 128) (j : Fin 256) (hhigh : 128 ≤ j.val), j.val ≤ i.val + 128 → i.val ≤ j.val →
      keyAt (stride g) (rowOf t (blockRow g start hst i)).val (place g (blockRow g start hst i).val) j.val = rowOf t (blockRow g start hst ⟨j.val - 128, by omega⟩)
        ∧ Held (stride g) (rowOf t (blockRow g start hst i)).val i.val j.val := by
    intro i j hhigh h1 h2
    rw [place_eq g start hst h128 i]
    have e1 : (i.val + 128 - j.val) * stride g + stride g * (j.val - 128) = stride g * i.val := by
      rw [Nat.mul_comm (stride g) (j.val - 128), ← Nat.add_mul, Nat.mul_comm (stride g) i.val]
      congr 1
      omega
    have := (blockRow g start hst ⟨j.val - 128, by omega⟩).isLt
    dsimp only at this
    refine ⟨Fin.ext ?_, h1, h2, ?_⟩
    · show (t.val % 4 * 2048 + (start + stride g * i.val) - (i.val + 128 - j.val) * stride g) % 8192 = t.val % 4 * 2048 + (start + stride g * (j.val - 128))
      omega
    · show (i.val + 128 - j.val) * stride g ≤ t.val % 4 * 2048 + (start + stride g * i.val)
      omega
  have not_held : ∀ (i : Fin 128) (j : Fin 256), ¬ ((j.val ≤ i.val + 128 ∧ i.val ≤ j.val) ∧ (128 ≤ j.val ∨ 0 < t.val % 4)) →
      ¬ Held (stride g) (rowOf t (blockRow g start hst i)).val i.val j.val := by
    intro i j hn hh
    obtain ⟨h1, h2, h3⟩ := hh
    refine hn ⟨⟨h1, h2⟩, ?_⟩
    by_contra hc
    have h3 : (i.val + 128 - j.val) * stride g ≤ t.val % 4 * 2048 + (start + stride g * i.val) := h3
    have h4 : (i.val + 1) * stride g ≤ (i.val + 128 - j.val) * stride g := Nat.mul_le_mul_right _ (by omega)
    rw [Nat.add_mul, Nat.mul_comm i.val] at h4
    omega
  refine ⟨fun i j => ?_, fun i j l hh => ?_⟩
  · rw [scoreFirst_apply, (at_head t).2]
    show _ = score _ _ _ _ _ _ _ _
    unfold score
    by_cases hh : (j.val ≤ i.val + 128 ∧ i.val ≤ j.val) ∧ (128 ≤ j.val ∨ 0 < t.val % 4)
    · by_cases hlow : j.val < 128
      · obtain ⟨a1, a2⟩ := at_low i j hlow hh.1.1 hh.1.2 (by omega)
        rw [if_pos hh, a1, place_eq g start hst h128 i, if_pos a2]
        refine congrArg (fun s : EReal => s + _) (Finset.sum_congr rfl fun e _ => ?_)
        rw [halves_apply, dif_pos hlow, hq, hk0 ⟨j.val, hlow⟩ e (hj _), q_apply, kp_apply]
      · obtain ⟨a1, a2⟩ := at_high i j (by omega) hh.1.1 hh.1.2
        rw [if_pos hh, a1, place_eq g start hst h128 i, if_pos a2]
        refine congrArg (fun s : EReal => s + _) (Finset.sum_congr rfl fun e _ => ?_)
        rw [halves_apply, dif_neg hlow, hq, hk1, q_apply, k_apply]
    · rw [if_neg hh, place_eq g start hst h128 i, if_neg (not_held i j hh)]
  · have hh' : (j.val ≤ i.val + 128 ∧ i.val ≤ j.val) ∧ (128 ≤ j.val ∨ 0 < t.val % 4) := by
      by_contra hn
      exact not_held i j hn hh
    show _ = X m c (ValueIdx.ix3 _ (keyAt _ _ _ _) _)
    rw [halves_apply]
    by_cases hlow : j.val < 128
    · rw [dif_pos hlow, (at_low i j hlow hh'.1.1 hh'.1.2 (by omega)).1]
      exact (hv0 ⟨j.val, hlow⟩ l (hj _)).trans (vp_apply m c t _ l)
    · rw [dif_neg hlow, (at_high i j (by omega) hh'.1.1 hh'.1.2).1]
      exact (hv1 _ l).trans (v_apply m c t _ l)

/-! ## The blocks as the kernel loads them -/

abbrev LoadAt (n a st : ℕ) (off str : Fin 3 → ℕ) : Prop := off 0 = 0 ∧ off 1 = a ∧ off 2 = 0 ∧ str 0 = 1 ∧ str 1 = st ∧ str 2 = 1

/-- A load's bound. -/
abbrev Fits (n : ℕ) (off str : Fin 3 → ℕ) : Prop :=
  ∀ a, (![1, n, 128] : Fin 3 → ℕ) a = 0 ∨ off a + str a * ((![1, n, 128] : Fin 3 → ℕ) a - 1) < (![1, 2048, 128] : Fin 3 → ℕ) a

abbrev loadRect (n : ℕ) (off str : Fin 3 → ℕ) (inb : Fits n off str) : LoadRect ⟨3, ![1, 2048, 128]⟩ := { off := off, size := ![1, n, 128], stride := str, inb := inb }

variable {m}

/-- A load of a point's block, however it is made. -/
abbrev Loads {n : ℕ} (f : Shape.Idx ⟨3, ![1, 2048, 128]⟩ → EReal) (w : Shape.Idx ⟨3, ![1, n, 128]⟩ → EReal) (off str : Fin 3 → ℕ) (inb : Fits n off str) : Prop :=
  ∀ y, w y = f ((loadRect n off str inb).idx y)

theorem scores_later {c : Dev nD} {t : Fin cfg0.N} (g : Fin 3) (start : ℕ) (hst : start + stride g * 127 < 2048) (h128 : start / stride g % 128 = 0)
    (hl : 128 * stride g ≤ start) {d : BitVec 32} (hd : d = bits g) {hb : ∀ a, k0_off1 (grid0.coords t) a + (![1] : Fin 1 → ℕ) a ≤ S4.size a} {z}
    {q : FVec Ideal S1x128x128 .f32} {k : FVec Ideal S1x256x128 .f32}
    {o1 s1 o2 s2 : Fin 3 → ℕ} {f1 : Fits 128 o1 s1} {f2 : Fits 256 o2 s2} (hq : Loads (iblk m c 1 t) q o1 s1 f1) (hk : Loads (iblk m c 2 t) k o2 s2 f2)
    (h1 : LoadAt 128 start (stride g) o1 s1) (h2 : LoadAt 256 (start - 128 * stride g) (stride g) o2 s2) :
    AreScores m c t g start hst (scoreLater d (View.ld (iblk m c 0 t) (Rect.unit (s := S4) (k0_off1 (grid0.coords t)) ![1] hb) z) q k) := by
  subst hd
  rw [slope_eq]
  refine (block_later m c t g start hst h128 hl _ _ (fun y => iblk m c 4 t (LoadRect.idx (loadRect 256 o2 s2 f2) y)) (fun i e => ?_) (fun j e hj => ?_) (fun j e hj => ?_)).1
  · exact (hq _).trans (load_apply _ h1 i e _)
  · exact (hk _).trans (load_apply _ h2 j e hj)
  · exact load_apply _ h2 j e hj

theorem values_later {c : Dev nD} {t : Fin cfg0.N} (g : Fin 3) (start : ℕ) (hst : start + stride g * 127 < 2048) (h128 : start / stride g % 128 = 0)
    (hl : 128 * stride g ≤ start) {v : FVec Ideal S1x256x128 .f32} {o2 s2 : Fin 3 → ℕ} {f2 : Fits 256 o2 s2} (hv : Loads (iblk m c 4 t) v o2 s2 f2)
    (h2 : LoadAt 256 (start - 128 * stride g) (stride g) o2 s2) :
    AreValues m c t g start hst (shapeCast S256x128 v shapeCasts_S1x256x128_S256x128) := by
  have f1 : Fits 128 ![0, start, 0] ![1, stride g, 1] := fun a => by
    refine .inr ?_
    fin_cases a
    · show 0 + 1 * (1 - 1) < 1
      decide
    · show start + stride g * 127 < 2048
      exact hst
    · show 0 + 1 * (128 - 1) < 128
      decide
  refine (block_later m c t g start hst h128 hl (fun y => iblk m c 1 t (LoadRect.idx (loadRect 128 _ _ f1) y)) (fun y => iblk m c 2 t (LoadRect.idx (loadRect 256 o2 s2 f2) y)) _
    (fun i e => ?_) (fun j e hj => ?_) (fun j e hj => ?_)).2
  · exact load_apply _ ⟨rfl, rfl, rfl, rfl, rfl, rfl⟩ i e _
  · exact load_apply _ h2 j e hj
  · exact (hv _).trans (load_apply _ h2 j e hj)

theorem scores_first {c : Dev nD} {t : Fin cfg0.N} (g : Fin 3) (start : ℕ) (hst : start + stride g * 127 < 2048) (h128 : start / stride g % 128 = 0)
    (hf : start < stride g) {d : BitVec 32} (hd : d = bits g) {hb : ∀ a, k0_off1 (grid0.coords t) a + (![1] : Fin 1 → ℕ) a ≤ S4.size a} {z}
    {q k0 k1 : FVec Ideal S1x128x128 .f32}
    {o1 s1 o2 s2 o3 s3 : Fin 3 → ℕ} {f1 : Fits 128 o1 s1} {f2 : Fits 128 o2 s2} {f3 : Fits 128 o3 s3}
    (hq : Loads (iblk m c 1 t) q o1 s1 f1) (hk0 : Loads (iblk m c 3 t) k0 o2 s2 f2) (hk1 : Loads (iblk m c 2 t) k1 o3 s3 f3) (h1 : LoadAt 128 start (stride g) o1 s1)
    (h2 : LoadAt 128 (2048 - 128 * stride g + start) (stride g) o2 s2) (h3 : LoadAt 128 start (stride g) o3 s3) :
    AreScores m c t g start hst (scoreFirst (grid0.coords t) d (View.ld (iblk m c 0 t) (Rect.unit (s := S4) (k0_off1 (grid0.coords t)) ![1] hb) z) q k0 k1) := by
  subst hd
  rw [slope_eq]
  refine (block_first m c t g start hst h128 hf _ _ _ (fun y => iblk m c 5 t (LoadRect.idx (loadRect 128 o2 s2 f2) y)) (fun y => iblk m c 4 t (LoadRect.idx (loadRect 128 o3 s3 f3) y))
    (fun i e => ?_) (fun j e hj => ?_) (fun j e => ?_) (fun j e hj => ?_) (fun j e => ?_)).1
  · exact (hq _).trans (load_apply _ h1 i e _)
  · exact (hk0 _).trans (load_apply _ h2 j e hj)
  · exact (hk1 _).trans (load_apply _ h3 j e _)
  · exact load_apply _ h2 j e hj
  · exact load_apply _ h3 j e _

theorem values_first {c : Dev nD} {t : Fin cfg0.N} (g : Fin 3) (start : ℕ) (hst : start + stride g * 127 < 2048) (h128 : start / stride g % 128 = 0)
    (hf : start < stride g) {v0 v1 : FVec Ideal S1x128x128 .f32} {o2 s2 o3 s3 : Fin 3 → ℕ} {f2 : Fits 128 o2 s2} {f3 : Fits 128 o3 s3}
    (hv0 : Loads (iblk m c 5 t) v0 o2 s2 f2) (hv1 : Loads (iblk m c 4 t) v1 o3 s3 f3)
    (h2 : LoadAt 128 (2048 - 128 * stride g + start) (stride g) o2 s2) (h3 : LoadAt 128 start (stride g) o3 s3) :
    AreValues m c t g start hst (halves v0 v1) := by
  refine (block_first m c t g start hst h128 hf (fun y => iblk m c 1 t (LoadRect.idx (loadRect 128 o3 s3 f3) y)) (fun y => iblk m c 3 t (LoadRect.idx (loadRect 128 o2 s2 f2) y))
    (fun y => iblk m c 2 t (LoadRect.idx (loadRect 128 o3 s3 f3) y)) _ _
    (fun i e => ?_) (fun j e hj => ?_) (fun j e => ?_) (fun j e hj => ?_) (fun j e => ?_)).2
  · exact load_apply _ h3 i e _
  · exact load_apply _ h2 j e hj
  · exact load_apply _ h3 j e _
  · exact (hv0 _).trans (load_apply _ h2 j e hj)
  · exact (hv1 _).trans (load_apply _ h3 j e _)

end Cert.DilatedIdeal.Own

end
-- ==== Proof.DilatedValue.lean ====
/- The dilated attention: what the kernel leaves in its result. -/
module

public import proofs.«01_k».proof.Proof.DilatedTiles

@[expose] public section

set_option maxRecDepth 16384

noncomputable section

namespace Cert.DilatedIdeal.Own

open Cert.DilatedIdeal Cert.DilatedIdeal.Gen
open Idealize.ShloMosaic Idealize.ShloMosaic.TcCoe Idealize.ShloMosaic.Tactic Idealize.SL.Sem
open Idealize.ShloMosaic.Pipeline (Dat)
open Cert.Attention

variable (m : (ℓ : Loc nD τ sig) → Buf (Elt Ideal) ℓ)

/-! ## The three strides put together -/

abbrev Rows := FVec Ideal S1x2048x128 .f32

/-- The greatest of the three greatest scores. -/
abbrev greatest (M : Fin 3 → EReal) : EReal := max (max (M 0) (M 1)) (M 2)

theorem joined_apply (M0 M1 M2 A0 L0 A1 L1 A2 L2 : Rows) (r : Fin 2048) (l : Fin 128) (M A L : Fin 3 → EReal)
    (hM0 : M0 (ValueIdx.ix3 0 r l) = M 0) (hM1 : M1 (ValueIdx.ix3 0 r l) = M 1) (hM2 : M2 (ValueIdx.ix3 0 r l) = M 2)
    (hA0 : A0 (ValueIdx.ix3 0 r l) = A 0) (hA1 : A1 (ValueIdx.ix3 0 r l) = A 1) (hA2 : A2 (ValueIdx.ix3 0 r l) = A 2)
    (hL0 : L0 (ValueIdx.ix3 0 r l) = L 0) (hL1 : L1 (ValueIdx.ix3 0 r l) = L 1) (hL2 : L2 (ValueIdx.ix3 0 r l) = L 2) :
    k0_pay1 (F := Ideal) (k0_pay411 M0 M1 M2) (k0_pay413 M0 M1 M2 M0 A0) (k0_pay414 M0 M1 M2 M0 L0) (k0_pay415 M0 M1 M2 M1) A1 L1 M2 A2 L2 (ValueIdx.ix3 0 r l)
      = Ideal.div (Ideal.exp2 (M 0 - greatest M) * A 0 + Ideal.exp2 (M 1 - greatest M) * A 1 + Ideal.exp2 (M 2 - greatest M) * A 2)
          (Ideal.exp2 (M 0 - greatest M) * L 0 + Ideal.exp2 (M 1 - greatest M) * L 1 + Ideal.exp2 (M 2 - greatest M) * L 2) := by
  simp only [greatest]
  rw [← hM0, ← hM1, ← hM2, ← hA0, ← hA1, ← hA2, ← hL0, ← hL1, ← hL2]
  pointwise [k0_pay1, k0_pay411, k0_pay412, k0_pay413, k0_pay414, k0_pay415]
  rfl

variable {m}

abbrev Stores := List (View.Piece (Elt Ideal) S3x2048x128 .f32)
abbrev Inside (off : Fin 3 → ℕ) : Prop := ∀ a, off a + (![1, 2048, 128] : Fin 3 → ℕ) a ≤ S3x2048x128.size a

/-- What is read back of a scratch. -/
abbrev readBack0 (L : Stores) (off : Fin 3 → ℕ) (inb : Inside off) : Rows := (View.whole cc0_scratch0).readCov L (Rect.unit (s := S3x2048x128) off ![1, 2048, 128] inb).toLoadRect
abbrev readBack1 (L : Stores) (off : Fin 3 → ℕ) (inb : Inside off) : Rows := (View.whole cc0_scratch1).readCov L (Rect.unit (s := S3x2048x128) off ![1, 2048, 128] inb).toLoadRect
abbrev readBack2 (L : Stores) (off : Fin 3 → ℕ) (inb : Inside off) : Rows := (View.whole cc0_scratch2).readCov L (Rect.unit (s := S3x2048x128) off ![1, 2048, 128] inb).toLoadRect

/-- What a point leaves, when every store of its is a tile of its rows' greatest scores, of their sums, or of their weighted values. -/
theorem assembled {c : Dev nD} {t : Fin cfg0.N} {L0 L1 L2 : Stores}
    (h0 : List.Forall₂ (TileAt (sumsV m c t)) L0 tiles) (h1 : List.Forall₂ (TileAt (tops m c t)) L1 tiles) (h2 : List.Forall₂ (TileAt (sums m c t)) L2 tiles)
    {i0 : Inside ![0, 0, 0]}
    {i1 : Inside ![1, 0, 0]}
    {i2 : Inside ![2, 0, 0]} (r : Fin 2048) (l : Fin 128) :
    k0_pay1 (F := Ideal)
      (k0_pay411 (readBack1 L1 ![0, 0, 0] i0) (readBack1 L1 ![1, 0, 0] i1) (readBack1 L1 ![2, 0, 0] i2))
      (k0_pay413 (readBack1 L1 ![0, 0, 0] i0) (readBack1 L1 ![1, 0, 0] i1) (readBack1 L1 ![2, 0, 0] i2) (readBack1 L1 ![0, 0, 0] i0) (readBack0 L0 ![0, 0, 0] i0))
      (k0_pay414 (readBack1 L1 ![0, 0, 0] i0) (readBack1 L1 ![1, 0, 0] i1) (readBack1 L1 ![2, 0, 0] i2) (readBack1 L1 ![0, 0, 0] i0) (readBack2 L2 ![0, 0, 0] i0))
      (k0_pay415 (readBack1 L1 ![0, 0, 0] i0) (readBack1 L1 ![1, 0, 0] i1) (readBack1 L1 ![2, 0, 0] i2) (readBack1 L1 ![1, 0, 0] i1))
      (readBack0 L0 ![1, 0, 0] i1)
      (readBack2 L2 ![1, 0, 0] i1)
      (readBack1 L1 ![2, 0, 0] i2)
      (readBack0 L0 ![2, 0, 0] i2)
      (readBack2 L2 ![2, 0, 0] i2)
      (ValueIdx.ix3 0 r l)
      = Ideal.div
          (Ideal.exp2 (top (sc m c t 0 r) - greatest fun g => top (sc m c t g r)) * (∑ k, Ideal.exp2 (sc m c t 0 r k - top (sc m c t 0 r)) * val m c t 0 r l k)
            + Ideal.exp2 (top (sc m c t 1 r) - greatest fun g => top (sc m c t g r)) * (∑ k, Ideal.exp2 (sc m c t 1 r k - top (sc m c t 1 r)) * val m c t 1 r l k)
            + Ideal.exp2 (top (sc m c t 2 r) - greatest fun g => top (sc m c t g r)) * (∑ k, Ideal.exp2 (sc m c t 2 r k - top (sc m c t 2 r)) * val m c t 2 r l k))
          (Ideal.exp2 (top (sc m c t 0 r) - greatest fun g => top (sc m c t g r)) * (∑ k, Ideal.exp2 (sc m c t 0 r k - top (sc m c t 0 r)))
            + Ideal.exp2 (top (sc m c t 1 r) - greatest fun g => top (sc m c t g r)) * (∑ k, Ideal.exp2 (sc m c t 1 r k - top (sc m c t 1 r)))
            + Ideal.exp2 (top (sc m c t 2 r) - greatest fun g => top (sc m c t g r)) * (∑ k, Ideal.exp2 (sc m c t 2 r k - top (sc m c t 2 r)))) :=
  joined_apply _ _ _ _ _ _ _ _ _ r l (fun g => top (sc m c t g r)) (fun g => ∑ k, Ideal.exp2 (sc m c t g r k - top (sc m c t g r)) * val m c t g r l k)
    (fun g => ∑ k, Ideal.exp2 (sc m c t g r k - top (sc m c t g r)))
    (read_tiles _ (tops m c t) L1 h1 0 _ i0 ⟨rfl, rfl, rfl⟩ 0 r l) (read_tiles _ (tops m c t) L1 h1 1 _ i1 ⟨rfl, rfl, rfl⟩ 0 r l) (read_tiles _ (tops m c t) L1 h1 2 _ i2 ⟨rfl, rfl, rfl⟩ 0 r l)
    (read_tiles _ (sumsV m c t) L0 h0 0 _ i0 ⟨rfl, rfl, rfl⟩ 0 r l) (read_tiles _ (sumsV m c t) L0 h0 1 _ i1 ⟨rfl, rfl, rfl⟩ 0 r l) (read_tiles _ (sumsV m c t) L0 h0 2 _ i2 ⟨rfl, rfl, rfl⟩ 0 r l)
    (read_tiles _ (sums m c t) L2 h2 0 _ i0 ⟨rfl, rfl, rfl⟩ 0 r l) (read_tiles _ (sums m c t) L2 h2 1 _ i1 ⟨rfl, rfl, rfl⟩ 0 r l) (read_tiles _ (sums m c t) L2 h2 2 _ i2 ⟨rfl, rfl, rfl⟩ 0 r l)

variable (m)

set_option maxHeartbeats 4000000 in
theorem final (c : Dev nD) (R : FVec Ideal S2x8192x512 .bf16) (hM : ∀ t g r, IsReal (top (sc m c t g r)))
    (hR : ∀ (t : Fin cfg0.N) (r : Fin 2048) (l : Fin 128),
      Ideal.div
          (Ideal.exp2 (top (sc m c t 0 r) - greatest fun g => top (sc m c t g r)) * (∑ k, Ideal.exp2 (sc m c t 0 r k - top (sc m c t 0 r)) * val m c t 0 r l k)
            + Ideal.exp2 (top (sc m c t 1 r) - greatest fun g => top (sc m c t g r)) * (∑ k, Ideal.exp2 (sc m c t 1 r k - top (sc m c t 1 r)) * val m c t 1 r l k)
            + Ideal.exp2 (top (sc m c t 2 r) - greatest fun g => top (sc m c t g r)) * (∑ k, Ideal.exp2 (sc m c t 2 r k - top (sc m c t 2 r)) * val m c t 2 r l k))
          (Ideal.exp2 (top (sc m c t 0 r) - greatest fun g => top (sc m c t g r)) * (∑ k, Ideal.exp2 (sc m c t 0 r k - top (sc m c t 0 r)))
            + Ideal.exp2 (top (sc m c t 1 r) - greatest fun g => top (sc m c t g r)) * (∑ k, Ideal.exp2 (sc m c t 1 r k - top (sc m c t 1 r)))
            + Ideal.exp2 (top (sc m c t 2 r) - greatest fun g => top (sc m c t g r)) * (∑ k, Ideal.exp2 (sc m c t 2 r k - top (sc m c t 2 r))))
        = R (ValueIdx.ix3 (batch t) (rowOf t r) ⟨(head t).val * 128 + l.val, by have := (head t).isLt; omega⟩)) :
    (dats m 0 c).arrAt 6 (cfgs 0).N = R := by
  refine (dats m 0 c).arrAt_eq_of_covers 6 _ (by decide +kernel) fun t _ y => ?_
  obtain ⟨z, r, l, rfl⟩ : ∃ (z : Fin 1) (r : Fin 2048) (l : Fin 128), y = ValueIdx.ix3 z r l := ⟨y 0, y 1, y 2, by funext a; fin_cases a <;> rfl⟩
  obtain rfl : z = 0 := Subsingleton.elim _ _
  have hy : R (((View.whole main_v0).slice (win0_6.rect t)).emb (ValueIdx.ix3 0 r l)) = R (ValueIdx.ix3 (batch t) (rowOf t r) ⟨(head t).val * 128 + l.val, by have := (head t).isLt; omega⟩) := by
    blk_point [idx t]
  blk_simp
  rw [after0_6]
  unfold outsAt0
  unfold out0_A_6
  frame_out
  refine Eq.trans ?_ ((hR t r l).trans hy.symm)
  refine assembled ?_ ?_ ?_ r l
  all_goals unfold tiles
  all_goals clear hR hy
  · repeat' (refine List.Forall₂.cons ?_ ?_)
    rotate_left 48
    · exact List.Forall₂.nil
    all_goals unfold TileAt
    all_goals refine isTile _ _ _ ?_ ?_ ?_ ?_
    all_goals first
      | decide
      | exact ⟨rfl, rfl, rfl⟩
      | exact ⟨rfl, rfl, rfl, rfl⟩
      | skip
    all_goals refine fun i l => AreScores.sumsV (hst := ?_) ?_ ?_ ?_ (fun i => hM _ _ _) i l
    all_goals first
      | decide
      | skip
    all_goals first
      | decide
      | exact scores_first _ _ _ (by decide) (by decide) rfl (fun y => Memref.IsWhole.readAt_unread _ _ _ _) (fun y => Memref.IsWhole.readAt_unread _ _ _ _) (fun y => Memref.IsWhole.readAt_unread _ _ _ _) ⟨rfl, rfl, rfl, rfl, rfl, rfl⟩ ⟨rfl, rfl, rfl, rfl, rfl, rfl⟩ ⟨rfl, rfl, rfl, rfl, rfl, rfl⟩
      | exact scores_later _ _ _ (by decide) (by decide) rfl (fun y => Memref.IsWhole.readAt_unread _ _ _ _) (fun y => Memref.IsWhole.readAt_unread _ _ _ _) ⟨rfl, rfl, rfl, rfl, rfl, rfl⟩ ⟨rfl, rfl, rfl, rfl, rfl, rfl⟩
      | exact scores_first _ _ _ (by decide) (by decide) rfl (fun y => rfl) (fun y => rfl) (fun y => rfl) ⟨rfl, rfl, rfl, rfl, rfl, rfl⟩ ⟨rfl, rfl, rfl, rfl, rfl, rfl⟩ ⟨rfl, rfl, rfl, rfl, rfl, rfl⟩
      | exact scores_later _ _ _ (by decide) (by decide) rfl (fun y => rfl) (fun y => rfl) ⟨rfl, rfl, rfl, rfl, rfl, rfl⟩ ⟨rfl, rfl, rfl, rfl, rfl, rfl⟩
      | exact values_first _ _ _ (by decide) (by decide) (fun y => Memref.IsWhole.readAt_unread _ _ _ _) (fun y => Memref.IsWhole.readAt_unread _ _ _ _) ⟨rfl, rfl, rfl, rfl, rfl, rfl⟩ ⟨rfl, rfl, rfl, rfl, rfl, rfl⟩
      | exact values_later _ _ _ (by decide) (by decide) (fun y => Memref.IsWhole.readAt_unread _ _ _ _) ⟨rfl, rfl, rfl, rfl, rfl, rfl⟩
      | exact values_first _ _ _ (by decide) (by decide) (fun y => rfl) (fun y => rfl) ⟨rfl, rfl, rfl, rfl, rfl, rfl⟩ ⟨rfl, rfl, rfl, rfl, rfl, rfl⟩
      | exact values_later _ _ _ (by decide) (by decide) (fun y => rfl) ⟨rfl, rfl, rfl, rfl, rfl, rfl⟩
  · repeat' (refine List.Forall₂.cons ?_ ?_)
    rotate_left 48
    · exact List.Forall₂.nil
    all_goals unfold TileAt
    all_goals refine isTile _ _ _ ?_ ?_ ?_ ?_
    all_goals first
      | decide
      | exact ⟨rfl, rfl, rfl⟩
      | exact ⟨rfl, rfl, rfl, rfl⟩
      | skip
    all_goals refine fun i l => AreScores.tops (hst := ?_) ?_ i l
    all_goals first
      | decide
      | exact scores_first _ _ _ (by decide) (by decide) rfl (fun y => Memref.IsWhole.readAt_unread _ _ _ _) (fun y => Memref.IsWhole.readAt_unread _ _ _ _) (fun y => Memref.IsWhole.readAt_unread _ _ _ _) ⟨rfl, rfl, rfl, rfl, rfl, rfl⟩ ⟨rfl, rfl, rfl, rfl, rfl, rfl⟩ ⟨rfl, rfl, rfl, rfl, rfl, rfl⟩
      | exact scores_later _ _ _ (by decide) (by decide) rfl (fun y => Memref.IsWhole.readAt_unread _ _ _ _) (fun y => Memref.IsWhole.readAt_unread _ _ _ _) ⟨rfl, rfl, rfl, rfl, rfl, rfl⟩ ⟨rfl, rfl, rfl, rfl, rfl, rfl⟩
      | exact scores_first _ _ _ (by decide) (by decide) rfl (fun y => rfl) (fun y => rfl) (fun y => rfl) ⟨rfl, rfl, rfl, rfl, rfl, rfl⟩ ⟨rfl, rfl, rfl, rfl, rfl, rfl⟩ ⟨rfl, rfl, rfl, rfl, rfl, rfl⟩
      | exact scores_later _ _ _ (by decide) (by decide) rfl (fun y => rfl) (fun y => rfl) ⟨rfl, rfl, rfl, rfl, rfl, rfl⟩ ⟨rfl, rfl, rfl, rfl, rfl, rfl⟩
  · repeat' (refine List.Forall₂.cons ?_ ?_)
    rotate_left 48
    · exact List.Forall₂.nil
    all_goals unfold TileAt
    all_goals refine isTile _ _ _ ?_ ?_ ?_ ?_
    all_goals first
      | decide
      | exact ⟨rfl, rfl, rfl⟩
      | exact ⟨rfl, rfl, rfl, rfl⟩
      | skip
    all_goals refine fun i l => AreScores.sums (hst := ?_) ?_ i l
    all_goals first
      | decide
      | exact scores_first _ _ _ (by decide) (by decide) rfl (fun y => Memref.IsWhole.readAt_unread _ _ _ _) (fun y => Memref.IsWhole.readAt_unread _ _ _ _) (fun y => Memref.IsWhole.readAt_unread _ _ _ _) ⟨rfl, rfl, rfl, rfl, rfl, rfl⟩ ⟨rfl, rfl, rfl, rfl, rfl, rfl⟩ ⟨rfl, rfl, rfl, rfl, rfl, rfl⟩
      | exact scores_later _ _ _ (by decide) (by decide) rfl (fun y => Memref.IsWhole.readAt_unread _ _ _ _) (fun y => Memref.IsWhole.readAt_unread _ _ _ _) ⟨rfl, rfl, rfl, rfl, rfl, rfl⟩ ⟨rfl, rfl, rfl, rfl, rfl, rfl⟩
      | exact scores_first _ _ _ (by decide) (by decide) rfl (fun y => rfl) (fun y => rfl) (fun y => rfl) ⟨rfl, rfl, rfl, rfl, rfl, rfl⟩ ⟨rfl, rfl, rfl, rfl, rfl, rfl⟩ ⟨rfl, rfl, rfl, rfl, rfl, rfl⟩
      | exact scores_later _ _ _ (by decide) (by decide) rfl (fun y => rfl) (fun y => rfl) ⟨rfl, rfl, rfl, rfl, rfl, rfl⟩ ⟨rfl, rfl, rfl, rfl, rfl, rfl⟩

end Cert.DilatedIdeal.Own

end
-- ==== Proof.DilatedRefValue.lean ====
/- The dilated attention: the reference's stages read at an index. -/
module

public import proofs.«01_k».proof.Proof.Gen.DilatedRefIdeal.Run
public import proofs.«01_k».proof.Proof.RouterMath
public import proofs.«01_k».proof.Proof.DilatedMath
public import Idealize.ShloMosaic.Lib.Pipeline.ValueKit
public import Idealize.ShloMosaic.Lib.Pointwise
public import Idealize.ShloMosaic.Lib.ValueIdx

@[expose] public section

set_option maxRecDepth 16384

noncomputable section

namespace Cert.DilatedRefIdeal.Own

open Cert.DilatedRefIdeal Cert.DilatedRefIdeal.Gen
open Idealize.ShloMosaic Idealize.ShloMosaic.TcCoe Idealize.ShloMosaic.Tactic Idealize.SL.Sem
open Cert.Attention

/-- The exponentials of every head's scores. -/
def powers (x : FVec Ideal S2x8192x2048 .f32) (sl : FVec Ideal S4 .f32) : FVec Ideal S2x4x8192x8192 .f32 :=
  Host.exp (subf (mulf (Host.dotGeneral dot_S2x8192x4x128_S2x8192x4x128_S2x4x8192x8192_3_3_1_1_02_02 none (shapeCast _ (extractStridedSlice S2x8192x512 ![0, 0, 0] x slices_S2x8192x2048_S2x8192x512_0_0_0) shapeCasts_S2x8192x512_S2x8192x4x128) (shapeCast _ (extractStridedSlice S2x8192x512 ![0, 0, 512] x slices_S2x8192x2048_S2x8192x512_0_0_512) shapeCasts_S2x8192x512_S2x8192x4x128)) (broadcastInDim S2x4x8192x8192 ![] bcast_S_S2x4x8192x8192 (Host.log (constant S_ .f32 0x40000000#32)))) (broadcastInDim S2x4x8192x8192 ![0, 1, 2, 3] bcast_S1x4x8192x8192_S2x4x8192x8192_0_1_2_3 (mulf (broadcastInDim S1x4x8192x8192 ![0, 1, 2, 3] bcast_S1x4x1x1_S1x4x8192x8192_0_1_2_3 (broadcastInDim S1x4x1x1 ![1] bcast_S4_S1x4x1x1_1 sl)) (broadcastInDim S1x4x8192x8192 ![0, 1, 2, 3] bcast_S1x1x8192x8192_S1x4x8192x8192_0_1_2_3 (broadcastInDim S1x1x8192x8192 ![2, 3] bcast_S8192x8192_S1x1x8192x8192_2_3 (subf (broadcastInDim S8192x8192 ![0, 1] bcast_S8192x1_S8192x8192_0_1 (broadcastInDim S8192x1 ![0] bcast_S8192_S8192x1_0 (sitofp .f32 (iotaInDim S8192 32 0)))) (broadcastInDim S8192x8192 ![0, 1] bcast_S1x8192_S8192x8192_0_1 (broadcastInDim S1x8192 ![1] bcast_S8192_S1x8192_1 (sitofp .f32 (iotaInDim S8192 32 0))))))))))

/-- Which keys a row sees at a stride. -/
def seen (d w : BitVec 32) : IVec S8192x8192 1 :=
  andi (andi (cmpi .eq (broadcastInDim S8192x8192 ![0, 1] bcast_S8192x1_S8192x8192_0_1 (broadcastInDim S8192x1 ![0] bcast_S8192_S8192x1_0 (Host.remsi (iotaInDim S8192 32 0) (broadcastInDim S8192 ![] bcast_S_S8192 (constantI S_ 32 d))))) (broadcastInDim S8192x8192 ![0, 1] bcast_S1x8192_S8192x8192_0_1 (broadcastInDim S1x8192 ![1] bcast_S8192_S1x8192_1 (Host.remsi (iotaInDim S8192 32 0) (broadcastInDim S8192 ![] bcast_S_S8192 (constantI S_ 32 d)))))) (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (cmpi .sle (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (addi (broadcastInDim S1x8192 ![1] bcast_S8192_S1x8192_1 (iotaInDim S8192 32 0)) (broadcastInDim S1x8192 ![] bcast_S_S1x8192 (constantI S_ 32 w)))))

/-- The exponentials of the keys seen, and nothing of the others. -/
def kept (s : IVec S8192x8192 1) (p : FVec Ideal S2x4x8192x8192 .f32) : FVec Ideal S2x4x8192x8192 .f32 :=
  select (broadcastInDim S2x4x8192x8192 ![0, 1, 2, 3] bcast_S1x1x8192x8192_S2x4x8192x8192_0_1_2_3 (broadcastInDim S1x1x8192x8192 ![2, 3] bcast_S8192x8192_S1x1x8192x8192_2_3 s)) p (broadcastInDim S2x4x8192x8192 ![] bcast_S_S2x4x8192x8192 (id (constant S_ .f32 0x00000000#32)))

/-- The values weighted by one stride's exponentials. -/
def weighted (x : FVec Ideal S2x8192x2048 .f32) (p : FVec Ideal S2x4x8192x8192 .f32) : FVec Ideal S2x4x8192x128 .f32 :=
  Host.dotGeneral dot_S2x4x8192x8192_S2x8192x4x128_S2x4x8192x128_3_1_2_3_01_02 none p (shapeCast _ (extractStridedSlice S2x8192x512 ![0, 0, 1024] x slices_S2x8192x2048_S2x8192x512_0_0_1024) shapeCasts_S2x8192x512_S2x8192x4x128)

/-- The sum of one stride's exponentials. -/
def total (p : FVec Ideal S2x4x8192x8192 .f32) : FVec Ideal S2x4x8192 .f32 :=
  Host.reduceAdd p (constant S_ .f32 0x00000000#32) reducesTo_S2x4x8192x8192_S2x4x8192_d3 h_S_

/-- Weighted values over their total, all heads side by side. -/
def joined (n : FVec Ideal S2x4x8192x128 .f32) (d : FVec Ideal S2x4x8192 .f32) : FVec Ideal S2x8192x512 .bf16 :=
  truncf .bf16 (shapeCast _ (transpose S2x8192x4x128 [0, 2, 1, 3] (Host.divf n (broadcastInDim S2x4x8192x128 ![0, 1, 2, 3] bcast_S2x4x8192x1_S2x4x8192x128_0_1_2_3 (broadcastInDim S2x4x8192x1 ![0, 1, 2] bcast_S2x4x8192_S2x4x8192x1_0_1_2 d))) transposes_S2x4x8192x128_S2x8192x4x128_0_2_1_3) shapeCasts_S2x8192x4x128_S2x8192x512) bitsLt_bf16_f32

/-- The reference's result. -/
def result (x : FVec Ideal S2x8192x2048 .f32) (sl : FVec Ideal S4 .f32) : FVec Ideal S2x8192x512 .bf16 :=
  joined (addf (addf (weighted x (kept (seen 1#32 128#32) (powers x sl))) (weighted x (kept (seen 4#32 512#32) (powers x sl)))) (weighted x (kept (seen 16#32 2048#32) (powers x sl))))
    (addf (addf (total (kept (seen 1#32 128#32) (powers x sl))) (total (kept (seen 4#32 512#32) (powers x sl)))) (total (kept (seen 16#32 2048#32) (powers x sl))))

theorem result_eq (m : (ℓ : Loc nD τ sig) → Buf (Elt Ideal) ℓ) (c : Dev nD) : Value.res_out0 m c
    = result (m ((c.tc : Thread nD τ).loc main_arg0)) (m ((c.tc : Thread nD τ).loc main_arg1)) := rfl

/-- A query column of a head. -/
abbrev query (h : Fin 4) (e : Fin 128) : Fin 2048 := ⟨h.val * 128 + e.val, by have := h.isLt; omega⟩

/-- A column of a head: from `512` among the keys, from `1024` among the values. -/
abbrev col (o : ℕ) (ho : o ≤ 1024) (h : Fin 4) (e : Fin 128) : Fin 2048 := ⟨o + (h.val * 128 + e.val), by have := h.isLt; omega⟩

/-- The exponent of a row's key. -/
def exponent (x : FVec Ideal S2x8192x2048 .f32) (sl : FVec Ideal S4 .f32) (b : Fin 2) (h : Fin 4) (t j : Fin 8192) : EReal :=
  (∑ e : Fin 128, x (ValueIdx.ix3 b t (query h e)) * x (ValueIdx.ix3 b j (col 512 (by decide) h e))) * ((Real.log 2 : ℝ) : EReal)
    - sl (ValueIdx.ix1 h) * (((t.val : ℝ) : EReal) - ((j.val : ℝ) : EReal))

theorem two : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [two, Ideal.log_coe, if_neg (by norm_num)]

theorem powers_apply (x : FVec Ideal S2x8192x2048 .f32) (sl : FVec Ideal S4 .f32) (b : Fin 2) (h : Fin 4) (t j : Fin 8192) :
    powers x sl (ValueIdx.ix4 b h t j) = Ideal.exp (exponent x sl b h t j) := by
  have e : powers x sl (ValueIdx.ix4 b h t j) = Ideal.exp ((∑ e : Fin 128, x (ValueIdx.ix3 b t (query h e)) * x (ValueIdx.ix3 b j (col 512 (by decide) h e)))
      * Ideal.log (Ideal.ofBits .f32 0x40000000#32) - sl (ValueIdx.ix1 h) * (FloatOps.sitofp (F := Ideal) .f32 (BitVec.ofNat 32 t.val) - FloatOps.sitofp (F := Ideal) .f32 (BitVec.ofNat 32 j.val))) := by
    unfold powers
    pointwise
    rfl
  rw [e, log_two, Cert.Routing.lane_float _ (by omega), Cert.Routing.lane_float _ (by omega)]
  rfl

theorem kept_apply (s : IVec S8192x8192 1) (p : FVec Ideal S2x4x8192x8192 .f32) (b : Fin 2) (h : Fin 4) (t j : Fin 8192) :
    kept s p (ValueIdx.ix4 b h t j) = Scalar.select (s (ValueIdx.ix2 t j)) (p (ValueIdx.ix4 b h t j)) (0 : EReal) := by
  unfold kept
  rw [show (id (constant S_ .f32 0x00000000#32) : FVec Ideal S_ .f32) = constant S_ .f32 0x00000000#32 from rfl]
  pointwise
  rfl

theorem weighted_apply (x : FVec Ideal S2x8192x2048 .f32) (p : FVec Ideal S2x4x8192x8192 .f32) (b : Fin 2) (h : Fin 4) (t : Fin 8192) (l : Fin 128) :
    weighted x p (ValueIdx.ix4 b h t l) = ∑ j : Fin 8192, p (ValueIdx.ix4 b h t j) * x (ValueIdx.ix3 b j (col 1024 (by decide) h l)) := by
  unfold weighted
  pointwise
  rfl

theorem total_apply (p : FVec Ideal S2x4x8192x8192 .f32) (b : Fin 2) (h : Fin 4) (t : Fin 8192) :
    total p (ValueIdx.ix3 b h t) = ∑ j : Fin 8192, p (ValueIdx.ix4 b h t j) := by
  unfold total
  pointwise
  rfl

theorem joined_apply (n : FVec Ideal S2x4x8192x128 .f32) (d : FVec Ideal S2x4x8192 .f32) (b : Fin 2) (h : Fin 4) (t : Fin 8192) (l : Fin 128) :
    joined n d (ValueIdx.ix3 b t ⟨h.val * 128 + l.val, by have := h.isLt; omega⟩) = Ideal.div (n (ValueIdx.ix4 b h t l)) (d (ValueIdx.ix3 b h t)) := by
  have e1 : (⟨(h.val * 128 + l.val) / 128, by have := h.isLt; omega⟩ : Fin 4) = h := Fin.ext (by show (h.val * 128 + l.val) / 128 = h.val; omega)
  have e2 : (⟨(h.val * 128 + l.val) % 128, by omega⟩ : Fin 128) = l := Fin.ext (by show (h.val * 128 + l.val) % 128 = l.val; omega)
  have e : joined n d (ValueIdx.ix3 b t ⟨h.val * 128 + l.val, by have := h.isLt; omega⟩)
      = Ideal.div (n (ValueIdx.ix4 b ⟨(h.val * 128 + l.val) / 128, by have := h.isLt; omega⟩ t ⟨(h.val * 128 + l.val) % 128, by omega⟩))
          (d (ValueIdx.ix3 b ⟨(h.val * 128 + l.val) / 128, by have := h.isLt; omega⟩ t)) := by
    unfold joined
    pointwise
    rfl
  rw [e, e1, e2]

theorem word_eq (a b : ℕ) (ha : a < 16384) (hb : b < 16384) : IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  rw [beq_eq_decide]
  refine decide_eq_decide.mpr ⟨fun h => ?_, fun h => by rw [h]⟩
  have := congrArg BitVec.toNat h
  rw [BitVec.toNat_ofNat, BitVec.toNat_ofNat, Nat.mod_eq_of_lt (by omega), Nat.mod_eq_of_lt (by omega)] at this
  exact this

theorem word_sle (a b : ℕ) (ha : a < 16384) (hb : b < 16384) : IntOp.cmpi .sle (BitVec.ofNat 32 a) (BitVec.ofNat 32 b) = BitVec.ofBool (decide (a ≤ b)) := by
  show BitVec.ofBool (BitVec.sle (BitVec.ofNat 32 a) (BitVec.ofNat 32 b)) = _
  rw [BitVec.sle_eq_decide, Cert.Routing.lane_toInt a ha, Cert.Routing.lane_toInt b hb]
  simp only [Nat.cast_le]

/-- The classes a row and a key fall in, as a word. -/
theorem seen_apply (D W : ℕ) (hW : W < 8192) (hD : ∀ i : Fin 8192, IntOp.remsi .host (BitVec.ofNat 32 i.val) (BitVec.ofNat 32 D) = BitVec.ofNat 32 (i.val % D)) (t j : Fin 8192) :
    seen (BitVec.ofNat 32 D) (BitVec.ofNat 32 W) (ValueIdx.ix2 t j) = BitVec.ofBool (decide ((t.val % D = j.val % D ∧ j.val ≤ t.val) ∧ t.val ≤ j.val + W)) := by
  unfold seen
  pointwise
  show IntOp.andi (IntOp.andi (IntOp.cmpi .eq (IntOp.remsi .host (BitVec.ofNat 32 t.val) (BitVec.ofNat 32 D)) (IntOp.remsi .host (BitVec.ofNat 32 j.val) (BitVec.ofNat 32 D)))
    (IntOp.cmpi .sle (BitVec.ofNat 32 j.val) (BitVec.ofNat 32 t.val))) (IntOp.cmpi .sle (BitVec.ofNat 32 t.val) (BitVec.ofNat 32 j.val + BitVec.ofNat 32 W)) = _
  rw [hD, hD, ← BitVec.ofNat_add, word_eq _ _ (by have := Nat.mod_le t.val D; omega) (by have := Nat.mod_le j.val D; omega), word_sle _ _ (by omega) (by omega),
    word_sle _ _ (by omega) (by omega), Cert.Routing.andi_ofBool, Cert.Routing.andi_ofBool]

theorem class1 : ∀ i : Fin 8192, IntOp.remsi .host (BitVec.ofNat 32 i.val) (BitVec.ofNat 32 1) = BitVec.ofNat 32 (i.val % 1) := by decide +kernel
theorem class4 : ∀ i : Fin 8192, IntOp.remsi .host (BitVec.ofNat 32 i.val) (BitVec.ofNat 32 4) = BitVec.ofNat 32 (i.val % 4) := by decide +kernel
theorem class16 : ∀ i : Fin 8192, IntOp.remsi .host (BitVec.ofNat 32 i.val) (BitVec.ofNat 32 16) = BitVec.ofNat 32 (i.val % 16) := by decide +kernel

variable (x : FVec Ideal S2x8192x2048 .f32) (sl : FVec Ideal S4 .f32) (b : Fin 2) (h : Fin 4) (t : Fin 8192)

/-- One stride's sum of the keys seen. -/
abbrev seenSum (D : ℕ) (f : Fin 8192 → EReal) : EReal := ∑ j : Fin 8192, if Seen D t.val j.val then f j else 0

theorem kept_eq (D : ℕ) (hW : 128 * D < 8192) (hD : ∀ i : Fin 8192, IntOp.remsi .host (BitVec.ofNat 32 i.val) (BitVec.ofNat 32 D) = BitVec.ofNat 32 (i.val % D)) (j : Fin 8192) :
    kept (seen (BitVec.ofNat 32 D) (BitVec.ofNat 32 (128 * D))) (powers x sl) (ValueIdx.ix4 b h t j) = if Seen D t.val j.val then Ideal.exp (exponent x sl b h t j) else 0 := by
  rw [kept_apply, seen_apply D (128 * D) hW hD, powers_apply, Cert.Routing.select_ofBool]

theorem weighted_eq (D : ℕ) (hW : 128 * D < 8192) (hD : ∀ i : Fin 8192, IntOp.remsi .host (BitVec.ofNat 32 i.val) (BitVec.ofNat 32 D) = BitVec.ofNat 32 (i.val % D)) (l : Fin 128) :
    weighted x (kept (seen (BitVec.ofNat 32 D) (BitVec.ofNat 32 (128 * D))) (powers x sl)) (ValueIdx.ix4 b h t l)
      = seenSum t D fun j => Ideal.exp (exponent x sl b h t j) * x (ValueIdx.ix3 b j (col 1024 (by decide) h l)) := by
  rw [weighted_apply]
  refine Finset.sum_congr rfl fun j _ => ?_
  rw [kept_eq x sl b h t D hW hD]
  split
  · rfl
  · exact zero_mul _

theorem total_eq (D : ℕ) (hW : 128 * D < 8192) (hD : ∀ i : Fin 8192, IntOp.remsi .host (BitVec.ofNat 32 i.val) (BitVec.ofNat 32 D) = BitVec.ofNat 32 (i.val % D)) :
    total (kept (seen (BitVec.ofNat 32 D) (BitVec.ofNat 32 (128 * D))) (powers x sl)) (ValueIdx.ix3 b h t)
      = seenSum t D fun j => Ideal.exp (exponent x sl b h t j) := by
  rw [total_apply]
  exact Finset.sum_congr rfl fun j _ => kept_eq x sl b h t D hW hD j

theorem result_apply (l : Fin 128) :
    result x sl (ValueIdx.ix3 b t ⟨h.val * 128 + l.val, by have := h.isLt; omega⟩) = Ideal.div
      (seenSum t 1 (fun j => Ideal.exp (exponent x sl b h t j) * x (ValueIdx.ix3 b j (col 1024 (by decide) h l)))
        + seenSum t 4 (fun j => Ideal.exp (exponent x sl b h t j) * x (ValueIdx.ix3 b j (col 1024 (by decide) h l)))
        + seenSum t 16 (fun j => Ideal.exp (exponent x sl b h t j) * x (ValueIdx.ix3 b j (col 1024 (by decide) h l))))
      (seenSum t 1 (fun j => Ideal.exp (exponent x sl b h t j)) + seenSum t 4 (fun j => Ideal.exp (exponent x sl b h t j))
        + seenSum t 16 (fun j => Ideal.exp (exponent x sl b h t j))) := by
  have n1 := weighted_eq x sl b h t 1 (by decide) class1 l
  have n4 := weighted_eq x sl b h t 4 (by decide) class4 l
  have n16 := weighted_eq x sl b h t 16 (by decide) class16 l
  have d1 := total_eq x sl b h t 1 (by decide) class1
  have d4 := total_eq x sl b h t 4 (by decide) class4
  have d16 := total_eq x sl b h t 16 (by decide) class16
  unfold result
  rw [joined_apply, ← n1, ← n4, ← n16, ← d1, ← d4, ← d16]
  rfl

end Cert.DilatedRefIdeal.Own

end
-- ==== Proof.DilatedClaims.lean ====
/- The claims about the dilated attention: the reference's frame and the equality of results. -/
module

public import proofs.«01_k».proof.Defs
public import proofs.«01_k».proof.Proof.Gen.DilatedIdeal
public import proofs.«01_k».proof.Proof.Gen.DilatedRefIdeal
public import proofs.«01_k».proof.Proof.DilatedValue
public import proofs.«01_k».proof.Proof.DilatedRefValue
public import proofs.«01_k».proof.Proof.CrossClaims
public import proofs.«01_k».proof.Proof.Gen.Pre_dilated_finite
public import Idealize.ShloMosaic.Adequacy
public import Idealize.ShloMosaic.Init
public import Idealize.ShloMosaic.Lib.Quiescent

@[expose] public section

noncomputable section

namespace Cert.Dilates

open Idealize.ShloMosaic Idealize.SL.Sem
open Cert.Attention
open Cert.DilatedIdeal.Own (stride bits score keyAt sc place top rowOf batch head)
open Cert.DilatedRefIdeal.Own (exponent seenSum)

theorem frame_reference : Cert.quiescent_DilatedRefIdeal := fun m ρ _ =>
  (θ_run _ _ _).mono (fun r h => ⟨fun c => (h c).2, sem_eq_zero_of_no_sems (by decide) r.2⟩) (Cert.DilatedRefIdeal.Value.run (F := Ideal) m ρ)

/-- What the precondition says of the two arrays. -/
theorem finite {x : FVec Ideal Cert.Pre_dilated_finite.S2x8192x2048 .f32} {sl : FVec Ideal Cert.Pre_dilated_finite.S4 .f32}
    (h : (Cert.Pre_dilated_finite.fn (F := Ideal) x sl).1 = (fun _ => 1#1) ∧ (Cert.Pre_dilated_finite.fn (F := Ideal) x sl).2 = (fun _ => 1#1)) :
    (∀ (b : Fin 2) (t : Fin 8192) (n : Fin 2048), n.val < 1024 → IsReal (x (ValueIdx.ix3 b t n))) ∧ ∀ j : Fin 4, IsReal (sl (ValueIdx.ix1 j)) := by
  obtain ⟨h0, h1⟩ := h
  refine ⟨fun b t n hn => ?_, fun j => Cert.Crosses.isReal_of_less _ (congrFun h1 (ValueIdx.ix1 j))⟩
  refine Cert.Crosses.isReal_of_less _ (Eq.trans ?_ (congrFun h0 (ValueIdx.ix3 b t ⟨n.val, hn⟩)))
  simp only [Cert.Pre_dilated_finite.fn]
  pointwise
  rfl

/-! ## One row of one head -/

theorem zero_bits : Ideal.ofBits .f32 0x00000000#32 = ((0 : ℝ) : EReal) := by simp [Ideal.ofBits, Ideal.ieee]

theorem bits_eq : ∀ g : Fin 3, Ideal.ofBits .f32 (bits g) = (((stride g : ℕ) : ℝ) : EReal) := by
  have h0 : Ideal.ofBits .f32 0x3F800000#32 = ((1 : ℝ) : EReal) := by
    simp [Ideal.ofBits, Ideal.ieee, -EReal.coe_mul] <;> norm_num
  have h1 : Ideal.ofBits .f32 0x40800000#32 = ((4 : ℝ) : EReal) := by
    simp [Ideal.ofBits, Ideal.ieee, -EReal.coe_mul] <;> norm_num
  have h2 : Ideal.ofBits .f32 0x41800000#32 = ((16 : ℝ) : EReal) := by
    simp [Ideal.ofBits, Ideal.ieee, -EReal.coe_mul] <;> norm_num
  intro g
  fin_cases g
  · exact h0.trans (by norm_num [stride])
  · exact h1.trans (by norm_num [stride])
  · exact h2.trans (by norm_num [stride])

/-- A power of two of a score is the exponential of the reference's. -/
theorem power_eq (d s : ℝ) (D n T J : ℕ) (hJ : J + n * D = T) :
    Ideal.exp2 ((d : EReal) + ((((0 : ℝ) : EReal) - (s : EReal) * (((Real.log 2)⁻¹ : ℝ) : EReal)) * ((D : ℝ) : EReal)) * ((n : ℝ) : EReal))
      = Ideal.exp ((d : EReal) * ((Real.log 2 : ℝ) : EReal) - (s : EReal) * (((T : ℝ) : EReal) - ((J : ℝ) : EReal))) := by
  simp only [← EReal.coe_mul, ← EReal.coe_sub, ← EReal.coe_add]
  rw [Ideal.exp2_coe, Ideal.exp_coe]
  refine congrArg (fun r : ℝ => (r : EReal)) ?_
  show (2 : ℝ) ^ (_ : ℝ) = Real.exp _
  rw [Real.rpow_def_of_pos two_pos]
  refine congrArg Real.exp ?_
  have hl : Real.log 2 ≠ 0 := (Real.log_pos one_lt_two).ne'
  have hT : (T : ℝ) = J + n * D := by exact_mod_cast hJ.symm
  rw [hT]
  field_simp
  ring

section
variable (x : FVec Ideal Cert.DilatedIdeal.S2x8192x2048 .f32) (sl : FVec Ideal Cert.DilatedIdeal.S4 .f32) (b : Fin 2) (h : Fin 4) (g : Fin 3) (T : Fin 8192) (i : ℕ)
  (hx : ∀ (b : Fin 2) (t : Fin 8192) (n : Fin 2048), n.val < 1024 → IsReal (x (ValueIdx.ix3 b t n))) (hs : ∀ j : Fin 4, IsReal (sl (ValueIdx.ix1 j)))

include hx in
theorem isReal_dot (J : Fin 8192) :
    IsReal (∑ e : Fin 128, x (ValueIdx.ix3 b T (Cert.DilatedIdeal.Own.col 0 h e)) * x (ValueIdx.ix3 b J (Cert.DilatedIdeal.Own.col 1 h e))) := by
  refine IsReal.sum _ _ fun e => (hx _ _ _ ?_).mul (hx _ _ _ ?_)
  · show 0 * 512 + h.val * 128 + e.val < 1024
    have := h.isLt; omega
  · show 1 * 512 + h.val * 128 + e.val < 1024
    have := h.isLt; omega

theorem dot_eq (J : Fin 8192) :
    (∑ e : Fin 128, x (ValueIdx.ix3 b T (Cert.DilatedIdeal.Own.col 0 h e)) * x (ValueIdx.ix3 b J (Cert.DilatedIdeal.Own.col 1 h e)))
      = ∑ e : Fin 128, x (ValueIdx.ix3 b T (Cert.DilatedRefIdeal.Own.query h e)) * x (ValueIdx.ix3 b J (Cert.DilatedRefIdeal.Own.col 512 (by decide) h e)) := by
  refine Finset.sum_congr rfl fun e _ => ?_
  have e0 : Cert.DilatedIdeal.Own.col 0 h e = Cert.DilatedRefIdeal.Own.query h e := Fin.ext (by show 0 * 512 + h.val * 128 + e.val = h.val * 128 + e.val; omega)
  have e1 : Cert.DilatedIdeal.Own.col 1 h e = Cert.DilatedRefIdeal.Own.col 512 (by decide) h e := Fin.ext (by show 1 * 512 + h.val * 128 + e.val = 512 + (h.val * 128 + e.val); omega)
  rw [e0, e1]

theorem keyAt_eq {k : Fin 256} (hh : Held (stride g) T.val i k.val) : (keyAt (stride g) T.val i k.val).val + (i + 128 - k.val) * stride g = T.val := by
  have h3 := hh.2.2
  have hT := T.isLt
  show (T.val - (i + 128 - k.val) * stride g) % 8192 + (i + 128 - k.val) * stride g = T.val
  generalize (i + 128 - k.val) * stride g = P at *
  omega

include hx hs in
theorem score_held {k : Fin 256} (hh : Held (stride g) T.val i k.val) :
    IsReal (score x sl b h g T i k) ∧ Ideal.exp2 (score x sl b h g T i k) = Ideal.exp (exponent x sl b h T (keyAt (stride g) T.val i k.val)) := by
  obtain ⟨d, hd⟩ := isReal_dot x b h T hx (keyAt (stride g) T.val i k.val)
  obtain ⟨s, hs⟩ := hs h
  have hd' := (dot_eq x b h T (keyAt (stride g) T.val i k.val)).symm.trans hd
  have hn : (((i : ℤ) + 128 - (k.val : ℤ) : ℤ) : ℝ) = ((i + 128 - k.val : ℕ) : ℝ) := by
    have := hh.1
    push_cast [Nat.cast_sub this]
    ring
  unfold score exponent Cert.DilatedIdeal.Own.pen
  rw [if_pos hh, hd, hd', hs, zero_bits, bits_eq, hn]
  refine ⟨?_, power_eq d s (stride g) _ T.val _ (keyAt_eq g T i hh)⟩
  simp only [← EReal.coe_mul, ← EReal.coe_sub, ← EReal.coe_add]
  exact ⟨_, rfl⟩

include hx hs in
theorem isScore (k : Fin 256) : IsScore (score x sl b h g T i k) := by
  by_cases hh : Held (stride g) T.val i k.val
  · exact .inr (score_held x sl b h g T i hx hs hh).1
  · exact .inl (if_neg hh)

include hx hs in
theorem isReal_own (hi : i < 128) : IsReal (score x sl b h g T i ⟨i + 128, by omega⟩) :=
  (score_held x sl b h g T i hx hs (k := ⟨i + 128, by omega⟩) ⟨le_rfl, Nat.le_add_right _ _, by
    show (i + 128 - (i + 128)) * stride g ≤ T.val
    rw [Nat.sub_self, Nat.zero_mul]; exact Nat.zero_le _⟩).1

include hx hs in
theorem sum_eq (hi : i < 128) : (∑ k : Fin 256, Ideal.exp2 (score x sl b h g T i k)) = seenSum T (stride g) fun j => Ideal.exp (exponent x sl b h T j) := by
  refine Eq.trans (Finset.sum_congr rfl fun k _ => ?_)
    (sum_held (Cert.DilatedIdeal.Own.stride_pos' g) T i hi (fun j => Ideal.exp (exponent x sl b h T j)) (fun k => keyAt (stride g) T.val i k.val) fun k hk => keyAt_eq g T i hk)
  by_cases hh : Held (stride g) T.val i k.val
  · rw [if_pos hh]; exact (score_held x sl b h g T i hx hs hh).2
  · rw [if_neg hh, show score x sl b h g T i k = ⊥ from if_neg hh, Ideal.exp2_bot]

include hx hs in
theorem sumV_eq (hi : i < 128) (l : Fin 128) :
    (∑ k : Fin 256, Ideal.exp2 (score x sl b h g T i k) * x (ValueIdx.ix3 b (keyAt (stride g) T.val i k.val) (Cert.DilatedIdeal.Own.col 2 h l)))
      = seenSum T (stride g) fun j => Ideal.exp (exponent x sl b h T j) * x (ValueIdx.ix3 b j (Cert.DilatedRefIdeal.Own.col 1024 (by decide) h l)) := by
  have e2 : Cert.DilatedIdeal.Own.col 2 h l = Cert.DilatedRefIdeal.Own.col 1024 (by decide) h l := Fin.ext (by show 2 * 512 + h.val * 128 + l.val = 1024 + (h.val * 128 + l.val); omega)
  rw [e2]
  refine Eq.trans (Finset.sum_congr rfl fun k _ => ?_)
    (sum_held (Cert.DilatedIdeal.Own.stride_pos' g) T i hi (fun j => Ideal.exp (exponent x sl b h T j) * x (ValueIdx.ix3 b j (Cert.DilatedRefIdeal.Own.col 1024 (by decide) h l)))
      (fun k => keyAt (stride g) T.val i k.val) fun k hk => keyAt_eq g T i hk)
  by_cases hh : Held (stride g) T.val i k.val
  · rw [if_pos hh, (score_held x sl b h g T i hx hs hh).2]
  · rw [if_neg hh, show score x sl b h g T i k = ⊥ from if_neg hh, Ideal.exp2_bot, zero_mul]

end

theorem equal : Cert.algebraic_DilatedIdeal_DilatedRefIdeal_pre_dilated_finite := fun m g m' g' hp hargs => by
  refine ⟨fun c => (Cert.DilatedIdeal.Gen.dats m 0 c).arrAt 6 Cert.DilatedIdeal.cfg0.N, ?_, ?_⟩
  · exact Cert.DilatedIdeal.Value.run_blocks m g
  · refine (θ_run _ _ _).mono (fun _ hr c => ⟨((hr c).1).trans ?_, (hr c).2⟩) (Cert.DilatedRefIdeal.Value.run m' g')
    obtain rfl : c = 0 := Subsingleton.elim _ _
    obtain ⟨h0, h1⟩ := hargs 0
    refine (Cert.DilatedRefIdeal.Own.result_eq m' 0).trans ?_
    rw [h0, h1]
    obtain ⟨hx, hs⟩ := finite (hp 0)
    have hi : ∀ (g : Fin 3) (r : ℕ), place g r < 128 := fun g r => Nat.mod_lt _ (by decide)
    refine (Cert.DilatedIdeal.Own.final m 0 _ (fun t g r => ?_) (fun t r l => ?_)).symm
    · exact isReal_of_some (sc m 0 t g r) (fun k => isScore _ _ _ _ _ _ _ hx hs k) _ (isReal_own _ _ _ _ _ _ _ hx hs (hi g r.val))
    · refine (merged (sc m 0 t 0 r) (sc m 0 t 1 r) (sc m 0 t 2 r) (Cert.DilatedIdeal.Own.val m 0 t 0 r l) (Cert.DilatedIdeal.Own.val m 0 t 1 r l) (Cert.DilatedIdeal.Own.val m 0 t 2 r l)
        (fun k => isScore _ _ _ _ _ _ _ hx hs k) (fun k => isScore _ _ _ _ _ _ _ hx hs k) (fun k => isScore _ _ _ _ _ _ _ hx hs k) _ _ _
        (isReal_own _ _ _ _ _ _ _ hx hs (hi 0 r.val)) (isReal_own _ _ _ _ _ _ _ hx hs (hi 1 r.val)) (isReal_own _ _ _ _ _ _ _ hx hs (hi 2 r.val)) rfl rfl rfl).trans ?_
      refine Eq.trans ?_ (Cert.DilatedRefIdeal.Own.result_apply _ _ (batch t) (head t) (rowOf t r) l).symm
      exact congrArg₂ Ideal.div
        (congrArg₂ (fun a b : EReal => a + b) (congrArg₂ (fun a b : EReal => a + b) (sumV_eq _ _ _ _ 0 _ _ hx hs (hi 0 r.val) l) (sumV_eq _ _ _ _ 1 _ _ hx hs (hi 1 r.val) l))
          (sumV_eq _ _ _ _ 2 _ _ hx hs (hi 2 r.val) l))
        (congrArg₂ (fun a b : EReal => a + b) (congrArg₂ (fun a b : EReal => a + b) (sum_eq _ _ _ _ 0 _ _ hx hs (hi 0 r.val)) (sum_eq _ _ _ _ 1 _ _ hx hs (hi 1 r.val)))
          (sum_eq _ _ _ _ 2 _ _ hx hs (hi 2 r.val)))

end Cert.Dilates

end
-- ==== Proof.lean ====
/- The certificate: the runs and frames of the ten kernels, and their results against the references. -/
module

public import proofs.«01_k».proof.Defs
public import proofs.«01_k».proof.Proof.Gen.Expert
public import proofs.«01_k».proof.Proof.Gen.ExpertIdeal
public import proofs.«01_k».proof.Proof.Gen.ExpertRefIdeal
public import proofs.«01_k».proof.Proof.Gen.ExpertRefIdeal.Run
public import proofs.«01_k».proof.Proof.Gen.Pre_experts_named
public import proofs.«01_k».proof.Proof.ExpertClaims
public import proofs.«01_k».proof.Proof.InProjClaims
public import proofs.«01_k».proof.Proof.InRestClaims
public import proofs.«01_k».proof.Proof.OutProjClaims
public import proofs.«01_k».proof.Proof.CrossClaims
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.InRest
public import proofs.«01_k».proof.Proof.Gen.InRest.Frame
public import proofs.«01_k».proof.Proof.Gen.InRestIdeal
public import proofs.«01_k».proof.Proof.Gen.InRestIdeal.Value
public import proofs.«01_k».proof.Proof.Gen.InRestRefIdeal
public import proofs.«01_k».proof.Proof.Gen.InRestRefIdeal.Run
public import proofs.«01_k».proof.Proof.Gen.KvProj
public import proofs.«01_k».proof.Proof.Gen.KvProj.Frame
public import proofs.«01_k».proof.Proof.Gen.KvProjIdeal
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Value
public import proofs.«01_k».proof.Proof.Gen.PoolRefIdeal
public import proofs.«01_k».proof.Proof.Gen.PoolRefIdeal.Run
public import proofs.«01_k».proof.Proof.Gen.Cross
public import proofs.«01_k».proof.Proof.Gen.Cross.Frame
public import proofs.«01_k».proof.Proof.Gen.CrossIdeal
public import proofs.«01_k».proof.Proof.Gen.CrossIdeal.Value
public import proofs.«01_k».proof.Proof.Gen.CrossRefIdeal
public import proofs.«01_k».proof.Proof.Gen.CrossRefIdeal.Run
public import proofs.«01_k».proof.Proof.Gen.Pre_cross_finite
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.KvProjClaims
public import proofs.«01_k».proof.Proof.PoolClaims
public import proofs.«01_k».proof.Proof.Gen.Router
public import proofs.«01_k».proof.Proof.Gen.Router.Frame
public import proofs.«01_k».proof.Proof.Gen.RouterIdeal
public import proofs.«01_k».proof.Proof.Gen.RouterIdeal.Value
public import proofs.«01_k».proof.Proof.Gen.RouterRefIdeal
public import proofs.«01_k».proof.Proof.Gen.RouterRefIdeal.Run
public import proofs.«01_k».proof.Proof.Gen.Pre_router_finite
public import proofs.«01_k».proof.Proof.RouterClaims
public import proofs.«01_k».proof.Proof.Gen.Positions
public import proofs.«01_k».proof.Proof.Gen.Positions.Frame
public import proofs.«01_k».proof.Proof.Gen.PositionsIdeal
public import proofs.«01_k».proof.Proof.Gen.PositionsIdeal.Value
public import proofs.«01_k».proof.Proof.Gen.PositionsRefIdeal
public import proofs.«01_k».proof.Proof.Gen.PositionsRefIdeal.Run
public import proofs.«01_k».proof.Proof.PositionsClaims
public import proofs.«01_k».proof.Proof.Gen.Dilated
public import proofs.«01_k».proof.Proof.Gen.Dilated.Frame
public import proofs.«01_k».proof.Proof.Gen.DilatedIdeal
public import proofs.«01_k».proof.Proof.Gen.DilatedIdeal.Value
public import proofs.«01_k».proof.Proof.Gen.DilatedRefIdeal
public import proofs.«01_k».proof.Proof.Gen.DilatedRefIdeal.Run
public import proofs.«01_k».proof.Proof.Gen.Pre_dilated_finite
public import proofs.«01_k».proof.Proof.DilatedClaims
public import Idealize.ShloMosaic.Adequacy
public import Idealize.ShloMosaic.Init

@[expose] public section

noncomputable section

namespace Cert.Proof

open Idealize.ShloMosaic Idealize.SL.Sem

theorem claim : Cert.Claim :=
  ⟨Cert.Expert.Gen.facts, Cert.ExpertIdeal.Gen.facts, Cert.ExpertRefIdeal.Gen.facts,
    Cert.InProj.Gen.facts, Cert.InProjIdeal.Gen.facts, Cert.InProjRefIdeal.Gen.facts,
    Cert.InRest.Gen.facts, Cert.InRestIdeal.Gen.facts, Cert.InRestRefIdeal.Gen.facts,
    Cert.OutProj.Gen.facts, Cert.OutProjIdeal.Gen.facts, Cert.OutProjRefIdeal.Gen.facts,
    Cert.Cross.Gen.facts, Cert.CrossIdeal.Gen.facts, Cert.CrossRefIdeal.Gen.facts,
    Cert.KvProj.Gen.facts, Cert.KvProjIdeal.Gen.facts, Cert.KvProjRefIdeal.Gen.facts,
    Cert.Pool.Gen.facts, Cert.PoolIdeal.Gen.facts, Cert.PoolRefIdeal.Gen.facts,
    Cert.Router.Gen.facts, Cert.RouterIdeal.Gen.facts, Cert.RouterRefIdeal.Gen.facts,
    Cert.Positions.Gen.facts, Cert.PositionsIdeal.Gen.facts, Cert.PositionsRefIdeal.Gen.facts,
    Cert.Dilated.Gen.facts, Cert.DilatedIdeal.Gen.facts, Cert.DilatedRefIdeal.Gen.facts,
    Cert.Pre_experts_named.Gen.facts, Cert.Pre_cross_finite.Gen.facts, Cert.Pre_router_finite.Gen.facts, Cert.Pre_dilated_finite.Gen.facts,
    Cert.Experts.frame_kernel, Cert.Experts.frame_ideal, Cert.Experts.frame_reference,
    fun m ρ _ => Cert.Experts.frame_reference m ρ trivial,
    fun m ρ _ => Cert.InProj.Gen.frame m ρ, fun m ρ _ => Cert.InProjIdeal.Gen.frame m ρ, Cert.InProjs.frame_reference,
    fun m ρ _ => Cert.InRest.Gen.frame m ρ, fun m ρ _ => Cert.InRestIdeal.Gen.frame m ρ, Cert.InRests.frame_reference,
    fun m ρ _ => Cert.OutProj.Gen.frame m ρ, fun m ρ _ => Cert.OutProjIdeal.Gen.frame m ρ, Cert.OutProjs.frame_reference,
    fun m ρ _ => Cert.Cross.Gen.frame m ρ, fun m ρ _ => Cert.CrossIdeal.Gen.frame m ρ, fun m ρ _ => Cert.CrossIdeal.Gen.frame m ρ,
    Cert.Crosses.frame_reference, fun m ρ _ => Cert.Crosses.frame_reference m ρ trivial,
    fun m ρ _ => Cert.KvProj.Gen.frame m ρ, fun m ρ _ => Cert.KvProjIdeal.Gen.frame m ρ, Cert.KvProjs.frame_reference,
    fun m ρ _ => Cert.Pool.Gen.frame m ρ, fun m ρ _ => Cert.PoolIdeal.Gen.frame m ρ, Cert.Pools.frame_reference,
    fun m ρ _ => Cert.Router.Gen.frame m ρ, fun m ρ _ => Cert.RouterIdeal.Gen.frame m ρ, fun m ρ _ => Cert.RouterIdeal.Gen.frame m ρ,
    Cert.Routers.frame_reference, fun m ρ _ => Cert.Routers.frame_reference m ρ trivial,
    fun m ρ _ => Cert.Positions.Gen.frame m ρ, fun m ρ _ => Cert.PositionsIdeal.Gen.frame m ρ, Cert.PositionsClaims.frame_reference,
    fun m ρ _ => Cert.Dilated.Gen.frame m ρ, fun m ρ _ => Cert.DilatedIdeal.Gen.frame m ρ, fun m ρ _ => Cert.DilatedIdeal.Gen.frame m ρ,
    Cert.Dilates.frame_reference, fun m ρ _ => Cert.Dilates.frame_reference m ρ trivial,
    trivial, Cert.Experts.equal, trivial, Cert.InProjs.equal, trivial, Cert.InRests.equal, trivial, Cert.OutProjs.equal,
    trivial, Cert.Crosses.equal,
    trivial, Cert.KvProjs.equal, trivial, Cert.Pools.equal, trivial, Cert.Routers.equal, trivial, Cert.PositionsClaims.equal,
    ⟨IdealRules.named_const.statement Cert.DilatedIdeal.κ "log2e" .f32 0x3FB8AA3B#32 (((Real.log 2)⁻¹ : ℝ) : EReal) rfl,
      IdealRules.named_const.statement Cert.DilatedIdeal.κ "mask" .f32 0xF1800000#32 ⊥ rfl⟩, Cert.Dilates.equal⟩

end Cert.Proof

end
